-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v0) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2)) (v1 : (c : Dev Cert.Kernel3Ideal.nD) → Buf (Elt Ideal) ((c.tc : Thread Cert.Kernel3Ideal.nD Cert.Kernel3Ideal.τ).loc Cert.Kernel3Ideal.main_v1_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_v8) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v8_0)) (v1 : (c : Dev Cert.Kernel5Ideal.nD) → Buf (Elt Ideal) ((c.tc : Thread Cert.Kernel5Ideal.nD Cert.Kernel5Ideal.τ).loc Cert.Kernel5Ideal.main_v8_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8_0) = v0 c
          ∧ r.2.mem ((c.tc : Thread Cert.Kernel5Ideal.nD Cert.Kernel5Ideal.τ).loc Cert.Kernel5Ideal.main_v8_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v29) = v0 c
          ∧ r.2.mem ((c.tc : Thread Cert.Reference5Ideal.nD Cert.Reference5Ideal.τ).loc Cert.Reference5Ideal.main_v31) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v2)) (v1 : (c : Dev Cert.Kernel6Ideal.nD) → Buf (Elt Ideal) ((c.tc : Thread Cert.Kernel6Ideal.nD Cert.Kernel6Ideal.τ).loc Cert.Kernel6Ideal.main_v1_1)) (v2 : (c : Dev Cert.Kernel6Ideal.nD) → Buf (Elt Ideal) ((c.tc : Thread Cert.Kernel6Ideal.nD Cert.Kernel6Ideal.τ).loc Cert.Kernel6Ideal.main_v1_2)) (v3 : (c : Dev Cert.Kernel6Ideal.nD) → Buf (Elt Ideal) ((c.tc : Thread Cert.Kernel6Ideal.nD Cert.Kernel6Ideal.τ).loc Cert.Kernel6Ideal.main_v1_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_v1_2) = v2 c
          ∧ r.2.mem ((c.tc : Thread Cert.Kernel6Ideal.nD Cert.Kernel6Ideal.τ).loc Cert.Kernel6Ideal.main_v1_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_v8) = v1 c
          ∧ r.2.mem ((c.tc : Thread Cert.Reference6Ideal.nD Cert.Reference6Ideal.τ).loc Cert.Reference6Ideal.main_v9) = v2 c
          ∧ r.2.mem ((c.tc : Thread Cert.Reference6Ideal.nD Cert.Reference6Ideal.τ).loc Cert.Reference6Ideal.main_v11) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_inputs.lean ====
abbrev S4x2048x16x128 : Shape := ⟨4, ![4, 2048, 16, 128]⟩
abbrev S4x2048x4x128 : Shape := ⟨4, ![4, 2048, 4, 128]⟩
abbrev S16 : Shape := ⟨1, ![16]⟩
abbrev S_ : Shape := ⟨0, ![]⟩

class Facts : Prop where
  bcast_S_S4x2048x16x128 : S_.BroadcastsInDim S4x2048x16x128 (![] : Fin 0 → Fin S4x2048x16x128.rank)
  bcast_S_S4x2048x4x128 : S_.BroadcastsInDim S4x2048x4x128 (![] : Fin 0 → Fin S4x2048x4x128.rank)
  bcast_S_S16 : S_.BroadcastsInDim S16 (![] : Fin 0 → Fin S16.rank)

variable [Facts]

def fn {F : FTy → Type} [FloatOps F] (main_arg0 : FVec F S4x2048x16x128 .f32) (main_arg1 : FVec F S4x2048x4x128 .f32) (main_arg2 : FVec F S4x2048x4x128 .f32) (main_arg3 : FVec F S16 .f32) : IVec S4x2048x16x128 1 × IVec S4x2048x4x128 1 × IVec S16 1 :=
  let main_cst : FVec F S_ .f32 := constant S_ .f32 0x7F800000#32
  let main_v0 : FVec F S4x2048x16x128 .f32 := broadcastInDim S4x2048x16x128 ![] bcast_S_S4x2048x16x128 main_cst
  let main_v1 : IVec S4x2048x16x128 1 := cmpf .olt main_arg0 main_v0
  let main_cst_0 : FVec F S_ .f32 := constant S_ .f32 0xFF800000#32
  let main_v2 : FVec F S4x2048x16x128 .f32 := broadcastInDim S4x2048x16x128 ![] bcast_S_S4x2048x16x128 main_cst_0
  let main_v3 : IVec S4x2048x16x128 1 := cmpf .ogt main_arg0 main_v2
  let main_v4 : IVec S4x2048x16x128 1 := andi main_v1 main_v3
  let main_cst_1 : FVec F S_ .f32 := constant S_ .f32 0x7F800000#32
  let main_v5 : FVec F S4x2048x4x128 .f32 := broadcastInDim S4x2048x4x128 ![] bcast_S_S4x2048x4x128 main_cst_1
  let main_v6 : IVec S4x2048x4x128 1 := cmpf .olt main_arg1 main_v5
  let main_cst_2 : FVec F S_ .f32 := constant S_ .f32 0xFF800000#32
  let main_v7 : FVec F S4x2048x4x128 .f32 := broadcastInDim S4x2048x4x128 ![] bcast_S_S4x2048x4x128 main_cst_2
  let main_v8 : IVec S4x2048x4x128 1 := cmpf .ogt main_arg1 main_v7
  let main_v9 : IVec S4x2048x4x128 1 := andi main_v6 main_v8
  let main_cst_3 : FVec F S_ .f32 := constant S_ .f32 0x7F800000#32
  let main_v10 : FVec F S16 .f32 := broadcastInDim S16 ![] bcast_S_S16 main_cst_3
  let main_v11 : IVec S16 1 := cmpf .olt main_arg3 main_v10
  let main_cst_4 : FVec F S_ .f32 := constant S_ .f32 0xFF800000#32
  let main_v12 : FVec F S16 .f32 := broadcastInDim S16 ![] bcast_S_S16 main_cst_4
  let main_v13 : IVec S16 1 := cmpf .ogt main_arg3 main_v12
  let main_v14 : IVec S16 1 := andi main_v11 main_v13
  (main_v4, main_v9, main_v14)
-- ==== Kernel.lean ====
abbrev S4x2048x16x128 : Shape := ⟨4, ![4, 2048, 16, 128]⟩
abbrev S4x2048x4x128 : Shape := ⟨4, ![4, 2048, 4, 128]⟩
abbrev S16 : Shape := ⟨1, ![16]⟩
abbrev S_ : Shape := ⟨0, ![]⟩
abbrev S8192x2048 : Shape := ⟨2, ![8192, 2048]⟩
abbrev S8192x512 : Shape := ⟨2, ![8192, 512]⟩
abbrev S8192x3072 : Shape := ⟨2, ![8192, 3072]⟩
abbrev S2048x512 : Shape := ⟨2, ![2048, 512]⟩
abbrev S2048x128 : Shape := ⟨2, ![2048, 128]⟩
abbrev S2x256x128 : Shape := ⟨3, ![2, 256, 128]⟩
abbrev S256x128 : Shape := ⟨2, ![256, 128]⟩
abbrev S1x256x128 : Shape := ⟨3, ![1, 256, 128]⟩
abbrev S1 : Shape := ⟨1, ![1]⟩
abbrev S1x128 : Shape := ⟨2, ![1, 128]⟩
abbrev S128x128 : Shape := ⟨2, ![128, 128]⟩
abbrev S128 : Shape := ⟨1, ![128]⟩

abbrev nBuf : Space → Nat
  | .hbm => 13
  | .vmem => 9
  | .smem => 1
  | _ => 0

abbrev bufTy : (tb : Table) → Fin (tcTables nBuf tb) → BufTy
  | .hbm, ⟨0, _⟩ => ⟨S4x2048x16x128, .f32⟩
  | .hbm, ⟨1, _⟩ => ⟨S4x2048x4x128, .f32⟩
  | .hbm, ⟨2, _⟩ => ⟨S4x2048x4x128, .f32⟩
  | .hbm, ⟨3, _⟩ => ⟨S16, .f32⟩
  | .hbm, ⟨4, _⟩ => ⟨S_, .f32⟩
  | .hbm, ⟨5, _⟩ => ⟨S4x2048x16x128, .f32⟩
  | .hbm, ⟨6, _⟩ => ⟨S4x2048x16x128, .f32⟩
  | .hbm, ⟨7, _⟩ => ⟨S8192x2048, .f32⟩
  | .hbm, ⟨8, _⟩ => ⟨S8192x512, .f32⟩
  | .hbm, ⟨9, _⟩ => ⟨S8192x512, .f32⟩
  | .hbm, ⟨10, _⟩ => ⟨S8192x3072, .f32⟩
  | .hbm, ⟨11, _⟩ => ⟨S8192x3072, .bf16⟩
  | .hbm, ⟨12, _⟩ => ⟨S8192x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x512, .bf16⟩
  | .local _ .vmem, ⟨7, _⟩ => ⟨S2048x512, .bf16⟩
  | .local _ .vmem, ⟨8, _⟩ => ⟨S2x256x128, .f32⟩
  | .local _ .smem, ⟨0, _⟩ => ⟨S16, .f32⟩
  | _, _ => ⟨S4x2048x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 4], ![false, false]⟩

def k0_off1 (i : grid0.Coords) (c0_i32 : BitVec 32) : Fin 1 → Nat :=
  let arg1 : BitVec 32 := BitVec.ofNat 32 (i 1).val
  let c4_i32 : BitVec 32 := 4#32
  let v25 : BitVec 32 := Scalar.muli arg1 c4_i32
  let v26 : BitVec 32 := Scalar.addi v25 c0_i32
  let v27 : Index := Scalar.indexCast v26
  ![v27.toNat]
def k0_mult1 : BitVec 32 :=
  let c0_i32_12 : BitVec 32 := 0#32
  let c128_i32_13 : BitVec 32 := 128#32
  let v45 : BitVec 32 := Scalar.muli c0_i32_12 c128_i32_13
  v45
def k0_mult2 : BitVec 32 :=
  let c0_i32_12 : BitVec 32 := 0#32
  let c1_i32_14 : BitVec 32 := 1#32
  let v47 : BitVec 32 := Scalar.subi c0_i32_12 c1_i32_14
  let c0_i32_15 : BitVec 32 := 0#32
  let v48 : BitVec 32 := Scalar.maxsi v47 c0_i32_15
  let c128_i32_16 : BitVec 32 := 128#32
  let v49 : BitVec 32 := Scalar.muli v48 c128_i32_16
  v49
def k0_off2 (c0_i32_12 : BitVec 32) : Fin 2 → Nat :=
  let c1_i32_14 : BitVec 32 := 1#32
  let v47 : BitVec 32 := Scalar.subi c0_i32_12 c1_i32_14
  let c0_i32_15 : BitVec 32 := 0#32
  let v48 : BitVec 32 := Scalar.maxsi v47 c0_i32_15
  let c128_i32_16 : BitVec 32 := 128#32
  let v49 : BitVec 32 := Scalar.muli v48 c128_i32_16
  let v50 : BitVec 32 := v49
  let v51 : Index := Scalar.indexCast v50
  let c0_17 : Index := 0#32
  ![v51.toNat, 0]
def k0_off3 (c0_i32_12 : BitVec 32) : Fin 2 → Nat :=
  let c128_i32_13 : BitVec 32 := 128#32
  let v45 : BitVec 32 := Scalar.muli c0_i32_12 c128_i32_13
  let v46 : BitVec 32 := v45
  let v54 : Index := Scalar.indexCast v46
  let c0_18 : Index := 0#32
  ![v54.toNat, 0]
def k0_off4 (c0_i32_12 : BitVec 32) : Fin 3 → Nat :=
  let c1_i32_21 : BitVec 32 := 1#32
  let v65 : BitVec 32 := Scalar.minsi c0_i32_12 c1_i32_21
  let v66 : Index := Scalar.indexCast v65
  let c0_22 : Index := 0#32
  let c0_23 : Index := 0#32
  ![v66.toNat, 0, 0]
def k0_off5 (c0_i32_12 : BitVec 32) : Fin 2 → Nat :=
  let c128_i32_13 : BitVec 32 := 128#32
  let v45 : BitVec 32 := Scalar.muli c0_i32_12 c128_i32_13
  let v46 : BitVec 32 := v45
  let v69 : Index := Scalar.indexCast v46
  let c0_24 : Index := 0#32
  ![v69.toNat, 0]
def k0_off6 (c0_i32_12 : BitVec 32) : Fin 2 → Nat :=
  let c128_i32_13 : BitVec 32 := 128#32
  let v45 : BitVec 32 := Scalar.muli c0_i32_12 c128_i32_13
  let v46 : BitVec 32 := v45
  let v94 : Index := Scalar.indexCast v46
  let c128 : Index := 128#32
  ![v94.toNat, 128]
def k0_off7 (c0_i32_12 : BitVec 32) : Fin 2 → Nat :=
  let c128_i32_13 : BitVec 32 := 128#32
  let v45 : BitVec 32 := Scalar.muli c0_i32_12 c128_i32_13
  let v46 : BitVec 32 := v45
  let v119 : Index := Scalar.indexCast v46
  let c256 : Index := 256#32
  ![v119.toNat, 256]
def k0_off8 (c0_i32_12 : BitVec 32) : Fin 2 → Nat :=
  let c128_i32_13 : BitVec 32 := 128#32
  let v45 : BitVec 32 := Scalar.muli c0_i32_12 c128_i32_13
  let v46 : BitVec 32 := v45
  let v144 : Index := Scalar.indexCast v46
  let c384 : Index := 384#32
  ![v144.toNat, 384]
def k0_mult3 : BitVec 32 :=
  let c1_i32_49 : BitVec 32 := 1#32
  let c128_i32_50 : BitVec 32 := 128#32
  let v169 : BitVec 32 := Scalar.muli c1_i32_49 c128_i32_50
  v169
def k0_mult4 : BitVec 32 :=
  let c1_i32_49 : BitVec 32 := 1#32
  let c1_i32_51 : BitVec 32 := 1#32
  let v171 : BitVec 32 := Scalar.subi c1_i32_49 c1_i32_51
  let c0_i32_52 : BitVec 32 := 0#32
  let v172 : BitVec 32 := Scalar.maxsi v171 c0_i32_52
  let c128_i32_53 : BitVec 32 := 128#32
  let v173 : BitVec 32 := Scalar.muli v172 c128_i32_53
  v173
def k0_mult5 : BitVec 32 :=
  let c2_i32_89 : BitVec 32 := 2#32
  let c128_i32_90 : BitVec 32 := 128#32
  let v293 : BitVec 32 := Scalar.muli c2_i32_89 c128_i32_90
  v293
def k0_mult6 : BitVec 32 :=
  let c2_i32_89 : BitVec 32 := 2#32
  let c1_i32_91 : BitVec 32 := 1#32
  let v295 : BitVec 32 := Scalar.subi c2_i32_89 c1_i32_91
  let c0_i32_92 : BitVec 32 := 0#32
  let v296 : BitVec 32 := Scalar.maxsi v295 c0_i32_92
  let c128_i32_93 : BitVec 32 := 128#32
  let v297 : BitVec 32 := Scalar.muli v296 c128_i32_93
  v297
def k0_mult7 : BitVec 32 :=
  let c3_i32_129 : BitVec 32 := 3#32
  let c128_i32_130 : BitVec 32 := 128#32
  let v417 : BitVec 32 := Scalar.muli c3_i32_129 c128_i32_130
  v417
def k0_mult8 : BitVec 32 :=
  let c3_i32_129 : BitVec 32 := 3#32
  let c1_i32_131 : BitVec 32 := 1#32
  let v419 : BitVec 32 := Scalar.subi c3_i32_129 c1_i32_131
  let c0_i32_132 : BitVec 32 := 0#32
  let v420 : BitVec 32 := Scalar.maxsi v419 c0_i32_132
  let c128_i32_133 : BitVec 32 := 128#32
  let v421 : BitVec 32 := Scalar.muli v420 c128_i32_133
  v421
def k0_mult9 : BitVec 32 :=
  let c4_i32_169 : BitVec 32 := 4#32
  let c128_i32_170 : BitVec 32 := 128#32
  let v541 : BitVec 32 := Scalar.muli c4_i32_169 c128_i32_170
  v541
def k0_mult10 : BitVec 32 :=
  let c4_i32_169 : BitVec 32 := 4#32
  let c1_i32_171 : BitVec 32 := 1#32
  let v543 : BitVec 32 := Scalar.subi c4_i32_169 c1_i32_171
  let c0_i32_172 : BitVec 32 := 0#32
  let v544 : BitVec 32 := Scalar.maxsi v543 c0_i32_172
  let c128_i32_173 : BitVec 32 := 128#32
  let v545 : BitVec 32 := Scalar.muli v544 c128_i32_173
  v545
def k0_mult11 : BitVec 32 :=
  let c5_i32 : BitVec 32 := 5#32
  let c128_i32_209 : BitVec 32 := 128#32
  let v665 : BitVec 32 := Scalar.muli c5_i32 c128_i32_209
  v665
def k0_mult12 : BitVec 32 :=
  let c5_i32 : BitVec 32 := 5#32
  let c1_i32_210 : BitVec 32 := 1#32
  let v667 : BitVec 32 := Scalar.subi c5_i32 c1_i32_210
  let c0_i32_211 : BitVec 32 := 0#32
  let v668 : BitVec 32 := Scalar.maxsi v667 c0_i32_211
  let c128_i32_212 : BitVec 32 := 128#32
  let v669 : BitVec 32 := Scalar.muli v668 c128_i32_212
  v669
def k0_mult13 : BitVec 32 :=
  let c6_i32 : BitVec 32 := 6#32
  let c128_i32_248 : BitVec 32 := 128#32
  let v789 : BitVec 32 := Scalar.muli c6_i32 c128_i32_248
  v789
def k0_mult14 : BitVec 32 :=
  let c6_i32 : BitVec 32 := 6#32
  let c1_i32_249 : BitVec 32 := 1#32
  let v791 : BitVec 32 := Scalar.subi c6_i32 c1_i32_249
  let c0_i32_250 : BitVec 32 := 0#32
  let v792 : BitVec 32 := Scalar.maxsi v791 c0_i32_250
  let c128_i32_251 : BitVec 32 := 128#32
  let v793 : BitVec 32 := Scalar.muli v792 c128_i32_251
  v793
def k0_mult15 : BitVec 32 :=
  let c7_i32 : BitVec 32 := 7#32
  let c128_i32_287 : BitVec 32 := 128#32
  let v913 : BitVec 32 := Scalar.muli c7_i32 c128_i32_287
  v913
def k0_mult16 : BitVec 32 :=
  let c7_i32 : BitVec 32 := 7#32
  let c1_i32_288 : BitVec 32 := 1#32
  let v915 : BitVec 32 := Scalar.subi c7_i32 c1_i32_288
  let c0_i32_289 : BitVec 32 := 0#32
  let v916 : BitVec 32 := Scalar.maxsi v915 c0_i32_289
  let c128_i32_290 : BitVec 32 := 128#32
  let v917 : BitVec 32 := Scalar.muli v916 c128_i32_290
  v917
def k0_mult17 : BitVec 32 :=
  let c8_i32 : BitVec 32 := 8#32
  let c128_i32_326 : BitVec 32 := 128#32
  let v1037 : BitVec 32 := Scalar.muli c8_i32 c128_i32_326
  v1037
def k0_mult18 : BitVec 32 :=
  let c8_i32 : BitVec 32 := 8#32
  let c1_i32_327 : BitVec 32 := 1#32
  let v1039 : BitVec 32 := Scalar.subi c8_i32 c1_i32_327
  let c0_i32_328 : BitVec 32 := 0#32
  let v1040 : BitVec 32 := Scalar.maxsi v1039 c0_i32_328
  let c128_i32_329 : BitVec 32 := 128#32
  let v1041 : BitVec 32 := Scalar.muli v1040 c128_i32_329
  v1041
def k0_mult19 : BitVec 32 :=
  let c9_i32 : BitVec 32 := 9#32
  let c128_i32_365 : BitVec 32 := 128#32
  let v1161 : BitVec 32 := Scalar.muli c9_i32 c128_i32_365
  v1161
def k0_mult20 : BitVec 32 :=
  let c9_i32 : BitVec 32 := 9#32
  let c1_i32_366 : BitVec 32 := 1#32
  let v1163 : BitVec 32 := Scalar.subi c9_i32 c1_i32_366
  let c0_i32_367 : BitVec 32 := 0#32
  let v1164 : BitVec 32 := Scalar.maxsi v1163 c0_i32_367
  let c128_i32_368 : BitVec 32 := 128#32
  let v1165 : BitVec 32 := Scalar.muli v1164 c128_i32_368
  v1165
def k0_mult21 : BitVec 32 :=
  let c10_i32 : BitVec 32 := 10#32
  let c128_i32_404 : BitVec 32 := 128#32
  let v1285 : BitVec 32 := Scalar.muli c10_i32 c128_i32_404
  v1285
def k0_mult22 : BitVec 32 :=
  let c10_i32 : BitVec 32 := 10#32
  let c1_i32_405 : BitVec 32 := 1#32
  let v1287 : BitVec 32 := Scalar.subi c10_i32 c1_i32_405
  let c0_i32_406 : BitVec 32 := 0#32
  let v1288 : BitVec 32 := Scalar.maxsi v1287 c0_i32_406
  let c128_i32_407 : BitVec 32 := 128#32
  let v1289 : BitVec 32 := Scalar.muli v1288 c128_i32_407
  v1289
def k0_mult23 : BitVec 32 :=
  let c11_i32 : BitVec 32 := 11#32
  let c128_i32_443 : BitVec 32 := 128#32
  let v1409 : BitVec 32 := Scalar.muli c11_i32 c128_i32_443
  v1409
def k0_mult24 : BitVec 32 :=
  let c11_i32 : BitVec 32 := 11#32
  let c1_i32_444 : BitVec 32 := 1#32
  let v1411 : BitVec 32 := Scalar.subi c11_i32 c1_i32_444
  let c0_i32_445 : BitVec 32 := 0#32
  let v1412 : BitVec 32 := Scalar.maxsi v1411 c0_i32_445
  let c128_i32_446 : BitVec 32 := 128#32
  let v1413 : BitVec 32 := Scalar.muli v1412 c128_i32_446
  v1413
def k0_mult25 : BitVec 32 :=
  let c12_i32 : BitVec 32 := 12#32
  let c128_i32_482 : BitVec 32 := 128#32
  let v1533 : BitVec 32 := Scalar.muli c12_i32 c128_i32_482
  v1533
def k0_mult26 : BitVec 32 :=
  let c12_i32 : BitVec 32 := 12#32
  let c1_i32_483 : BitVec 32 := 1#32
  let v1535 : BitVec 32 := Scalar.subi c12_i32 c1_i32_483
  let c0_i32_484 : BitVec 32 := 0#32
  let v1536 : BitVec 32 := Scalar.maxsi v1535 c0_i32_484
  let c128_i32_485 : BitVec 32 := 128#32
  let v1537 : BitVec 32 := Scalar.muli v1536 c128_i32_485
  v1537
def k0_mult27 : BitVec 32 :=
  let c13_i32 : BitVec 32 := 13#32
  let c128_i32_521 : BitVec 32 := 128#32
  let v1657 : BitVec 32 := Scalar.muli c13_i32 c128_i32_521
  v1657
def k0_mult28 : BitVec 32 :=
  let c13_i32 : BitVec 32 := 13#32
  let c1_i32_522 : BitVec 32 := 1#32
  let v1659 : BitVec 32 := Scalar.subi c13_i32 c1_i32_522
  let c0_i32_523 : BitVec 32 := 0#32
  let v1660 : BitVec 32 := Scalar.maxsi v1659 c0_i32_523
  let c128_i32_524 : BitVec 32 := 128#32
  let v1661 : BitVec 32 := Scalar.muli v1660 c128_i32_524
  v1661
def k0_mult29 : BitVec 32 :=
  let c14_i32 : BitVec 32 := 14#32
  let c128_i32_560 : BitVec 32 := 128#32
  let v1781 : BitVec 32 := Scalar.muli c14_i32 c128_i32_560
  v1781
def k0_mult30 : BitVec 32 :=
  let c14_i32 : BitVec 32 := 14#32
  let c1_i32_561 : BitVec 32 := 1#32
  let v1783 : BitVec 32 := Scalar.subi c14_i32 c1_i32_561
  let c0_i32_562 : BitVec 32 := 0#32
  let v1784 : BitVec 32 := Scalar.maxsi v1783 c0_i32_562
  let c128_i32_563 : BitVec 32 := 128#32
  let v1785 : BitVec 32 := Scalar.muli v1784 c128_i32_563
  v1785
def k0_mult31 : BitVec 32 :=
  let c15_i32 : BitVec 32 := 15#32
  let c128_i32_599 : BitVec 32 := 128#32
  let v1905 : BitVec 32 := Scalar.muli c15_i32 c128_i32_599
  v1905
def k0_mult32 : BitVec 32 :=
  let c15_i32 : BitVec 32 := 15#32
  let c1_i32_600 : BitVec 32 := 1#32
  let v1907 : BitVec 32 := Scalar.subi c15_i32 c1_i32_600
  let c0_i32_601 : BitVec 32 := 0#32
  let v1908 : BitVec 32 := Scalar.maxsi v1907 c0_i32_601
  let c128_i32_602 : BitVec 32 := 128#32
  let v1909 : BitVec 32 := Scalar.muli v1908 c128_i32_602
  v1909
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4x2048x16x128 : Shape := ⟨4, ![4, 2048, 16, 128]⟩
abbrev S4x2048x4x128 : Shape := ⟨4, ![4, 2048, 4, 128]⟩
abbrev S16 : Shape := ⟨1, ![16]⟩
abbrev S4x16x128x4x4x128 : Shape := ⟨6, ![4, 16, 128, 4, 4, 128]⟩
abbrev S4x16x128x4x128 : Shape := ⟨5, ![4, 16, 128, 4, 128]⟩
abbrev S4x1x128x4x128 : Shape := ⟨5, ![4, 1, 128, 4, 128]⟩
abbrev S_ : Shape := ⟨0, ![]⟩
abbrev S4x15x128x4x128 : Shape := ⟨5, ![4, 15, 128, 4, 128]⟩
abbrev S4x16x256x4x128 : Shape := ⟨5, ![4, 16, 256, 4, 128]⟩
abbrev S4x4x16x256x128x4 : Shape := ⟨6, ![4, 4, 16, 256, 128, 4]⟩
abbrev S4x4x4x16x128x256 : Shape := ⟨6, ![4, 4, 4, 16, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16x1x1 : Shape := ⟨3, ![16, 1, 1]⟩
abbrev S1x128x256 : Shape := ⟨3, ![1, 128, 256]⟩
abbrev S1x1x256 : Shape := ⟨3, ![1, 1, 256]⟩
abbrev S16x1x256 : Shape := ⟨3, ![16, 1, 256]⟩
abbrev S16x128x256 : Shape := ⟨3, ![16, 128, 256]⟩
abbrev S1x1x1x16x128x256 : Shape := ⟨6, ![1, 1, 1, 16, 128, 256]⟩
abbrev S4x4 : Shape := ⟨2, ![4, 4]⟩
abbrev S1x4x4x1x1x1 : Shape := ⟨6, ![1, 4, 4, 1, 1, 1]⟩
abbrev S4x4x4x16x128 : Shape := ⟨5, ![4, 4, 4, 16, 128]⟩
abbrev S4x4x4x16x128x1 : Shape := ⟨6, ![4, 4, 4, 16, 128, 1]⟩
abbrev S4x16x4x128x4x128 : Shape := ⟨6, ![4, 16, 4, 128, 4, 128]⟩
abbrev S8192x2048 : Shape := ⟨2, ![8192, 2048]⟩

abbrev nBuf : Space → Nat
  | .hbm => 86
  | .vmem => 0
  | .smem => 0
  | _ => 0

abbrev bufTy : (tb : Table) → Fin (tcTables nBuf tb) → BufTy
  | .hbm, ⟨0, _⟩ => ⟨S4x2048x16x128, .f32⟩
  | .hbm, ⟨1, _⟩ => ⟨S4x2048x4x128, .f32⟩
  | .hbm, ⟨2, _⟩ => ⟨S4x2048x4x128, .f32⟩
  | .hbm, ⟨3, _⟩ => ⟨S16, .f32⟩
  | .hbm, ⟨4, _⟩ => ⟨S4x16x128x4x4x128, .f32⟩
  | .hbm, ⟨5, _⟩ => ⟨S4x16x128x4x128, .f32⟩
  | .hbm, ⟨6, _⟩ => ⟨S4x1x128x4x128, .f32⟩
  | .hbm, ⟨7, _⟩ => ⟨S_, .f32⟩
  | .hbm, ⟨8, _⟩ => ⟨S4x1x128x4x128, .f32⟩
  | .hbm, ⟨9, _⟩ => ⟨S4x15x128x4x128, .f32⟩
  | .hbm, ⟨10, _⟩ => ⟨S4x16x128x4x128, .f32⟩
  | .hbm, ⟨11, _⟩ => ⟨S4x16x256x4x128, .f32⟩
  | .hbm, ⟨12, _⟩ => ⟨S4x16x128x4x128, .f32⟩
  | .hbm, ⟨13, _⟩ => ⟨S4x1x128x4x128, .f32⟩
  | .hbm, ⟨14, _⟩ => ⟨S_, .f32⟩
  | .hbm, ⟨15, _⟩ => ⟨S4x1x128x4x128, .f32⟩
  | .hbm, ⟨16, _⟩ => ⟨S4x15x128x4x128, .f32⟩
  | .hbm, ⟨17, _⟩ => ⟨S4x16x128x4x128, .f32⟩
  | .hbm, ⟨18, _⟩ => ⟨S4x16x256x4x128, .f32⟩
  | .hbm, ⟨19, _⟩ => ⟨S4x4x16x256x128x4, .f32⟩
  | .hbm, ⟨20, _⟩ => ⟨S4x4x4x16x128x256, .f32⟩
  | .hbm, ⟨21, _⟩ => ⟨S_, .f32⟩
  | .hbm, ⟨22, _⟩ => ⟨S4x4x4x16x128x256, .f32⟩
  | .hbm, ⟨23, _⟩ => ⟨S4x4x4x16x128x256, .f32⟩
  | .hbm, ⟨24, _⟩ => ⟨S128, .i32⟩
  | .hbm, ⟨25, _⟩ => ⟨S128x1, .i32⟩
  | .hbm, ⟨26, _⟩ => ⟨S256, .i32⟩
  | .hbm, ⟨27, _⟩ => ⟨S1x256, .i32⟩
  | .hbm, ⟨28, _⟩ => ⟨S_, .i32⟩
  | .hbm, ⟨29, _⟩ => ⟨S128x1, .i32⟩
  | .hbm, ⟨30, _⟩ => ⟨S128x1, .i32⟩
  | .hbm, ⟨31, _⟩ => ⟨S128x256, .i32⟩
  | .hbm, ⟨32, _⟩ => ⟨S128x256, .i32⟩
  | .hbm, ⟨33, _⟩ => ⟨S128x256, .i32⟩
  | .hbm, ⟨34, _⟩ => ⟨S_, .i32⟩
  | .hbm, ⟨35, _⟩ => ⟨S128x256, .i32⟩
  | .hbm, ⟨36, _⟩ => ⟨S128x256, .i1⟩
  | .hbm, ⟨37, _⟩ => ⟨S_, .i32⟩
  | .hbm, ⟨38, _⟩ => ⟨S128x256, .i32⟩
  | .hbm, ⟨39, _⟩ => ⟨S128x256, .i1⟩
  | .hbm, ⟨40, _⟩ => ⟨S128x256, .i1⟩
  | .hbm, ⟨41, _⟩ => ⟨S16, .i32⟩
  | .hbm, ⟨42, _⟩ => ⟨S16x1x1, .i32⟩
  | .hbm, ⟨43, _⟩ => ⟨S1x128x256, .i1⟩
  | .hbm, ⟨44, _⟩ => ⟨S_, .i32⟩
  | .hbm, ⟨45, _⟩ => ⟨S16x1x1, .i32⟩
  | .hbm, ⟨46, _⟩ => ⟨S16x1x1, .i1⟩
  | .hbm, ⟨47, _⟩ => ⟨S_, .i32⟩
  | .hbm, ⟨48, _⟩ => ⟨S1x256, .i32⟩
  | .hbm, ⟨49, _⟩ => ⟨S1x256, .i1⟩
  | .hbm, ⟨50, _⟩ => ⟨S1x1x256, .i1⟩
  | .hbm, ⟨51, _⟩ => ⟨S16x1x256, .i1⟩
  | .hbm, ⟨52, _⟩ => ⟨S16x1x256, .i1⟩
  | .hbm, ⟨53, _⟩ => ⟨S16x1x256, .i1⟩
  | .hbm, ⟨54, _⟩ => ⟨S16x128x256, .i1⟩
  | .hbm, ⟨55, _⟩ => ⟨S16x128x256, .i1⟩
  | .hbm, ⟨56, _⟩ => ⟨S16x128x256, .i1⟩
  | .hbm, ⟨57, _⟩ => ⟨S1x1x1x16x128x256, .i1⟩
  | .hbm, ⟨58, _⟩ => ⟨S_, .f32⟩
  | .hbm, ⟨59, _⟩ => ⟨S_, .f32⟩
  | .hbm, ⟨60, _⟩ => ⟨S4x4x4x16x128x256, .i1⟩
  | .hbm, ⟨61, _⟩ => ⟨S4x4x4x16x128x256, .f32⟩
  | .hbm, ⟨62, _⟩ => ⟨S4x4x4x16x128x256, .f32⟩
  | .hbm, ⟨63, _⟩ => ⟨S4x4, .f32⟩
  | .hbm, ⟨64, _⟩ => ⟨S1x4x4x1x1x1, .f32⟩
  | .hbm, ⟨65, _⟩ => ⟨S_, .f32⟩
  | .hbm, ⟨66, _⟩ => ⟨S4x4x4x16x128, .f32⟩
  | .hbm, ⟨67, _⟩ => ⟨S4x4x4x16x128x1, .f32⟩
  | .hbm, ⟨68, _⟩ => ⟨S4x4x4x16x128x1, .f32⟩
  | .hbm, ⟨69, _⟩ => ⟨S4x4x4x16x128x1, .f32⟩
  | .hbm, ⟨70, _⟩ => ⟨S4x4x4x16x128x256, .f32⟩
  | .hbm, ⟨71, _⟩ => ⟨S4x4x4x16x128x256, .f32⟩
  | .hbm, ⟨72, _⟩ => ⟨S4x4x4x16x128x256, .f32⟩
  | .hbm, ⟨73, _⟩ => ⟨S_, .f32⟩
  | .hbm, ⟨74, _⟩ => ⟨S4x4x4x16x128, .f32⟩
  | .hbm, ⟨75, _⟩ => ⟨S4x4x4x16x128x1, .f32⟩
  | .hbm, ⟨76, _⟩ => ⟨S4x4x4x16x128x1, .f32⟩
  | .hbm, ⟨77, _⟩ => ⟨S4x4x4x16x128x1, .f32⟩
  | .hbm, ⟨78, _⟩ => ⟨S4x4x4x16x128x1, .f32⟩
  | .hbm, ⟨79, _⟩ => ⟨S4x4x4x16x128x1, .f32⟩
  | .hbm, ⟨80, _⟩ => ⟨S4x4x4x16x128x256, .f32⟩
  | .hbm, ⟨81, _⟩ => ⟨S4x4x4x16x128x256, .f32⟩
  | .hbm, ⟨82, _⟩ => ⟨S4x16x4x128x4x128, .f32⟩
  | .hbm, ⟨83, _⟩ => ⟨S4x16x128x4x4x128, .f32⟩
  | .hbm, ⟨84, _⟩ => ⟨S8192x2048, .f32⟩
  | .hbm, ⟨85, _⟩ => ⟨S8192x2048, .bf16⟩
  | _, _ => ⟨S4x2048x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_2 : Ref sig .tc := ⟨.hbm, 34, rfl⟩
abbrev main_v26 : Ref sig .tc := ⟨.hbm, 35, rfl⟩
abbrev main_v27 : Ref sig .tc := ⟨.hbm, 36, rfl⟩
abbrev main_c_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_4 : Ref sig .tc := ⟨.hbm, 44, rfl⟩
abbrev main_v34 : Ref sig .tc := ⟨.hbm, 45, rfl⟩
abbrev main_v35 : Ref sig .tc := ⟨.hbm, 46, rfl⟩
abbrev main_c_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_6 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_7 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_8 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩

abbrev nD : Nat := 1
abbrev τ : Topo := Topo.v7x

variable {F : FTy → Type} [FloatOps F]
-- ==== Kernel2.lean ====
abbrev S8192x11008 : Shape := ⟨2, ![8192, 11008]⟩
abbrev S11008x4096 : Shape := ⟨2, ![11008, 4096]⟩
abbrev S11008x512 : Shape := ⟨2, ![11008, 512]⟩
abbrev S8192x4096 : Shape := ⟨2, ![8192, 4096]⟩
abbrev S512x11008 : Shape := ⟨2, ![512, 11008]⟩
abbrev S688x512 : Shape := ⟨2, ![688, 512]⟩
abbrev S512x512 : Shape := ⟨2, ![512, 512]⟩
abbrev S2x11008x512 : Shape := ⟨3, ![2, 11008, 512]⟩
abbrev S1x11008x512 : Shape := ⟨3, ![1, 11008, 512]⟩
abbrev S1x688x512 : Shape := ⟨3, ![1, 688, 512]⟩

abbrev nBuf : Space → Nat
  | .hbm => 6
  | .vmem => 8
  | .smem => 0
  | _ => 0

abbrev bufTy : (tb : Table) → Fin (tcTables nBuf tb) → BufTy
  | .hbm, ⟨0, _⟩ => ⟨S8192x11008, .f32⟩
  | .hbm, ⟨1, _⟩ => ⟨S11008x4096, .f32⟩
  | .hbm, ⟨2, _⟩ => ⟨S11008x512, .f32⟩
  | .hbm, ⟨3, _⟩ => ⟨S11008x512, .bf16⟩
  | .hbm, ⟨4, _⟩ => ⟨S8192x11008, .bf16⟩
  | .hbm, ⟨5, _⟩ => ⟨S8192x4096, .f32⟩
  | .local _ .vmem, ⟨0, _⟩ => ⟨S512x11008, .bf16⟩
  | .local _ .vmem, ⟨1, _⟩ => ⟨S512x11008, .bf16⟩
  | .local _ .vmem, ⟨2, _⟩ => ⟨S688x512, .f32⟩
  | .local _ .vmem, ⟨3, _⟩ => ⟨S688x512, .f32⟩
  | .local _ .vmem, ⟨4, _⟩ => ⟨S11008x512, .bf16⟩
  | .local _ .vmem, ⟨5, _⟩ => ⟨S512x512, .f32⟩
  | .local _ .vmem, ⟨6, _⟩ => ⟨S512x512, .f32⟩
  | .local _ .vmem, ⟨7, _⟩ => ⟨S2x11008x512, .bf16⟩
  | _, _ => ⟨S8192x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg0 : BitVec 32 := BitVec.ofNat 32 (i 0).val
  let c1_i32 : BitVec 32 := 1#32
  let v0 : BitVec 32 := Scalar.addi arg0 c1_i32
  let c0_i32 : BitVec 32 := 0#32
  let v1 : BitVec 32 := Scalar.subi v0 c0_i32
  let c8_i32 : BitVec 32 := 8#32
  let v8 : BitVec 1 := Scalar.cmpi .slt v1 c8_i32
  let v9 : BitVec 32 := Scalar.extui v8
  let c0_i32_4 : BitVec 32 := 0#32
  let v10 : BitVec 1 := Scalar.cmpi .ne v9 c0_i32_4
  v10

def k0_mult1 (i : grid0.Coords) : BitVec 32 :=
  let arg1 : BitVec 32 := BitVec.ofNat 32 (i 1).val
  let c688_i32 : BitVec 32 := 688#32
  let v14 : BitVec 32 := Scalar.muli arg1 c688_i32
  v14
def k0_off1 (i : grid0.Coords) : Fin 3 → Nat :=
  let arg0 : BitVec 32 := BitVec.ofNat 32 (i 0).val
  let c1_i32 : BitVec 32 := 1#32
  let v0 : BitVec 32 := Scalar.addi arg0 c1_i32
  let c0_i32 : BitVec 32 := 0#32
  let v1 : BitVec 32 := Scalar.subi v0 c0_i32
  let c2_i32 : BitVec 32 := 2#32
  let c0_i32_8 : BitVec 32 := 0#32
  let v18 : BitVec 1 := Scalar.cmpi .eq c2_i32 c0_i32_8
  let c1_i32_9 : BitVec 32 := 1#32
  let v19 : BitVec 32 := Scalar.select v18 c1_i32_9 c2_i32
  let v20 : BitVec 32 := Scalar.remsi v1 v19
  let c0_i32_11 : BitVec 32 := 0#32
  let v22 : BitVec 1 := Scalar.cmpi .slt v20 c0_i32_11
  let c0_i32_12 : BitVec 32 := 0#32
  let v23 : BitVec 1 := Scalar.cmpi .slt v19 c0_i32_12
  let v24 : BitVec 1 := Scalar.xori v22 v23
  let c0_i32_10 : BitVec 32 := 0#32
  let v21 : BitVec 1 := Scalar.cmpi .ne v20 c0_i32_10
  let v25 : BitVec 1 := Scalar.andi v24 v21
  let v26 : BitVec 32 := Scalar.addi v20 v19
  let v27 : BitVec 32 := Scalar.select v25 v26 v20
  let v28 : Index := Scalar.indexCast v27
  let arg1 : BitVec 32 := BitVec.ofNat 32 (i 1).val
  let c688_i32 : BitVec 32 := 688#32
  let v14 : BitVec 32 := Scalar.muli arg1 c688_i32
  let v15 : BitVec 32 := v14
  let v29 : Index := Scalar.indexCast v15
  let c0_13 : Index := 0#32
  ![v28.toNat, v29.toNat, 0]
def k0_cond3 (i : grid0.Coords) : BitVec 1 :=
  let arg0 : BitVec 32 := BitVec.ofNat 32 (i 0).val
  let c0_i32_0 : BitVec 32 := 0#32
  let v2 : BitVec 32 := Scalar.subi arg0 c0_i32_0
  let c0_i32_5 : BitVec 32 := 0#32
  let v11 : BitVec 1 := Scalar.cmpi .sge v2 c0_i32_5
  let v12 : BitVec 32 := Scalar.extui v11
  let c0_i32_6 : BitVec 32 := 0#32
  let v13 : BitVec 1 := Scalar.cmpi .ne v12 c0_i32_6
  v13

def k0_off2 (i : grid0.Coords) : Fin 3 → Nat :=
  let arg0 : BitVec 32 := BitVec.ofNat 32 (i 0).val
  let c0_i32_0 : BitVec 32 := 0#32
  let v2 : BitVec 32 := Scalar.subi arg0 c0_i32_0
  let c2_i32 : BitVec 32 := 2#32
  let c0_i32_7 : BitVec 32 := 0#32
  let v14 : BitVec 1 := Scalar.cmpi .eq c2_i32 c0_i32_7
  let c1_i32_8 : BitVec 32 := 1#32
  let v15 : BitVec 32 := Scalar.select v14 c1_i32_8 c2_i32
  let v16 : BitVec 32 := Scalar.remsi v2 v15
  let c0_i32_10 : BitVec 32 := 0#32
  let v18 : BitVec 1 := Scalar.cmpi .slt v16 c0_i32_10
  let c0_i32_11 : BitVec 32 := 0#32
  let v19 : BitVec 1 := Scalar.cmpi .slt v15 c0_i32_11
  let v20 : BitVec 1 := Scalar.xori v18 v19
  let c0_i32_9 : BitVec 32 := 0#32
  let v17 : BitVec 1 := Scalar.cmpi .ne v16 c0_i32_9
  let v21 : BitVec 1 := Scalar.andi v20 v17
  let v22 : BitVec 32 := Scalar.addi v16 v15
  let v23 : BitVec 32 := Scalar.select v21 v22 v16
  let v26 : Index := Scalar.indexCast v23
  let c0_13 : Index := 0#32
  let c0_14 : Index := 0#32
  ![v26.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let v1 : BitVec 32 := Scalar.subi v0 c0_i32
  let c8_i32 : BitVec 32 := 8#32
  let v2 : BitVec 1 := Scalar.cmpi .slt v1 c8_i32
  let c15_i32 : BitVec 32 := 15#32
  let v3 : BitVec 32 := Scalar.select v2 arg1 c15_i32
  let c1_i32_0 : BitVec 32 := 1#32
  let v4 : BitVec 32 := Scalar.addi arg0 c1_i32_0
  let c0_i32_1 : BitVec 32 := 0#32
  let v5 : BitVec 32 := Scalar.subi v4 c0_i32_1
  let c7_i32 : BitVec 32 := 7#32
  let v6 : BitVec 32 := Scalar.minsi v5 c7_i32
  let c0_i32_2 : BitVec 32 := 0#32
  let v7 : BitVec 32 := Scalar.addi c0_i32_2 v6
  let c0_i32_3 : BitVec 32 := 0#32
  ![v3.toNat, v7.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let v1 : BitVec 32 := Scalar.select v0 c0_i32_0 arg1
  let c0_i32_1 : BitVec 32 := 0#32
  let v2 : BitVec 32 := Scalar.subi arg0 c0_i32_1
  let c0_i32_2 : BitVec 32 := 0#32
  let v3 : BitVec 32 := Scalar.maxsi v2 c0_i32_2
  let c0_i32_3 : BitVec 32 := 0#32
  let v4 : BitVec 32 := Scalar.addi c0_i32_3 v3
  let c0_i32_4 : BitVec 32 := 0#32
  ![v1.toNat, v4.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S688x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S11008x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8192x11008 : Shape := ⟨2, ![8192, 11008]⟩
abbrev S11008x4096 : Shape := ⟨2, ![11008, 4096]⟩
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x11008, .f32⟩
  | .hbm, ⟨1, _⟩ => ⟨S11008x4096, .f32⟩
  | .hbm, ⟨2, _⟩ => ⟨S8192x4096, .f32⟩
  | _, _ => ⟨S8192x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel3.lean ====
abbrev S8192x4096 : Shape := ⟨2, ![8192, 4096]⟩
abbrev S4096x11008 : Shape := ⟨2, ![4096, 11008]⟩
abbrev S11008x4096 : Shape := ⟨2, ![11008, 4096]⟩
abbrev S8192x11008 : Shape := ⟨2, ![8192, 11008]⟩
abbrev S11008x512 : Shape := ⟨2, ![11008, 512]⟩
abbrev S1024x4096 : Shape := ⟨2, ![1024, 4096]⟩
abbrev S512x512 : Shape := ⟨2, ![512, 512]⟩
abbrev S64x512 : Shape := ⟨2, ![64, 512]⟩
abbrev S1024x512 : Shape := ⟨2, ![1024, 512]⟩
abbrev S2x4096x512 : Shape := ⟨3, ![2, 4096, 512]⟩
abbrev S1x512x512 : Shape := ⟨3, ![1, 512, 512]⟩
abbrev S1x4096x512 : Shape := ⟨3, ![1, 4096, 512]⟩
abbrev S4096x512 : Shape := ⟨2, ![4096, 512]⟩
abbrev S8192x10752 : Shape := ⟨2, ![8192, 10752]⟩

abbrev nBuf : Space → Nat
  | .hbm => 8
  | .vmem => 14
  | .smem => 0
  | _ => 0

abbrev bufTy : (tb : Table) → Fin (tcTables nBuf tb) → BufTy
  | .hbm, ⟨0, _⟩ => ⟨S8192x4096, .f32⟩
  | .hbm, ⟨1, _⟩ => ⟨S4096x11008, .f32⟩
  | .hbm, ⟨2, _⟩ => ⟨S4096x11008, .f32⟩
  | .hbm, ⟨3, _⟩ => ⟨S11008x4096, .f32⟩
  | .hbm, ⟨4, _⟩ => ⟨S8192x4096, .bf16⟩
  | .hbm, ⟨5, _⟩ => ⟨S8192x11008, .bf16⟩
  | .hbm, ⟨6, _⟩ => ⟨S11008x512, .bf16⟩
  | .hbm, ⟨7, _⟩ => ⟨S8192x10752, .bf16⟩
  | .local _ .vmem, ⟨0, _⟩ => ⟨S1024x4096, .bf16⟩
  | .local _ .vmem, ⟨1, _⟩ => ⟨S1024x4096, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S64x512, .f32⟩
  | .local _ .vmem, ⟨7, _⟩ => ⟨S64x512, .f32⟩
  | .local _ .vmem, ⟨8, _⟩ => ⟨S1024x512, .bf16⟩
  | .local _ .vmem, ⟨9, _⟩ => ⟨S1024x512, .bf16⟩
  | .local _ .vmem, ⟨10, _⟩ => ⟨S64x512, .bf16⟩
  | .local _ .vmem, ⟨11, _⟩ => ⟨S64x512, .bf16⟩
  | .local _ .vmem, ⟨12, _⟩ => ⟨S2x4096x512, .bf16⟩
  | .local _ .vmem, ⟨13, _⟩ => ⟨S2x4096x512, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![22, 8], ![false, false]⟩

def k0_cond2 (i : grid0.Coords) : BitVec 1 :=
  let arg0 : BitVec 32 := BitVec.ofNat 32 (i 0).val
  let c1_i32 : BitVec 32 := 1#32
  let v0 : BitVec 32 := Scalar.addi arg0 c1_i32
  let c1_i32_0 : BitVec 32 := 1#32
  let v1 : BitVec 32 := Scalar.subi v0 c1_i32_0
  let c21_i32 : BitVec 32 := 21#32
  let v8 : BitVec 1 := Scalar.cmpi .slt v1 c21_i32
  let v9 : BitVec 32 := Scalar.extui v8
  let c0_i32_2 : BitVec 32 := 0#32
  let v10 : BitVec 1 := Scalar.cmpi .ne v9 c0_i32_2
  v10

def k0_mult1 (i : grid0.Coords) : BitVec 32 :=
  let arg1 : BitVec 32 := BitVec.ofNat 32 (i 1).val
  let c512_i32 : BitVec 32 := 512#32
  let v14 : BitVec 32 := Scalar.muli arg1 c512_i32
  v14
def k0_off1 (i : grid0.Coords) : Fin 3 → Nat :=
  let arg0 : BitVec 32 := BitVec.ofNat 32 (i 0).val
  let c1_i32 : BitVec 32 := 1#32
  let v0 : BitVec 32 := Scalar.addi arg0 c1_i32
  let c1_i32_0 : BitVec 32 := 1#32
  let v1 : BitVec 32 := Scalar.subi v0 c1_i32_0
  let c2_i32 : BitVec 32 := 2#32
  let c0_i32_6 : BitVec 32 := 0#32
  let v18 : BitVec 1 := Scalar.cmpi .eq c2_i32 c0_i32_6
  let c1_i32_7 : BitVec 32 := 1#32
  let v19 : BitVec 32 := Scalar.select v18 c1_i32_7 c2_i32
  let v20 : BitVec 32 := Scalar.remsi v1 v19
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let c0_i32_8 : BitVec 32 := 0#32
  let v21 : BitVec 1 := Scalar.cmpi .ne v20 c0_i32_8
  let v25 : BitVec 1 := Scalar.andi v24 v21
  let v26 : BitVec 32 := Scalar.addi v20 v19
  let v27 : BitVec 32 := Scalar.select v25 v26 v20
  let v28 : Index := Scalar.indexCast v27
  let arg1 : BitVec 32 := BitVec.ofNat 32 (i 1).val
  let c512_i32 : BitVec 32 := 512#32
  let v14 : BitVec 32 := Scalar.muli arg1 c512_i32
  let v15 : BitVec 32 := v14
  let v29 : Index := Scalar.indexCast v15
  let c0_11 : Index := 0#32
  ![v28.toNat, v29.toNat, 0]
def k0_cond3 (i : grid0.Coords) : BitVec 1 :=
  let arg0 : BitVec 32 := BitVec.ofNat 32 (i 0).val
  let c1_i32_1 : BitVec 32 := 1#32
  let v2 : BitVec 32 := Scalar.subi arg0 c1_i32_1
  let c0_i32_3 : BitVec 32 := 0#32
  let v11 : BitVec 1 := Scalar.cmpi .sge v2 c0_i32_3
  let v12 : BitVec 32 := Scalar.extui v11
  let c0_i32_4 : BitVec 32 := 0#32
  let v13 : BitVec 1 := Scalar.cmpi .ne v12 c0_i32_4
  v13

def k0_off2 (i : grid0.Coords) : Fin 3 → Nat :=
  let arg0 : BitVec 32 := BitVec.ofNat 32 (i 0).val
  let c1_i32_1 : BitVec 32 := 1#32
  let v2 : BitVec 32 := Scalar.subi arg0 c1_i32_1
  let c2_i32 : BitVec 32 := 2#32
  let c0_i32_5 : BitVec 32 := 0#32
  let v14 : BitVec 1 := Scalar.cmpi .eq c2_i32 c0_i32_5
  let c1_i32_6 : BitVec 32 := 1#32
  let v15 : BitVec 32 := Scalar.select v14 c1_i32_6 c2_i32
  let v16 : BitVec 32 := Scalar.remsi v2 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let v26 : Index := Scalar.indexCast v23
  let c0_11 : Index := 0#32
  let c0_12 : Index := 0#32
  ![v26.toNat, 0, 0]
def k0_cond1 (i : grid0.Coords) : BitVec 1 :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c172_i32 : BitVec 32 := 172#32
  let v5 : BitVec 1 := Scalar.cmpi .slt v4 c172_i32
  let v6 : BitVec 32 := Scalar.extui v5
  let c0_i32 : BitVec 32 := 0#32
  let v7 : BitVec 1 := Scalar.cmpi .ne v6 c0_i32
  v7

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg0 c1_i32
  let c0_i32 : BitVec 32 := 0#32
  let v1 : BitVec 32 := Scalar.select v0 c0_i32 arg1
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c1_i32_0 : BitVec 32 := 1#32
  let v1 : BitVec 32 := Scalar.subi v0 c1_i32_0
  let c21_i32 : BitVec 32 := 21#32
  let v2 : BitVec 1 := Scalar.cmpi .slt v1 c21_i32
  let c7_i32 : BitVec 32 := 7#32
  let v3 : BitVec 32 := Scalar.select v2 arg1 c7_i32
  let c1_i32_1 : BitVec 32 := 1#32
  let v4 : BitVec 32 := Scalar.addi arg0 c1_i32_1
  let c1_i32_2 : BitVec 32 := 1#32
  let v5 : BitVec 32 := Scalar.subi v4 c1_i32_2
  let c20_i32 : BitVec 32 := 20#32
  let v6 : BitVec 32 := Scalar.minsi v5 c20_i32
  let c0_i32 : BitVec 32 := 0#32
  let v7 : BitVec 32 := Scalar.addi c0_i32 v6
  let c0_i32_3 : BitVec 32 := 0#32
  ![v3.toNat, v7.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c1_i32_0 : BitVec 32 := 1#32
  let v1 : BitVec 32 := Scalar.subi v0 c1_i32_0
  let c21_i32 : BitVec 32 := 21#32
  let v2 : BitVec 1 := Scalar.cmpi .slt v1 c21_i32
  let c7_i32 : BitVec 32 := 7#32
  let v3 : BitVec 32 := Scalar.select v2 arg1 c7_i32
  let c1_i32_1 : BitVec 32 := 1#32
  let v4 : BitVec 32 := Scalar.addi arg0 c1_i32_1
  let c1_i32_2 : BitVec 32 := 1#32
  let v5 : BitVec 32 := Scalar.subi v4 c1_i32_2
  let c20_i32 : BitVec 32 := 20#32
  let v6 : BitVec 32 := Scalar.minsi v5 c20_i32
  let c0_i32 : BitVec 32 := 0#32
  let v7 : BitVec 32 := Scalar.addi c0_i32 v6
  let c0_i32_3 : BitVec 32 := 0#32
  ![v3.toNat, v7.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c171_i32 : BitVec 32 := 171#32
  let v2 : BitVec 32 := Scalar.minsi v1 c171_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg0 c1_i32
  let c0_i32 : BitVec 32 := 0#32
  let v1 : BitVec 32 := Scalar.select v0 c0_i32 arg1
  let c1_i32_0 : BitVec 32 := 1#32
  let v2 : BitVec 32 := Scalar.subi arg0 c1_i32_0
  let c0_i32_1 : BitVec 32 := 0#32
  let v3 : BitVec 32 := Scalar.maxsi v2 c0_i32_1
  let c0_i32_2 : BitVec 32 := 0#32
  let v4 : BitVec 32 := Scalar.addi c0_i32_2 v3
  let c0_i32_3 : BitVec 32 := 0#32
  ![v1.toNat, v4.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c171_i32 : BitVec 32 := 171#32
  let v2 : BitVec 32 := Scalar.minsi v1 c171_i32
  let c0_i32 : BitVec 32 := 0#32
  let c0_i32_0 : BitVec 32 := 0#32
  ![v2.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S8192x4096 : Shape := ⟨2, ![8192, 4096]⟩
abbrev S4096x11008 : Shape := ⟨2, ![4096, 11008]⟩
abbrev S11008x4096 : Shape := ⟨2, ![11008, 4096]⟩
abbrev S4096x10752 : Shape := ⟨2, ![4096, 10752]⟩
abbrev S8192x10752 : Shape := ⟨2, ![8192, 10752]⟩
abbrev S_ : Shape := ⟨0, ![]⟩
abbrev S11008x512 : Shape := ⟨2, ![11008, 512]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x11008, .f32⟩
  | .hbm, ⟨2, _⟩ => ⟨S4096x11008, .f32⟩
  | .hbm, ⟨3, _⟩ => ⟨S11008x4096, .f32⟩
  | .hbm, ⟨4, _⟩ => ⟨S4096x10752, .f32⟩
  | .hbm, ⟨5, _⟩ => ⟨S4096x10752, .f32⟩
  | .hbm, ⟨6, _⟩ => ⟨S8192x10752, .f32⟩
  | .hbm, ⟨7, _⟩ => ⟨S8192x10752, .f32⟩
  | .hbm, ⟨8, _⟩ => ⟨S8192x10752, .f32⟩
  | .hbm, ⟨9, _⟩ => ⟨S_, .f32⟩
  | .hbm, ⟨10, _⟩ => ⟨S8192x10752, .f32⟩
  | .hbm, ⟨11, _⟩ => ⟨S8192x10752, .f32⟩
  | .hbm, ⟨12, _⟩ => ⟨S_, .f32⟩
  | .hbm, ⟨13, _⟩ => ⟨S8192x10752, .f32⟩
  | .hbm, ⟨14, _⟩ => ⟨S8192x10752, .f32⟩
  | .hbm, ⟨15, _⟩ => ⟨S8192x10752, .f32⟩
  | .hbm, ⟨16, _⟩ => ⟨S8192x10752, .f32⟩
  | .hbm, ⟨17, _⟩ => ⟨S8192x10752, .f32⟩
  | .hbm, ⟨18, _⟩ => ⟨S8192x10752, .bf16⟩
  | .hbm, ⟨19, _⟩ => ⟨S11008x512, .f32⟩
  | .hbm, ⟨20, _⟩ => ⟨S11008x512, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩

abbrev nD : Nat := 1
abbrev τ : Topo := Topo.v7x

variable {F : FTy → Type} [FloatOps F]
-- ==== Kernel4.lean ====
abbrev S4x2048x4096 : Shape := ⟨3, ![4, 2048, 4096]⟩
abbrev S4096 : Shape := ⟨1, ![4096]⟩
abbrev S8192x4096 : Shape := ⟨2, ![8192, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 7
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S4x2048x4096, .f32⟩
  | .hbm, ⟨2, _⟩ => ⟨S4096, .f32⟩
  | .hbm, ⟨3, _⟩ => ⟨S8192x4096, .f32⟩
  | .hbm, ⟨4, _⟩ => ⟨S8192x4096, .f32⟩
  | .hbm, ⟨5, _⟩ => ⟨S1x4096, .f32⟩
  | .hbm, ⟨6, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S4x2048x4096 : Shape := ⟨3, ![4, 2048, 4096]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S8192x4096 : Shape := ⟨2, ![8192, 4096]⟩

abbrev nBuf : Space → Nat
  | .hbm => 24
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4x2048x4096, .f32⟩
  | .hbm, ⟨2, _⟩ => ⟨S4096, .f32⟩
  | .hbm, ⟨3, _⟩ => ⟨S4x2048x4096, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x4096, .f32⟩
  | .hbm, ⟨15, _⟩ => ⟨S4x2048x4096, .f32⟩
  | .hbm, ⟨16, _⟩ => ⟨S1x1x4096, .f32⟩
  | .hbm, ⟨17, _⟩ => ⟨S4x2048x4096, .f32⟩
  | .hbm, ⟨18, _⟩ => ⟨S4x2048x4096, .f32⟩
  | .hbm, ⟨19, _⟩ => ⟨S_, .f32⟩
  | .hbm, ⟨20, _⟩ => ⟨S4x2048x4096, .f32⟩
  | .hbm, ⟨21, _⟩ => ⟨S4x2048x4096, .f32⟩
  | .hbm, ⟨22, _⟩ => ⟨S4x2048x4096, .f32⟩
  | .hbm, ⟨23, _⟩ => ⟨S8192x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel5.lean ====
abbrev S4x2048x2048 : Shape := ⟨3, ![4, 2048, 2048]⟩
abbrev S4x2048x4096 : Shape := ⟨3, ![4, 2048, 4096]⟩
abbrev S4096 : Shape := ⟨1, ![4096]⟩
abbrev S4096x4096 : Shape := ⟨2, ![4096, 4096]⟩
abbrev S8192x2048 : Shape := ⟨2, ![8192, 2048]⟩
abbrev S8192x4096 : Shape := ⟨2, ![8192, 4096]⟩
abbrev S1x4096 : Shape := ⟨2, ![1, 4096]⟩
abbrev S256x2048 : Shape := ⟨2, ![256, 2048]⟩
abbrev S256x4096 : Shape := ⟨2, ![256, 4096]⟩
abbrev S2048x4096 : Shape := ⟨2, ![2048, 4096]⟩
abbrev S256 : Shape := ⟨1, ![256]⟩
abbrev S256x1 : Shape := ⟨2, ![256, 1]⟩

abbrev nBuf : Space → Nat
  | .hbm => 16
  | .vmem => 13
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x2048x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S8192x2048, .f32⟩
  | .hbm, ⟨7, _⟩ => ⟨S8192x2048, .bf16⟩
  | .hbm, ⟨8, _⟩ => ⟨S8192x2048, .f32⟩
  | .hbm, ⟨9, _⟩ => ⟨S8192x2048, .bf16⟩
  | .hbm, ⟨10, _⟩ => ⟨S8192x4096, .f32⟩
  | .hbm, ⟨11, _⟩ => ⟨S1x4096, .f32⟩
  | .hbm, ⟨12, _⟩ => ⟨S1x4096, .f32⟩
  | .hbm, ⟨13, _⟩ => ⟨S4096x4096, .bf16⟩
  | .hbm, ⟨14, _⟩ => ⟨S8192x4096, .f32⟩
  | .hbm, ⟨15, _⟩ => ⟨S8192x4096, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x4096, .f32⟩
  | .local _ .vmem, ⟨5, _⟩ => ⟨S256x4096, .f32⟩
  | .local _ .vmem, ⟨6, _⟩ => ⟨S1x4096, .f32⟩
  | .local _ .vmem, ⟨7, _⟩ => ⟨S1x4096, .f32⟩
  | .local _ .vmem, ⟨8, _⟩ => ⟨S4096x4096, .bf16⟩
  | .local _ .vmem, ⟨9, _⟩ => ⟨S256x4096, .f32⟩
  | .local _ .vmem, ⟨10, _⟩ => ⟨S256x4096, .f32⟩
  | .local _ .vmem, ⟨11, _⟩ => ⟨S256x4096, .bf16⟩
  | .local _ .vmem, ⟨12, _⟩ => ⟨S256x4096, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S4x2048x2048 : Shape := ⟨3, ![4, 2048, 2048]⟩
abbrev S4x2048x4096 : Shape := ⟨3, ![4, 2048, 4096]⟩
abbrev S4096 : Shape := ⟨1, ![4096]⟩
abbrev S4096x4096 : Shape := ⟨2, ![4096, 4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S8192x4096 : Shape := ⟨2, ![8192, 4096]⟩

abbrev nBuf : Space → Nat
  | .hbm => 44
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x2048x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4x2048x4096, .f32⟩
  | .hbm, ⟨7, _⟩ => ⟨S4x2048x4096, .f32⟩
  | .hbm, ⟨8, _⟩ => ⟨S4x2048x4096, .f32⟩
  | .hbm, ⟨9, _⟩ => ⟨S_, .f32⟩
  | .hbm, ⟨10, _⟩ => ⟨S4x2048, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x1, .f32⟩
  | .hbm, ⟨19, _⟩ => ⟨S4x2048x4096, .f32⟩
  | .hbm, ⟨20, _⟩ => ⟨S4x2048x4096, .f32⟩
  | .hbm, ⟨21, _⟩ => ⟨S1x1x4096, .f32⟩
  | .hbm, ⟨22, _⟩ => ⟨S4x2048x4096, .f32⟩
  | .hbm, ⟨23, _⟩ => ⟨S4x2048x4096, .f32⟩
  | .hbm, ⟨24, _⟩ => ⟨S4x2048x4096, .f32⟩
  | .hbm, ⟨25, _⟩ => ⟨S4x2048x4096, .f32⟩
  | .hbm, ⟨26, _⟩ => ⟨S_, .f32⟩
  | .hbm, ⟨27, _⟩ => ⟨S4x2048, .f32⟩
  | .hbm, ⟨28, _⟩ => ⟨S4x2048x1, .f32⟩
  | .hbm, ⟨29, _⟩ => ⟨S_, .f32⟩
  | .hbm, ⟨30, _⟩ => ⟨S4x2048x1, .f32⟩
  | .hbm, ⟨31, _⟩ => ⟨S4x2048x1, .f32⟩
  | .hbm, ⟨32, _⟩ => ⟨S_, .f32⟩
  | .hbm, ⟨33, _⟩ => ⟨S4x2048x1, .f32⟩
  | .hbm, ⟨34, _⟩ => ⟨S4x2048x1, .f32⟩
  | .hbm, ⟨35, _⟩ => ⟨S4x2048x1, .f32⟩
  | .hbm, ⟨36, _⟩ => ⟨S4x2048x4096, .f32⟩
  | .hbm, ⟨37, _⟩ => ⟨S4x2048x4096, .f32⟩
  | .hbm, ⟨38, _⟩ => ⟨S1x1x4096, .f32⟩
  | .hbm, ⟨39, _⟩ => ⟨S4x2048x4096, .f32⟩
  | .hbm, ⟨40, _⟩ => ⟨S4x2048x4096, .f32⟩
  | .hbm, ⟨41, _⟩ => ⟨S8192x4096, .f32⟩
  | .hbm, ⟨42, _⟩ => ⟨S8192x4096, .f32⟩
  | .hbm, ⟨43, _⟩ => ⟨S8192x4096, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Kernel6.lean ====
abbrev S8192x4096 : Shape := ⟨2, ![8192, 4096]⟩
abbrev S4096x11008 : Shape := ⟨2, ![4096, 11008]⟩
abbrev S11008x4096 : Shape := ⟨2, ![11008, 4096]⟩
abbrev S4096x5120 : Shape := ⟨2, ![4096, 5120]⟩
abbrev S4096x4096 : Shape := ⟨2, ![4096, 4096]⟩
abbrev S8192x11008 : Shape := ⟨2, ![8192, 11008]⟩
abbrev S4096x3072 : Shape := ⟨2, ![4096, 3072]⟩
abbrev S11008x512 : Shape := ⟨2, ![11008, 512]⟩
abbrev S1024x4096 : Shape := ⟨2, ![1024, 4096]⟩
abbrev S512x512 : Shape := ⟨2, ![512, 512]⟩
abbrev S32x3072 : Shape := ⟨2, ![32, 3072]⟩
abbrev S32x4096 : Shape := ⟨2, ![32, 4096]⟩
abbrev S64x512 : Shape := ⟨2, ![64, 512]⟩
abbrev S1024x512 : Shape := ⟨2, ![1024, 512]⟩
abbrev S2x4096x512 : Shape := ⟨3, ![2, 4096, 512]⟩
abbrev S1x512x512 : Shape := ⟨3, ![1, 512, 512]⟩
abbrev S1x4096x512 : Shape := ⟨3, ![1, 4096, 512]⟩
abbrev S4096x512 : Shape := ⟨2, ![4096, 512]⟩
abbrev S8192x10752 : Shape := ⟨2, ![8192, 10752]⟩

abbrev nBuf : Space → Nat
  | .hbm => 12
  | .vmem => 22
  | .smem => 0
  | _ => 0

abbrev bufTy : (tb : Table) → Fin (tcTables nBuf tb) → BufTy
  | .hbm, ⟨0, _⟩ => ⟨S8192x4096, .f32⟩
  | .hbm, ⟨1, _⟩ => ⟨S4096x11008, .f32⟩
  | .hbm, ⟨2, _⟩ => ⟨S4096x11008, .f32⟩
  | .hbm, ⟨3, _⟩ => ⟨S11008x4096, .f32⟩
  | .hbm, ⟨4, _⟩ => ⟨S4096x5120, .f32⟩
  | .hbm, ⟨5, _⟩ => ⟨S4096x4096, .f32⟩
  | .hbm, ⟨6, _⟩ => ⟨S8192x4096, .bf16⟩
  | .hbm, ⟨7, _⟩ => ⟨S8192x11008, .bf16⟩
  | .hbm, ⟨8, _⟩ => ⟨S4096x3072, .bf16⟩
  | .hbm, ⟨9, _⟩ => ⟨S4096x4096, .bf16⟩
  | .hbm, ⟨10, _⟩ => ⟨S11008x512, .bf16⟩
  | .hbm, ⟨11, _⟩ => ⟨S8192x10752, .bf16⟩
  | .local _ .vmem, ⟨0, _⟩ => ⟨S1024x4096, .bf16⟩
  | .local _ .vmem, ⟨1, _⟩ => ⟨S1024x4096, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S32x3072, .f32⟩
  | .local _ .vmem, ⟨7, _⟩ => ⟨S32x3072, .f32⟩
  | .local _ .vmem, ⟨8, _⟩ => ⟨S32x4096, .f32⟩
  | .local _ .vmem, ⟨9, _⟩ => ⟨S32x4096, .f32⟩
  | .local _ .vmem, ⟨10, _⟩ => ⟨S64x512, .f32⟩
  | .local _ .vmem, ⟨11, _⟩ => ⟨S64x512, .f32⟩
  | .local _ .vmem, ⟨12, _⟩ => ⟨S1024x512, .bf16⟩
  | .local _ .vmem, ⟨13, _⟩ => ⟨S1024x512, .bf16⟩
  | .local _ .vmem, ⟨14, _⟩ => ⟨S32x3072, .bf16⟩
  | .local _ .vmem, ⟨15, _⟩ => ⟨S32x3072, .bf16⟩
  | .local _ .vmem, ⟨16, _⟩ => ⟨S32x4096, .bf16⟩
  | .local _ .vmem, ⟨17, _⟩ => ⟨S32x4096, .bf16⟩
  | .local _ .vmem, ⟨18, _⟩ => ⟨S64x512, .bf16⟩
  | .local _ .vmem, ⟨19, _⟩ => ⟨S64x512, .bf16⟩
  | .local _ .vmem, ⟨20, _⟩ => ⟨S2x4096x512, .bf16⟩
  | .local _ .vmem, ⟨21, _⟩ => ⟨S2x4096x512, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![22, 8], ![false, false]⟩

def k0_cond4 (i : grid0.Coords) : BitVec 1 :=
  let arg0 : BitVec 32 := BitVec.ofNat 32 (i 0).val
  let c1_i32 : BitVec 32 := 1#32
  let v0 : BitVec 32 := Scalar.addi arg0 c1_i32
  let c1_i32_0 : BitVec 32 := 1#32
  let v1 : BitVec 32 := Scalar.subi v0 c1_i32_0
  let c21_i32 : BitVec 32 := 21#32
  let v18 : BitVec 1 := Scalar.cmpi .slt v1 c21_i32
  let v19 : BitVec 32 := Scalar.extui v18
  let c0_i32_7 : BitVec 32 := 0#32
  let v20 : BitVec 1 := Scalar.cmpi .ne v19 c0_i32_7
  v20

def k0_mult1 (i : grid0.Coords) : BitVec 32 :=
  let arg1 : BitVec 32 := BitVec.ofNat 32 (i 1).val
  let c512_i32 : BitVec 32 := 512#32
  let v24 : BitVec 32 := Scalar.muli arg1 c512_i32
  v24
def k0_off1 (i : grid0.Coords) : Fin 3 → Nat :=
  let arg0 : BitVec 32 := BitVec.ofNat 32 (i 0).val
  let c1_i32 : BitVec 32 := 1#32
  let v0 : BitVec 32 := Scalar.addi arg0 c1_i32
  let c1_i32_0 : BitVec 32 := 1#32
  let v1 : BitVec 32 := Scalar.subi v0 c1_i32_0
  let c2_i32 : BitVec 32 := 2#32
  let c0_i32_11 : BitVec 32 := 0#32
  let v28 : BitVec 1 := Scalar.cmpi .eq c2_i32 c0_i32_11
  let c1_i32_12 : BitVec 32 := 1#32
  let v29 : BitVec 32 := Scalar.select v28 c1_i32_12 c2_i32
  let v30 : BitVec 32 := Scalar.remsi v1 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let v38 : Index := Scalar.indexCast v37
  let arg1 : BitVec 32 := BitVec.ofNat 32 (i 1).val
  let c512_i32 : BitVec 32 := 512#32
  let v24 : BitVec 32 := Scalar.muli arg1 c512_i32
  let v25 : BitVec 32 := v24
  let v39 : Index := Scalar.indexCast v25
  let c0_16 : Index := 0#32
  ![v38.toNat, v39.toNat, 0]
def k0_cond5 (i : grid0.Coords) : BitVec 1 :=
  let arg0 : BitVec 32 := BitVec.ofNat 32 (i 0).val
  let c1_i32_1 : BitVec 32 := 1#32
  let v2 : BitVec 32 := Scalar.subi arg0 c1_i32_1
  let c0_i32_8 : BitVec 32 := 0#32
  let v21 : BitVec 1 := Scalar.cmpi .sge v2 c0_i32_8
  let v22 : BitVec 32 := Scalar.extui v21
  let c0_i32_9 : BitVec 32 := 0#32
  let v23 : BitVec 1 := Scalar.cmpi .ne v22 c0_i32_9
  v23

def k0_off2 (i : grid0.Coords) : Fin 3 → Nat :=
  let arg0 : BitVec 32 := BitVec.ofNat 32 (i 0).val
  let c1_i32_1 : BitVec 32 := 1#32
  let v2 : BitVec 32 := Scalar.subi arg0 c1_i32_1
  let c2_i32 : BitVec 32 := 2#32
  let c0_i32_10 : BitVec 32 := 0#32
  let v24 : BitVec 1 := Scalar.cmpi .eq c2_i32 c0_i32_10
  let c1_i32_11 : BitVec 32 := 1#32
  let v25 : BitVec 32 := Scalar.select v24 c1_i32_11 c2_i32
  let v26 : BitVec 32 := Scalar.remsi v2 v25
  let c0_i32_13 : BitVec 32 := 0#32
  let v28 : BitVec 1 := Scalar.cmpi .slt v26 c0_i32_13
  let c0_i32_14 : BitVec 32 := 0#32
  let v29 : BitVec 1 := Scalar.cmpi .slt v25 c0_i32_14
  let v30 : BitVec 1 := Scalar.xori v28 v29
  let c0_i32_12 : BitVec 32 := 0#32
  let v27 : BitVec 1 := Scalar.cmpi .ne v26 c0_i32_12
  let v31 : BitVec 1 := Scalar.andi v30 v27
  let v32 : BitVec 32 := Scalar.addi v26 v25
  let v33 : BitVec 32 := Scalar.select v31 v32 v26
  let v36 : Index := Scalar.indexCast v33
  let c0_16 : Index := 0#32
  let c0_17 : Index := 0#32
  ![v36.toNat, 0, 0]
def k0_cond1 (i : grid0.Coords) : BitVec 1 :=
  let arg0 : BitVec 32 := BitVec.ofNat 32 (i 0).val
  let c8_i32 : BitVec 32 := 8#32
  let v3 : BitVec 32 := Scalar.muli arg0 c8_i32
  let arg1 : BitVec 32 := BitVec.ofNat 32 (i 1).val
  let v4 : BitVec 32 := Scalar.addi v3 arg1
  let c128_i32 : BitVec 32 := 128#32
  let v5 : BitVec 1 := Scalar.cmpi .slt v4 c128_i32
  let v6 : BitVec 32 := Scalar.extui v5
  let c0_i32 : BitVec 32 := 0#32
  let v7 : BitVec 1 := Scalar.cmpi .ne v6 c0_i32
  v7

def k0_cond2 (i : grid0.Coords) : BitVec 1 :=
  let arg0 : BitVec 32 := BitVec.ofNat 32 (i 0).val
  let c8_i32_2 : BitVec 32 := 8#32
  let v8 : BitVec 32 := Scalar.muli arg0 c8_i32_2
  let arg1 : BitVec 32 := BitVec.ofNat 32 (i 1).val
  let v9 : BitVec 32 := Scalar.addi v8 arg1
  let c128_i32_3 : BitVec 32 := 128#32
  let v10 : BitVec 1 := Scalar.cmpi .slt v9 c128_i32_3
  let v11 : BitVec 32 := Scalar.extui v10
  let c0_i32_4 : BitVec 32 := 0#32
  let v12 : BitVec 1 := Scalar.cmpi .ne v11 c0_i32_4
  v12

def k0_cond3 (i : grid0.Coords) : BitVec 1 :=
  let arg0 : BitVec 32 := BitVec.ofNat 32 (i 0).val
  let c8_i32_5 : BitVec 32 := 8#32
  let v13 : BitVec 32 := Scalar.muli arg0 c8_i32_5
  let arg1 : BitVec 32 := BitVec.ofNat 32 (i 1).val
  let v14 : BitVec 32 := Scalar.addi v13 arg1
  let c172_i32 : BitVec 32 := 172#32
  let v15 : BitVec 1 := Scalar.cmpi .slt v14 c172_i32
  let v16 : BitVec 32 := Scalar.extui v15
  let c0_i32_6 : BitVec 32 := 0#32
  let v17 : BitVec 1 := Scalar.cmpi .ne v16 c0_i32_6
  v17

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg0 c1_i32
  let c0_i32 : BitVec 32 := 0#32
  let v1 : BitVec 32 := Scalar.select v0 c0_i32 arg1
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c1_i32_0 : BitVec 32 := 1#32
  let v1 : BitVec 32 := Scalar.subi v0 c1_i32_0
  let c21_i32 : BitVec 32 := 21#32
  let v2 : BitVec 1 := Scalar.cmpi .slt v1 c21_i32
  let c7_i32 : BitVec 32 := 7#32
  let v3 : BitVec 32 := Scalar.select v2 arg1 c7_i32
  let c1_i32_1 : BitVec 32 := 1#32
  let v4 : BitVec 32 := Scalar.addi arg0 c1_i32_1
  let c1_i32_2 : BitVec 32 := 1#32
  let v5 : BitVec 32 := Scalar.subi v4 c1_i32_2
  let c20_i32 : BitVec 32 := 20#32
  let v6 : BitVec 32 := Scalar.minsi v5 c20_i32
  let c0_i32 : BitVec 32 := 0#32
  let v7 : BitVec 32 := Scalar.addi c0_i32 v6
  let c0_i32_3 : BitVec 32 := 0#32
  ![v3.toNat, v7.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c1_i32_0 : BitVec 32 := 1#32
  let v1 : BitVec 32 := Scalar.subi v0 c1_i32_0
  let c21_i32 : BitVec 32 := 21#32
  let v2 : BitVec 1 := Scalar.cmpi .slt v1 c21_i32
  let c7_i32 : BitVec 32 := 7#32
  let v3 : BitVec 32 := Scalar.select v2 arg1 c7_i32
  let c1_i32_1 : BitVec 32 := 1#32
  let v4 : BitVec 32 := Scalar.addi arg0 c1_i32_1
  let c1_i32_2 : BitVec 32 := 1#32
  let v5 : BitVec 32 := Scalar.subi v4 c1_i32_2
  let c20_i32 : BitVec 32 := 20#32
  let v6 : BitVec 32 := Scalar.minsi v5 c20_i32
  let c0_i32 : BitVec 32 := 0#32
  let v7 : BitVec 32 := Scalar.addi c0_i32 v6
  let c0_i32_3 : BitVec 32 := 0#32
  ![v3.toNat, v7.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c171_i32 : BitVec 32 := 171#32
  let v2 : BitVec 32 := Scalar.minsi v1 c171_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg0 c1_i32
  let c0_i32 : BitVec 32 := 0#32
  let v1 : BitVec 32 := Scalar.select v0 c0_i32 arg1
  let c1_i32_0 : BitVec 32 := 1#32
  let v2 : BitVec 32 := Scalar.subi arg0 c1_i32_0
  let c0_i32_1 : BitVec 32 := 0#32
  let v3 : BitVec 32 := Scalar.maxsi v2 c0_i32_1
  let c0_i32_2 : BitVec 32 := 0#32
  let v4 : BitVec 32 := Scalar.addi c0_i32_2 v3
  let c0_i32_3 : BitVec 32 := 0#32
  ![v1.toNat, v4.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c171_i32 : BitVec 32 := 171#32
  let v2 : BitVec 32 := Scalar.minsi v1 c171_i32
  let c0_i32 : BitVec 32 := 0#32
  let c0_i32_0 : BitVec 32 := 0#32
  ![v2.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference6Ideal.lean ====
abbrev S8192x4096 : Shape := ⟨2, ![8192, 4096]⟩
abbrev S4096x11008 : Shape := ⟨2, ![4096, 11008]⟩
abbrev S11008x4096 : Shape := ⟨2, ![11008, 4096]⟩
abbrev S4096x5120 : Shape := ⟨2, ![4096, 5120]⟩
abbrev S4096x4096 : Shape := ⟨2, ![4096, 4096]⟩
abbrev S4096x10752 : Shape := ⟨2, ![4096, 10752]⟩
abbrev S8192x10752 : Shape := ⟨2, ![8192, 10752]⟩
abbrev S_ : Shape := ⟨0, ![]⟩
abbrev S4096x3072 : Shape := ⟨2, ![4096, 3072]⟩
abbrev S11008x512 : Shape := ⟨2, ![11008, 512]⟩

abbrev nBuf : Space → Nat
  | .hbm => 26
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x11008, .f32⟩
  | .hbm, ⟨2, _⟩ => ⟨S4096x11008, .f32⟩
  | .hbm, ⟨3, _⟩ => ⟨S11008x4096, .f32⟩
  | .hbm, ⟨4, _⟩ => ⟨S4096x5120, .f32⟩
  | .hbm, ⟨5, _⟩ => ⟨S4096x4096, .f32⟩
  | .hbm, ⟨6, _⟩ => ⟨S4096x10752, .f32⟩
  | .hbm, ⟨7, _⟩ => ⟨S4096x10752, .f32⟩
  | .hbm, ⟨8, _⟩ => ⟨S8192x10752, .f32⟩
  | .hbm, ⟨9, _⟩ => ⟨S8192x10752, .f32⟩
  | .hbm, ⟨10, _⟩ => ⟨S8192x10752, .f32⟩
  | .hbm, ⟨11, _⟩ => ⟨S_, .f32⟩
  | .hbm, ⟨12, _⟩ => ⟨S8192x10752, .f32⟩
  | .hbm, ⟨13, _⟩ => ⟨S8192x10752, .f32⟩
  | .hbm, ⟨14, _⟩ => ⟨S_, .f32⟩
  | .hbm, ⟨15, _⟩ => ⟨S8192x10752, .f32⟩
  | .hbm, ⟨16, _⟩ => ⟨S8192x10752, .f32⟩
  | .hbm, ⟨17, _⟩ => ⟨S8192x10752, .f32⟩
  | .hbm, ⟨18, _⟩ => ⟨S8192x10752, .f32⟩
  | .hbm, ⟨19, _⟩ => ⟨S8192x10752, .f32⟩
  | .hbm, ⟨20, _⟩ => ⟨S8192x10752, .bf16⟩
  | .hbm, ⟨21, _⟩ => ⟨S4096x3072, .f32⟩
  | .hbm, ⟨22, _⟩ => ⟨S4096x3072, .bf16⟩
  | .hbm, ⟨23, _⟩ => ⟨S4096x4096, .bf16⟩
  | .hbm, ⟨24, _⟩ => ⟨S11008x512, .f32⟩
  | .hbm, ⟨25, _⟩ => ⟨S11008x512, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩

abbrev nD : Nat := 1
abbrev τ : Topo := Topo.v7x

variable {F : FTy → Type} [FloatOps F]
-- ==== Proof.Attn.Pieces.lean ====
/-
  THE ATTENTION KERNEL'S OUTPUT BLOCK, as one formula.

  At a grid point (batch b, key/value head h) the kernel writes sixty-four tiles of 128 by 128 elements: tile (n, c) is
  the output of query block n (of sixteen) for the c-th of the four query heads that share this key/value head. All
  sixty-four are one and the same function `headTile` of what the tile reads. `out_eq` says that the block the run leaves
  is, at every index, the tile that the index lies in.
-/
module

public import proofs.«01_k».proof.Proof.Gen.KernelIdeal.Value
public import Idealize.ShloMosaic.Lib.WholeRead
public import Idealize.ShloMosaic.Lib.Pointwise

@[expose] public section

set_option maxRecDepth 16384

noncomputable section

namespace Cert.KernelIdeal.Attn

open Cert.KernelIdeal Cert.KernelIdeal.Gen Idealize.ShloMosaic Idealize.ShloMosaic.TcCoe Idealize.SL.Sem

variable {F : FTy → Type} [FloatOps F]

/-- One head's attention for one block of 128 queries: from the head's sink, the previous and the current block of keys and of values,
    the additive mask, and the block of (scaled) queries. -/
def headTile (sk : Elt F .f32) (kp kc vp vc : Vec F S128x128 .bf16) (b : Vec F S1x256x128 .f32) (q : Vec F S128x128 .bf16) : FVec F S128x128 .bf16 :=
  k0_pay16 (k0_pay6 sk) (k0_pay11 vp vc) (k0_pay14 (k0_pay6 sk) kp kc b q) (k0_pay15 (k0_pay6 sk) kp kc b q)

theorem inb_rows : ∀ n : Fin 16, ∀ a, (![128 * n.val, 0] : Fin 2 → ℕ) a + S128x128.size a ≤ S2048x128.size a := by decide +kernel
theorem inb_tile : ∀ n : Fin 16, ∀ c : Fin 4, ∀ a, (![128 * n.val, 128 * c.val] : Fin 2 → ℕ) a + S128x128.size a ≤ S2048x512.size a := by decide +kernel

/-- The rectangle of block `n` of the rows of a [2048, 128] block. -/
def rowsRect (n : Fin 16) : Rect S2048x128 := Rect.unit ![128 * n.val, 0] S128x128.size (inb_rows n)
/-- The rectangle of tile `(n, c)` of a [2048, 512] block. -/
def tileRect (n : Fin 16) (c : Fin 4) : Rect S2048x512 := Rect.unit ![128 * n.val, 128 * c.val] S128x128.size (inb_tile n c)

/-- Block `n` of the rows of a [2048, 128] block. -/
def rowsOf (x : Vec F S2048x128 .bf16) (n : Fin 16) : Vec F S128x128 .bf16 := fun j => x ((rowsRect n).emb j)
/-- Tile `(n, c)` of a [2048, 512] block. -/
def tileOf (x : Vec F S2048x512 .bf16) (n : Fin 16) (c : Fin 4) : Vec F S128x128 .bf16 := fun j => x ((tileRect n c).emb j)
/-- The block before block `n`; block zero is its own. -/
def prevOf (n : Fin 16) : Fin 16 := ⟨n.val - 1, by omega⟩
/-- The mask of block `n`: the first block has no predecessor. -/
def maskOf (n : Fin 16) : Vec F S1x256x128 .f32 := if n.val = 0 then k0_pay4 else k0_pay5
/-- The sink of the `c`-th query head of the key/value head of grid point `i`. -/
def sinkOf (i : grid0.Coords) (x0 : Vec F S16 .f32) (c : Fin 4) : Elt F .f32 :=
  x0 ((Rect.unit (s := S16) (k0_off1 i (BitVec.ofNat 32 c.val)) S1.size (k0_off1_inb i c)).emb (Shape.Idx.first (s := S1) (by decide)))

/-- What the tile `(n, c)` holds. -/
def tileVal (i : grid0.Coords) (x0 : Vec F S16 .f32) (x1 : Vec F S2048x512 .bf16) (x2 x3 : Vec F S2048x128 .bf16) (n : Fin 16) (c : Fin 4) : FVec F S128x128 .bf16 :=
  headTile (sinkOf i x0 c) (rowsOf x2 (prevOf n)) (rowsOf x2 n) (rowsOf x3 (prevOf n)) (rowsOf x3 n) (maskOf n) (tileOf x1 n c)

/-- The tiles in the order in which the kernel writes them, the last first. -/
def tiles : List (Fin 16 × Fin 4) := (List.finRange 16).reverse.flatMap fun n => (List.finRange 4).reverse.map fun c => (n, c)

theorem readAt_whole {κ : Kind} {sp : Space} {s : Shape} {e : EltTy} {m : Memref sig κ sp s e} (h : m.IsWhole) (X : s.Idx → Elt F e) (R : Rect s) :
    View.readAt (Elt F) m.view R.toLoadRect (h.unread X) = fun x => X (R.emb x) :=
  funext fun x => h.readAt_unread X R.toLoadRect x

theorem mask_one (arg7 : Memref sig .tc .vmem S2x256x128 .f32) (h h' h'') :
    View.readCov (Val := Elt F) arg7.view [⟨Rect.unit (s := S2x256x128) ![1, 0, 0] ![1, 256, 128] h, (k0_pay5 : Vec F S1x256x128 .f32)⟩, ⟨Rect.unit (s := S2x256x128) ![0, 0, 0] ![1, 256, 128] h', (k0_pay4 : Vec F S1x256x128 .f32)⟩]
      (Rect.unit (s := S2x256x128) ![1, 0, 0] ![1, 256, 128] h'').toLoadRect = (k0_pay5 : Vec F S1x256x128 .f32) :=
  View.readCov_cons_toLoadRect _ _ _ _

theorem mask_zero (arg7 : Memref sig .tc .vmem S2x256x128 .f32) (h h' h'') :
    View.readCov (Val := Elt F) arg7.view [⟨Rect.unit (s := S2x256x128) ![1, 0, 0] ![1, 256, 128] h, (k0_pay5 : Vec F S1x256x128 .f32)⟩, ⟨Rect.unit (s := S2x256x128) ![0, 0, 0] ![1, 256, 128] h', (k0_pay4 : Vec F S1x256x128 .f32)⟩]
      (Rect.unit (s := S2x256x128) ![0, 0, 0] ![1, 256, 128] h'').toLoadRect = (k0_pay4 : Vec F S1x256x128 .f32) := by
  rw [View.readCov_cons_of_disjoint]
  · exact View.readCov_cons_toLoadRect _ _ _ _
  · rw [Finset.disjoint_left]
    intro y hy hy'
    have h1 := (Rect.mem_set_unit (inb := h)).1 hy 0
    have h2 := (Rect.mem_set_unit (inb := h'')).1 hy' 0
    have e1 : (![1, 0, 0] : Fin 3 → ℕ) 0 = 1 := rfl
    have e2 : (![0, 0, 0] : Fin 3 → ℕ) 0 = 0 := rfl
    have e3 : (![1, 256, 128] : Fin 3 → ℕ) 0 = 1 := rfl
    omega

variable (c : Dev nD) (i : grid0.Coords) (arg2 : Memref sig .tc .smem S16 .f32) (harg2 : arg2.IsWhole) (arg3 : Memref sig .tc .vmem S2048x512 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x512 .bf16) (harg6 : arg6.IsWhole) (arg7 : Memref sig .tc .vmem S2x256x128 .f32) (harg7 : arg7.IsWhole)
    (x0 : Vec F S16 .f32) (x1 : Vec F S2048x512 .bf16) (x2 : Vec F S2048x128 .bf16) (x3 : Vec F S2048x128 .bf16)

set_option backward.isDefEq.respectTransparency false in
/-- The run's pieces are the sixty-four tiles. -/
theorem pieces_eq :
    (kernelRun0_A c i arg2 harg2 arg3 harg3 arg4 harg4 arg5 harg5 arg6 harg6 arg7 harg7 x0 x1 x2 x3).1
      = tiles.map fun p => (⟨tileRect p.1 p.2, tileVal i x0 x1 x2 x3 p.1 p.2⟩ : View.Piece (Elt F) S2048x512 .bf16) := by
  dsimp only [kernelRun0_A]
  sl_unfold_run_names
  simp only [readAt_whole, mask_one, mask_zero]
  rfl

/-- What the output block holds at an index: its tile's element. -/
def blockVal (i : grid0.Coords) (x0 : Vec F S16 .f32) (x1 : Vec F S2048x512 .bf16) (x2 x3 : Vec F S2048x128 .bf16) (r : Fin 2048) (d : Fin 512) : Elt F .bf16 :=
  tileVal i x0 x1 x2 x3 ⟨r.val / 128, by omega⟩ ⟨d.val / 128, by omega⟩ (ix2 ⟨r.val % 128, by omega⟩ ⟨d.val % 128, by omega⟩)

theorem blockVal_emb (n : Fin 16) (k : Fin 4) (a b : Fin 128) (h : 128 * n.val + a.val < 2048) (h' : 128 * k.val + b.val < 512) :
    blockVal i x0 x1 x2 x3 ⟨128 * n.val + a.val, h⟩ ⟨128 * k.val + b.val, h'⟩ = tileVal i x0 x1 x2 x3 n k (ix2 a b) := by
  have e1 : (⟨(128 * n.val + a.val) / 128, by omega⟩ : Fin 16) = n := Fin.ext (by show (128 * n.val + a.val) / 128 = n.val; omega)
  have e2 : (⟨(128 * k.val + b.val) / 128, by omega⟩ : Fin 4) = k := Fin.ext (by show (128 * k.val + b.val) / 128 = k.val; omega)
  have e3 : (⟨(128 * n.val + a.val) % 128, by omega⟩ : Fin 128) = a := Fin.ext (by show (128 * n.val + a.val) % 128 = a.val; omega)
  have e4 : (⟨(128 * k.val + b.val) % 128, by omega⟩ : Fin 128) = b := Fin.ext (by show (128 * k.val + b.val) % 128 = b.val; omega)
  unfold blockVal
  rw [e1, e2, e3, e4]

/-- A buffer written with the sixty-four tiles reads, at an index that a tile covers, that tile's element. -/
theorem read_tiles {sp : Space} (v : View sig .tc sp S2048x512 .bf16) (f : v.ty.Contents (Elt F)) (L : List (View.Piece (Elt F) S2048x512 .bf16))
    (hL : L = tiles.map fun p => (⟨tileRect p.1 p.2, tileVal i x0 x1 x2 x3 p.1 p.2⟩ : View.Piece (Elt F) S2048x512 .bf16))
    (r : Fin 2048) (d : Fin 512) (hc : ∃ p ∈ L, ix2 r d ∈ p.1.set) : v.read (Elt F) (v.writes (Elt F) f L) (ix2 r d) = blockVal i x0 x1 x2 x3 r d := by
  refine View.read_writes_apply_of_pieces v f (fun y => blockVal i x0 x1 x2 x3 (y 0) (y 1)) L ?_ (ix2 r d) hc
  rw [hL]
  intro p hp x
  obtain ⟨⟨n, k⟩, _, rfl⟩ := List.mem_map.1 hp
  change S128x128.Idx at x
  obtain ⟨a, b, rfl⟩ : ∃ (a b : Fin 128), x = ix2 a b := ⟨x 0, x 1, eq_ix2 x⟩
  have h1 : 128 * n.val + a.val < 2048 := by omega
  have h2 : 128 * k.val + b.val < 512 := by omega
  refine (blockVal_emb i x0 x1 x2 x3 n k a b h1 h2).symm.trans (congrArg₂ (blockVal i x0 x1 x2 x3) (Fin.ext ?_) (Fin.ext ?_))
  · show 128 * n.val + a.val = 128 * n.val + 1 * a.val
    omega
  · show 128 * k.val + b.val = 128 * k.val + 1 * b.val
    omega

/-- The output block after the run, at an index. -/
theorem out_eq (r : Fin 2048) (d : Fin 512) :
    out0_A_4 c i arg2 harg2 arg3 harg3 arg4 harg4 arg5 harg5 arg6 harg6 arg7 harg7 x0 x1 x2 x3 (ix2 r d) = blockVal i x0 x1 x2 x3 r d := by
  unfold out0_A_4
  exact read_tiles i x0 x1 x2 x3 _ _ _ (pieces_eq c i arg2 harg2 arg3 harg3 arg4 harg4 arg5 harg5 arg6 harg6 arg7 harg7 x0 x1 x2 x3) r d
    (cover0_A_4 c i arg2 harg2 arg3 harg3 arg4 harg4 arg5 harg5 arg6 harg6 arg7 harg7 x0 x1 x2 x3 (ix2 r d))

end Cert.KernelIdeal.Attn

end
-- ==== Proof.Attn.Windows.lean ====
/-
  WHAT THE ATTENTION KERNEL'S WINDOWS HOLD: the blocks of the prepared array, in the terms of queries, keys and values.
-/
module

public import proofs.«01_k».proof.Proof.Gen.KernelIdeal.Value
public import proofs.«01_k».proof.Proof.Attn.Pieces
public import Idealize.ShloMosaic.Lib.Pipeline.ValueKit

@[expose] public section

set_option maxRecDepth 16384

noncomputable section

namespace Cert.KernelIdeal.Attn

open Cert.KernelIdeal Cert.KernelIdeal.Gen Idealize.ShloMosaic Idealize.ShloMosaic.TcCoe Idealize.SL.Sem

section
variable {F : FTy → Type} [FloatOps F]

/-- The array that three of the windows read: scaled queries, keys and values side by side, a row per position. -/
def qkv (q : FVec F S4x2048x16x128 .f32) (k v : FVec F S4x2048x4x128 .f32) : FVec F S8192x3072 .bf16 :=
  truncf .bf16 (concatenate S8192x3072 1 [⟨S8192x2048, shapeCast _ (mulf q (broadcastInDim S4x2048x16x128 ![] bcast_S_S4x2048x16x128 (constant S_ .f32 0x3DB504F3#32))) shapeCasts_S4x2048x16x128_S8192x2048⟩, ⟨S8192x512, shapeCast _ k shapeCasts_S4x2048x4x128_S8192x512⟩, ⟨S8192x512, shapeCast _ v shapeCasts_S4x2048x4x128_S8192x512⟩] concatenates_S8192x2048_S8192x512_S8192x512_S8192x3072_d1) bitsLt_bf16_f32

variable (m : (ℓ : Loc nD τ sig) → Buf (Elt F) ℓ)

/-- The host operations before the launch compute it. -/
theorem V_qkv (c : Dev nD) : V m c main_v6 = qkv (m ((c.tc : Thread nD τ).loc main_arg0)) (m ((c.tc : Thread nD τ).loc main_arg1)) (m ((c.tc : Thread nD τ).loc main_arg2)) := by
  unfold V
  simp only [hostOps0]
  after_results_simp <;> rfl

end

theorem qkv_q (q : FVec Ideal S4x2048x16x128 .f32) (k v : FVec Ideal S4x2048x4x128 .f32) (R : Fin 8192) (h : Fin 16) (d : Fin 128) :
    (qkv q k v (ix2 R ⟨h.val * 128 + d.val, by omega⟩) : EReal) = q (ix4 ⟨R.val / 2048, by omega⟩ ⟨R.val % 2048, by omega⟩ h d) * Ideal.ofBits .f32 0x3DB504F3#32 := by
  pointwise [qkv]
  exact dif_pos (by omega)

theorem qkv_k (q : FVec Ideal S4x2048x16x128 .f32) (k v : FVec Ideal S4x2048x4x128 .f32) (R : Fin 8192) (h : Fin 4) (d : Fin 128) :
    (qkv q k v (ix2 R ⟨2048 + (h.val * 128 + d.val), by omega⟩) : EReal) = k (ix4 ⟨R.val / 2048, by omega⟩ ⟨R.val % 2048, by omega⟩ h d) := by
  pointwise [qkv]
  exact dif_pos (by omega)

theorem qkv_v (q : FVec Ideal S4x2048x16x128 .f32) (k v : FVec Ideal S4x2048x4x128 .f32) (R : Fin 8192) (h : Fin 4) (d : Fin 128) :
    (qkv q k v (ix2 R ⟨2560 + (h.val * 128 + d.val), by omega⟩) : EReal) = v (ix4 ⟨R.val / 2048, by omega⟩ ⟨R.val % 2048, by omega⟩ h d) := by
  pointwise [qkv]
  refine (dif_neg (by omega)).trans ((dif_neg (by omega)).trans ?_)
  refine congrArg₂ (fun (e : Fin 4) (f : Fin 128) => v (ix4 ⟨R.val / 2048, by omega⟩ ⟨R.val % 2048, by omega⟩ e f)) (Fin.ext ?_) (Fin.ext ?_)
  · show (2560 + (h.val * 128 + d.val) - 2048 - 512) / 128 = h.val
    omega
  · show (2560 + (h.val * 128 + d.val) - 2048 - 512) % 128 = d.val
    omega

/-- The windows' index maps: batch and key/value head of a grid point. -/
theorem idx : ∀ t : Fin grid0.N, win0_0.index t = ![0] ∧ win0_1.index t = ![t.val / 4, t.val % 4] ∧ win0_2.index t = ![t.val / 4, 16 + t.val % 4]
    ∧ win0_3.index t = ![t.val / 4, 20 + t.val % 4] ∧ win0_4.index t = ![t.val / 4, t.val % 4] := by decide +kernel

theorem coords : ∀ t : Fin grid0.N, (grid0.coords t 1).val = t.val % 4 := by decide +kernel

theorem ltN (t : Fin grid0.N) : t.val < 16 := t.isLt

variable (m : (ℓ : Loc nD τ sig) → Buf (Elt Ideal) ℓ) (c : Dev nD) (t : Fin cfg0.N)

theorem block1 (a : Fin 2048) (e : Fin 512) : iblk m c 1 t (ix2 a e) = V m c main_v6 (ix2 ⟨t.val / 4 * 2048 + a.val, by have := ltN t; omega⟩ ⟨t.val % 4 * 512 + e.val, by omega⟩) := by
  have := ltN t
  blk_ext [iblk, idx t]

theorem block2 (a : Fin 2048) (e : Fin 128) : iblk m c 2 t (ix2 a e) = V m c main_v6 (ix2 ⟨t.val / 4 * 2048 + a.val, by have := ltN t; omega⟩ ⟨2048 + (t.val % 4 * 128 + e.val), by omega⟩) := by
  have := ltN t
  blk_ext [iblk, idx t]

theorem block3 (a : Fin 2048) (e : Fin 128) : iblk m c 3 t (ix2 a e) = V m c main_v6 (ix2 ⟨t.val / 4 * 2048 + a.val, by have := ltN t; omega⟩ ⟨2560 + (t.val % 4 * 128 + e.val), by omega⟩) := by
  have := ltN t
  blk_ext [iblk, idx t]

theorem block0 (a : Fin 16) : iblk m c 0 t (ix1 a) = V m c main_arg3 (ix1 a) := by
  have := ltN t
  blk_ext [iblk, idx t]

end Cert.KernelIdeal.Attn

end
-- ==== Proof.Attn.Spec.lean ====
/-
  ONE ROW OF ATTENTION over the extended reals.

  `attend S k V` is a query's output from its 256 scores `S`, its sink `k` and the values `V`: softmax over the scores and
  the sink, the sink's weight dropped. `attend_halves` is the kernel's form of it: two halves of 128 keys, the exponentials multiplied by
  the reciprocal of the denominator, values that may be anything at a key whose score is minus infinity.
-/
module

public import Idealize.ShloMosaic.PureOps.Ideal
public import Idealize.ShloMosaic.PureOps.Ideal.Laws

@[expose] public section

noncomputable section

namespace Cert.Attn

open Idealize.ShloMosaic

theorem ofBits_neg_inf : Ideal.ofBits .f32 0xFF800000#32 = ⊥ := by simp [Ideal.ofBits, Ideal.ieee]
theorem ofBits_pos_inf : Ideal.ofBits .f32 0x7F800000#32 = ⊤ := by simp [Ideal.ofBits, Ideal.ieee]

/-- The constant the scores are scaled by is a real number. -/
theorem scale_real : ∃ c : ℝ, Ideal.ofBits .f32 0x3DB504F3#32 = (c : EReal) :=
  ⟨_, by simp [Ideal.ofBits, Ideal.ieee, -EReal.coe_mul]; rfl⟩

/-- The maximum of the scores and the sink. -/
def rowMax (S : Fin 256 → EReal) (k : EReal) : EReal := max (Finset.univ.fold max ⊥ S) k

/-- The softmax denominator. -/
def rowDen (S : Fin 256 → EReal) (k : EReal) : EReal :=
  (∑ j, Ideal.exp (S j - rowMax S k)) + Ideal.exp (k - rowMax S k)

/-- The output of one query. -/
def attend (S : Fin 256 → EReal) (k : EReal) (V : Fin 256 → EReal) : EReal :=
  ∑ j, V j * Ideal.div (Ideal.exp (S j - rowMax S k)) (rowDen S k)

/-- Key `x` of the previous block. -/
def lo (x : Fin 128) : Fin 256 := ⟨x.val, by omega⟩
/-- Key `x` of the current block. -/
def hi (x : Fin 128) : Fin 256 := ⟨128 + x.val, by omega⟩

theorem sum_halves (f : Fin 256 → EReal) : ∑ j, f j = (∑ x, f (lo x)) + ∑ x, f (hi x) :=
  Fin.sum_univ_add (a := 128) (b := 128) f

theorem exp_nonneg (x : EReal) : 0 ≤ Ideal.exp x := by
  induction x with
  | bot => exact le_refl _
  | top => exact le_top
  | coe r => exact EReal.coe_nonneg.2 (Real.exp_pos r).le

theorem fold_max_ne_top (S : Fin 256 → EReal) (h : ∀ j, S j ≠ ⊤) : Finset.univ.fold max ⊥ S ≠ ⊤ := by
  rw [← lt_top_iff_ne_top, Finset.fold_max_lt]
  exact ⟨bot_lt_top, fun j _ => lt_top_iff_ne_top.2 (h j)⟩

/-- With a real sink and no score plus infinity, the denominator is positive. -/
theorem rowDen_pos (S : Fin 256 → EReal) (k : ℝ) (h : ∀ j, S j ≠ ⊤) : 0 < rowDen S k := by
  have hM : rowMax S k ≠ ⊤ := by
    unfold rowMax
    rw [← lt_top_iff_ne_top]
    exact max_lt (lt_top_iff_ne_top.2 (fold_max_ne_top S h)) (EReal.coe_lt_top k)
  have hk : 0 < Ideal.exp (k - rowMax S k) := by
    have hb : rowMax S k ≠ ⊥ := fun e => by
      have : ((k : ℝ) : EReal) ≤ ⊥ := e ▸ le_max_right _ _
      exact absurd (le_bot_iff.1 this) (EReal.coe_ne_bot k)
    lift rowMax S k to ℝ using ⟨hM, hb⟩ with M
    rw [← EReal.coe_sub]
    exact EReal.coe_pos.2 (Real.exp_pos _)
  exact lt_of_lt_of_le hk (le_add_of_nonneg_left (Finset.sum_nonneg fun j _ => exp_nonneg _))

theorem mul_div_one (e d : EReal) (hd : d ≠ 0) : e * Ideal.div 1 d = Ideal.div e d := by
  unfold Ideal.div
  rw [if_neg hd, if_neg hd, one_mul]

/-- The kernel's order of operations. -/
theorem attend_halves (S V V' : Fin 256 → EReal) (k : ℝ) (h : ∀ j, S j ≠ ⊤) (hV : ∀ j, S j = ⊥ ∨ V' j = V j) :
    (∑ x, Ideal.exp (S (lo x) - rowMax S k) * Ideal.div 1 ((∑ x, Ideal.exp (S (lo x) - rowMax S k)) + (∑ x, Ideal.exp (S (hi x) - rowMax S k)) + Ideal.exp (k - rowMax S k)) * V' (lo x))
      + (∑ x, Ideal.exp (S (hi x) - rowMax S k) * Ideal.div 1 ((∑ x, Ideal.exp (S (lo x) - rowMax S k)) + (∑ x, Ideal.exp (S (hi x) - rowMax S k)) + Ideal.exp (k - rowMax S k)) * V' (hi x))
      = attend S k V := by
  rw [← sum_halves fun j => Ideal.exp (S j - rowMax S k)]
  rw [← sum_halves fun j => Ideal.exp (S j - rowMax S k) * Ideal.div 1 ((∑ j, Ideal.exp (S j - rowMax S k)) + Ideal.exp (k - rowMax S k)) * V' j]
  have hd : rowDen S k ≠ 0 := (rowDen_pos S k h).ne'
  refine Finset.sum_congr rfl fun j _ => ?_
  show Ideal.exp (S j - rowMax S k) * Ideal.div 1 (rowDen S k) * V' j = _
  rw [mul_div_one _ _ hd]
  rcases hV j with e | e
  · rw [e, EReal.bot_sub, Ideal.exp_bot]
    have : Ideal.div 0 (rowDen S k) = 0 := by
      unfold Ideal.div
      rw [if_neg hd, zero_mul]
    rw [this, zero_mul, mul_zero]
  · rw [e, mul_comm]

/-- A scale moved into the queries: real entries. -/
theorem sum_scale (K Q : Fin 128 → EReal) (c : ℝ) (hK : ∀ d, K d ≠ ⊤ ∧ K d ≠ ⊥) (hQ : ∀ d, Q d ≠ ⊤ ∧ Q d ≠ ⊥) :
    ∑ d, K d * (Q d * c) = (∑ d, K d * Q d) * c := by
  obtain ⟨K, rfl⟩ : ∃ K' : Fin 128 → ℝ, K = fun d => (K' d : EReal) :=
    ⟨fun d => (K d).toReal, funext fun d => (EReal.coe_toReal (hK d).1 (hK d).2).symm⟩
  obtain ⟨Q, rfl⟩ : ∃ Q' : Fin 128 → ℝ, Q = fun d => (Q' d : EReal) :=
    ⟨fun d => (Q d).toReal, funext fun d => (EReal.coe_toReal (hQ d).1 (hQ d).2).symm⟩
  have cs : ∀ f : Fin 128 → ℝ, ((∑ d, f d : ℝ) : EReal) = ∑ d, (f d : EReal) := fun f =>
    map_sum (⟨⟨fun x : ℝ => (x : EReal), EReal.coe_zero⟩, EReal.coe_add⟩ : ℝ →+ EReal) f Finset.univ
  simp only [← EReal.coe_mul, ← cs]
  rw [EReal.coe_eq_coe_iff, Finset.sum_mul]
  exact Finset.sum_congr rfl fun d _ => by ring

/-- A scaled product of real rows is real. -/
theorem sum_scale_ne_top (K Q : Fin 128 → EReal) (c : ℝ) (hK : ∀ d, K d ≠ ⊤ ∧ K d ≠ ⊥) (hQ : ∀ d, Q d ≠ ⊤ ∧ Q d ≠ ⊥) :
    (∑ d, K d * Q d) * c ≠ ⊤ := by
  obtain ⟨K, rfl⟩ : ∃ K' : Fin 128 → ℝ, K = fun d => (K' d : EReal) :=
    ⟨fun d => (K d).toReal, funext fun d => (EReal.coe_toReal (hK d).1 (hK d).2).symm⟩
  obtain ⟨Q, rfl⟩ : ∃ Q' : Fin 128 → ℝ, Q = fun d => (Q' d : EReal) :=
    ⟨fun d => (Q d).toReal, funext fun d => (EReal.coe_toReal (hQ d).1 (hQ d).2).symm⟩
  have cs : ∀ f : Fin 128 → ℝ, ((∑ d, f d : ℝ) : EReal) = ∑ d, (f d : EReal) := fun f =>
    map_sum (⟨⟨fun x : ℝ => (x : EReal), EReal.coe_zero⟩, EReal.coe_add⟩ : ℝ →+ EReal) f Finset.univ
  simp only [← EReal.coe_mul, ← cs]
  exact EReal.coe_ne_top _

end Cert.Attn

end
-- ==== Proof.Attn.Tile.lean ====
/-
  THE KERNEL'S TILE at the extended reals: one query of one head, read at an index.
-/
module

public import proofs.«01_k».proof.Proof.Attn.Pieces
public import proofs.«01_k».proof.Proof.Attn.Spec

@[expose] public section

set_option maxRecDepth 16384

noncomputable section

namespace Cert.KernelIdeal.Attn

open Cert.KernelIdeal Cert.KernelIdeal.Gen Idealize.ShloMosaic Idealize.ShloMosaic.TcCoe Idealize.SL.Sem
open Cert.Attn

/-- The score of query `r` against key `x` of the two blocks, the mask added. -/
def tileScore (kp kc : FVec Ideal S128x128 .bf16) (b : FVec Ideal S1x256x128 .f32) (q : FVec Ideal S128x128 .bf16) (r : Fin 128) (x : Fin 256) : EReal :=
  (∑ d : Fin 128, (if h : x.val < 128 then kp (ix2 ⟨x.val, h⟩ d) else kc (ix2 ⟨x.val - 128, by omega⟩ d)) * q (ix2 r d)) + b (ix3 0 x r)

/-- Column `d` of the values of the two blocks. -/
def tileValues (vp vc : FVec Ideal S128x128 .bf16) (d : Fin 128) (x : Fin 256) : EReal :=
  if h : x.val < 128 then vp (ix2 ⟨x.val, h⟩ d) else vc (ix2 ⟨x.val - 128, by omega⟩ d)

theorem tileScore_lo (kp kc : FVec Ideal S128x128 .bf16) (b : FVec Ideal S1x256x128 .f32) (q : FVec Ideal S128x128 .bf16) (r x : Fin 128) :
    tileScore kp kc b q r (lo x) = (∑ d : Fin 128, kp (ix2 x d) * q (ix2 r d)) + b (ix3 0 ⟨x.val, by omega⟩ r) := by
  unfold tileScore lo
  simp only [x.isLt, dif_pos]

theorem tileScore_hi (kp kc : FVec Ideal S128x128 .bf16) (b : FVec Ideal S1x256x128 .f32) (q : FVec Ideal S128x128 .bf16) (r x : Fin 128) :
    tileScore kp kc b q r (hi x) = (∑ d : Fin 128, kc (ix2 x d) * q (ix2 r d)) + b (ix3 0 ⟨128 + x.val, by omega⟩ r) := by
  unfold tileScore hi
  simp only [show ¬ (128 + x.val < 128) by omega, dif_neg, not_false_iff, Nat.add_sub_cancel_left]

theorem tileValues_lo (vp vc : FVec Ideal S128x128 .bf16) (d x : Fin 128) : tileValues vp vc d (lo x) = vp (ix2 x d) := by
  unfold tileValues lo
  simp only [x.isLt, dif_pos]

theorem tileValues_hi (vp vc : FVec Ideal S128x128 .bf16) (d x : Fin 128) : tileValues vp vc d (hi x) = vc (ix2 x d) := by
  unfold tileValues hi
  simp only [show ¬ (128 + x.val < 128) by omega, dif_neg, not_false_iff, Nat.add_sub_cancel_left]

theorem headTile_apply (sk : EReal) (kp kc vp vc : FVec Ideal S128x128 .bf16) (b : FVec Ideal S1x256x128 .f32) (q : FVec Ideal S128x128 .bf16) (r d : Fin 128)
    (S V : Fin 256 → EReal) (hS : S = tileScore kp kc b q r) (hV : V = tileValues vp vc d) :
    (headTile (F := Ideal) sk kp kc vp vc b q (ix2 r d) : EReal)
      = (∑ x, Ideal.exp (S (lo x) - rowMax S sk) * Ideal.div 1 ((∑ x, Ideal.exp (S (lo x) - rowMax S sk)) + (∑ x, Ideal.exp (S (hi x) - rowMax S sk)) + Ideal.exp (sk - rowMax S sk)) * V (lo x))
      + (∑ x, Ideal.exp (S (hi x) - rowMax S sk) * Ideal.div 1 ((∑ x, Ideal.exp (S (lo x) - rowMax S sk)) + (∑ x, Ideal.exp (S (hi x) - rowMax S sk)) + Ideal.exp (sk - rowMax S sk)) * V (hi x)) := by
  have e1 : ∀ x, S (lo x) = _ := fun x => (congrFun hS _).trans (tileScore_lo kp kc b q r x)
  have e2 : ∀ x, S (hi x) = _ := fun x => (congrFun hS _).trans (tileScore_hi kp kc b q r x)
  have e3 : ∀ x, V (lo x) = _ := fun x => (congrFun hV _).trans (tileValues_lo vp vc d x)
  have e4 : ∀ x, V (hi x) = _ := fun x => (congrFun hV _).trans (tileValues_hi vp vc d x)
  have eM : rowMax S sk = max (Finset.univ.fold max (Ideal.ofBits .f32 0xFF800000#32) (fun x : Fin 256 => (∑ d : Fin 128, (if h : x.val < 128 then kp (ix2 ⟨x.val, h⟩ d) else kc (ix2 ⟨x.val - 128, by omega⟩ d)) * q (ix2 r d)) + b (ix3 0 x r))) sk := by
    rw [hS, ofBits_neg_inf]; rfl
  simp only [e1, e2, e3, e4]
  generalize rowMax S sk = M at eM ⊢
  subst eM
  pointwise [headTile, k0_pay16, k0_pay6, k0_pay11, k0_pay14, k0_pay15, k0_pay13, k0_pay10, k0_pay12]

end Cert.KernelIdeal.Attn

end
-- ==== Proof.Attn.Mask.lean ====
/-
  THE KERNEL'S TWO ADDITIVE MASKS, read at an index.
-/
module

public import proofs.«01_k».proof.Proof.Gen.KernelIdeal.Skeleton
public import proofs.«01_k».proof.Proof.Attn.Spec
public import Idealize.ShloMosaic.Lib.Pointwise

@[expose] public section

set_option maxRecDepth 16384

noncomputable section

namespace Cert.KernelIdeal.Attn

open Cert.KernelIdeal Cert.KernelIdeal.Gen Idealize.ShloMosaic Idealize.ShloMosaic.TcCoe Idealize.SL.Sem
open Cert.Attn

/-- The mask of the first block at (key, query): its own keys up to the query. -/
theorem mask4_apply (j : Fin 256) (r : Fin 128) : (k0_pay4 (F := Ideal) (ix3 0 j r) : EReal) = if r.val < j.val ∧ j.val ≤ r.val + 128 ∧ 128 ≤ j.val then 0 else ⊥ := by
  have key : ∀ w : BitVec 1, w = (if r.val < j.val ∧ j.val ≤ r.val + 128 ∧ 128 ≤ j.val then 1#1 else 0#1) →
      Scalar.select w (0 : EReal) (Ideal.ofBits .f32 0xFF800000#32) = if r.val < j.val ∧ j.val ≤ r.val + 128 ∧ 128 ≤ j.val then 0 else ⊥ := by
    intro w hw
    rw [hw, ofBits_neg_inf]
    split
    · rfl
    · rfl
  pointwise [k0_pay4, k0_pay3]
  refine key _ ?_
  clear key
  revert j r
  decide +kernel

/-- The mask of a later block: its own keys up to the query, and the previous block's keys after it. -/
theorem mask5_apply (j : Fin 256) (r : Fin 128) : (k0_pay5 (F := Ideal) (ix3 0 j r) : EReal) = if r.val < j.val ∧ j.val ≤ r.val + 128 then 0 else ⊥ := by
  have key : ∀ w : BitVec 1, w = (if r.val < j.val ∧ j.val ≤ r.val + 128 then 1#1 else 0#1) →
      Scalar.select w (0 : EReal) (Ideal.ofBits .f32 0xFF800000#32) = if r.val < j.val ∧ j.val ≤ r.val + 128 then 0 else ⊥ := by
    intro w hw
    rw [hw, ofBits_neg_inf]
    split
    · rfl
    · rfl
  pointwise [k0_pay5, k0_pay3]
  refine key _ ?_
  clear key
  revert j r
  decide +kernel

end Cert.KernelIdeal.Attn

end
-- ==== Proof.Attn.Ref.lean ====
/-
  THE REFERENCE ATTENTION, read at an index.

  The reference's composed term is cut into its mathematical steps (keys and values with their previous block, the band
  mask, masked scores, maximum, exponentials, denominator, probabilities, output), each a definition over the arrays of
  the step before with a lemma that reads it at an index.
-/
module

public import proofs.«01_k».proof.Proof.Gen.ReferenceIdeal.Run
public import proofs.«01_k».proof.Proof.Attn.Spec
public import Idealize.ShloMosaic.Lib.Pointwise

@[expose] public section

set_option maxRecDepth 16384

noncomputable section

namespace Cert.ReferenceIdeal.Attn

open Idealize.ShloMosaic Idealize.ShloMosaic.TcCoe Idealize.SL.Sem
open Cert.Attn Cert.ReferenceIdeal Cert.ReferenceIdeal.Gen Cert.ReferenceIdeal.Value

/-- A key or value of block `n` or of the block before it, zero before the first. -/
def prevAt (t : FVec Ideal S4x2048x4x128 .f32) (b : Fin 4) (n : Fin 16) (j : Fin 256) (h : Fin 4) (d : Fin 128) : EReal :=
  if hj : j.val < 128 then (if hn : n.val < 1 then 0 else t (ix4 b ⟨(n.val - 1) * 128 + j.val, by omega⟩ h d))
  else t (ix4 b ⟨n.val * 128 + (j.val - 128), by omega⟩ h d)

/-- Each block of 128 positions preceded by the block before it (zeros before the first). -/
def withPrev (t : FVec Ideal S4x2048x4x128 .f32) : FVec Ideal S4x16x256x4x128 .f32 :=
  concatenate S4x16x256x4x128 2 [⟨S4x16x128x4x128, (concatenate S4x16x128x4x128 1 [⟨S4x1x128x4x128, (broadcastInDim S4x1x128x4x128 ![] bcast_S_S4x1x128x4x128 (constant (F := Ideal) S_ .f32 0x00000000#32))⟩, ⟨S4x15x128x4x128, (extractStridedSlice S4x15x128x4x128 ![0, 0, 0, 0, 0] (shapeCast _ t shapeCasts_S4x2048x4x128_S4x16x128x4x128) slices_S4x16x128x4x128_S4x15x128x4x128_0_0_0_0_0)⟩] concatenates_S4x1x128x4x128_S4x15x128x4x128_S4x16x128x4x128_d1)⟩, ⟨S4x16x128x4x128, (shapeCast _ t shapeCasts_S4x2048x4x128_S4x16x128x4x128)⟩] concatenates_S4x16x128x4x128_S4x16x128x4x128_S4x16x256x4x128_d2

/-- The band: the query at row `r` of a block sees key `j` of the two blocks. -/
def bandM : IVec S128x256 1 :=
  andi (cmpi .sge (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32))) (cmpi .slt (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32)))

/-- Blocks after the first have a previous block; the first sees its own keys only. -/
def haveM : IVec S16x1x256 1 :=
  ori (broadcastInDim S16x1x256 ![0, 1, 2] bcast_S16x1x1_S16x1x256_0_1_2 (cmpi .sgt (broadcastInDim S16x1x1 ![0] bcast_S16_S16x1x1_0 (iotaInDim S16 32 0)) (broadcastInDim S16x1x1 ![] bcast_S_S16x1x1 (constantI S_ 32 0#32)))) (broadcastInDim S16x1x256 ![0, 1, 2] bcast_S1x1x256_S16x1x256_0_1_2 (broadcastInDim S1x1x256 ![1, 2] bcast_S1x256_S1x1x256_1_2 (cmpi .sge (broadcastInDim S1x256 ![1] bcast_S256_S1x256_1 (iotaInDim S256 32 0)) (broadcastInDim S1x256 ![] bcast_S_S1x256 (constantI S_ 32 128#32)))))

def validM (band : IVec S128x256 1) (have' : IVec S16x1x256 1) : IVec S4x4x4x16x128x256 1 :=
  broadcastInDim S4x4x4x16x128x256 ![0, 1, 2, 3, 4, 5] bcast_S1x1x1x16x128x256_S4x4x4x16x128x256_0_1_2_3_4_5 (broadcastInDim S1x1x1x16x128x256 ![3, 4, 5] bcast_S16x128x256_S1x1x1x16x128x256_3_4_5 (andi (broadcastInDim S16x128x256 ![0, 1, 2] bcast_S1x128x256_S16x128x256_0_1_2 (broadcastInDim S1x128x256 ![1, 2] bcast_S128x256_S1x128x256_1_2 band)) (broadcastInDim S16x128x256 ![0, 1, 2] bcast_S16x1x256_S16x128x256_0_1_2 have')))

/-- The scaled scores. -/
def scoreR (q : FVec Ideal S4x2048x16x128 .f32) (kb : FVec Ideal S4x16x256x4x128 .f32) : FVec Ideal S4x4x4x16x128x256 .f32 :=
  mulf (transpose S4x4x4x16x128x256 [0, 1, 5, 2, 4, 3] (Host.dotGeneral dot_S4x16x256x4x128_S4x16x128x4x4x128_S4x4x16x256x128x4_4_5_2_24_031_031 none kb (shapeCast _ q shapeCasts_S4x2048x16x128_S4x16x128x4x4x128)) transposes_S4x4x16x256x128x4_S4x4x4x16x128x256_0_1_5_2_4_3) (broadcastInDim S4x4x4x16x128x256 ![] bcast_S_S4x4x4x16x128x256 (constant (F := Ideal) S_ .f32 0x3DB504F3#32))

/-- The masked scores. -/
def maskedR (va : IVec S4x4x4x16x128x256 1) (sc : FVec Ideal S4x4x4x16x128x256 .f32) : FVec Ideal S4x4x4x16x128x256 .f32 :=
  select va sc (broadcastInDim S4x4x4x16x128x256 ![] bcast_S_S4x4x4x16x128x256 (id (constant (F := Ideal) S_ .f32 0xFF800000#32)))

def sinkR (s : FVec Ideal S16 .f32) : FVec Ideal S4x4x4x16x128x1 .f32 :=
  broadcastInDim S4x4x4x16x128x1 ![0, 1, 2, 3, 4, 5] bcast_S1x4x4x1x1x1_S4x4x4x16x128x1_0_1_2_3_4_5 (broadcastInDim S1x4x4x1x1x1 ![1, 2] bcast_S4x4_S1x4x4x1x1x1_1_2 (shapeCast _ s shapeCasts_S16_S4x4))

/-- The row maximum, the sink included. -/
def maxR (sc : FVec Ideal S4x4x4x16x128x256 .f32) (sk : FVec Ideal S4x4x4x16x128x1 .f32) : FVec Ideal S4x4x4x16x128x1 .f32 :=
  maximumf (broadcastInDim S4x4x4x16x128x1 ![0, 1, 2, 3, 4] bcast_S4x4x4x16x128_S4x4x4x16x128x1_0_1_2_3_4 (Host.reduce (FloatOps.maximumf (F := Ideal) (φ := .f32)) sc (constant (F := Ideal) S_ .f32 0xFF800000#32) reducesTo_S4x4x4x16x128x256_S4x4x4x16x128_d5 h_S_)) sk

def expR (sc : FVec Ideal S4x4x4x16x128x256 .f32) (mx : FVec Ideal S4x4x4x16x128x1 .f32) : FVec Ideal S4x4x4x16x128x256 .f32 :=
  Host.exp (subf sc (broadcastInDim S4x4x4x16x128x256 ![0, 1, 2, 3, 4, 5] bcast_S4x4x4x16x128x1_S4x4x4x16x128x256_0_1_2_3_4_5 mx))

def denomR (e : FVec Ideal S4x4x4x16x128x256 .f32) (sk mx : FVec Ideal S4x4x4x16x128x1 .f32) : FVec Ideal S4x4x4x16x128x1 .f32 :=
  addf (broadcastInDim S4x4x4x16x128x1 ![0, 1, 2, 3, 4] bcast_S4x4x4x16x128_S4x4x4x16x128x1_0_1_2_3_4 (Host.reduceAdd e (constant (F := Ideal) S_ .f32 0x00000000#32) reducesTo_S4x4x4x16x128x256_S4x4x4x16x128_d5 h_S_)) (Host.exp (subf sk mx))

def probR (e : FVec Ideal S4x4x4x16x128x256 .f32) (d : FVec Ideal S4x4x4x16x128x1 .f32) : FVec Ideal S4x4x4x16x128x256 .f32 :=
  Host.divf e (broadcastInDim S4x4x4x16x128x256 ![0, 1, 2, 3, 4, 5] bcast_S4x4x4x16x128x1_S4x4x4x16x128x256_0_1_2_3_4_5 d)

def outR (vb : FVec Ideal S4x16x256x4x128 .f32) (p : FVec Ideal S4x4x4x16x128x256 .f32) : FVec Ideal S8192x2048 .bf16 :=
  truncf .bf16 (shapeCast _ (transpose S4x16x128x4x4x128 [0, 1, 5, 2, 4, 3] (Host.dotGeneral dot_S4x16x256x4x128_S4x4x4x16x128x256_S4x16x4x128x4x128_2_5_4_24_013_031 none vb p) transposes_S4x16x4x128x4x128_S4x16x128x4x4x128_0_1_5_2_4_3) shapeCasts_S4x16x128x4x4x128_S8192x2048) bitsLt_bf16_f32

def maskedScores (q : FVec Ideal S4x2048x16x128 .f32) (k : FVec Ideal S4x2048x4x128 .f32) : FVec Ideal S4x4x4x16x128x256 .f32 :=
  maskedR (validM bandM haveM) (scoreR q (withPrev k))
def refMax (q : FVec Ideal S4x2048x16x128 .f32) (k : FVec Ideal S4x2048x4x128 .f32) (s : FVec Ideal S16 .f32) := maxR (maskedScores q k) (sinkR s)
def refExp (q : FVec Ideal S4x2048x16x128 .f32) (k : FVec Ideal S4x2048x4x128 .f32) (s : FVec Ideal S16 .f32) := expR (maskedScores q k) (refMax q k s)
def refDenom (q : FVec Ideal S4x2048x16x128 .f32) (k : FVec Ideal S4x2048x4x128 .f32) (s : FVec Ideal S16 .f32) := denomR (refExp q k s) (sinkR s) (refMax q k s)

/-- The whole reference. -/
def refAttn (q : FVec Ideal S4x2048x16x128 .f32) (k v : FVec Ideal S4x2048x4x128 .f32) (s : FVec Ideal S16 .f32) : FVec Ideal S8192x2048 .bf16 :=
  outR (withPrev v) (probR (refExp q k s) (refDenom q k s))

theorem res_eq (m : (ℓ : Loc nD τ sig) → Buf (Elt Ideal) ℓ) (c : Dev nD) :
    res_main_v67 (F := Ideal) m c = refAttn (m ((c.tc : Thread nD τ).loc main_arg0)) (m ((c.tc : Thread nD τ).loc main_arg1)) (m ((c.tc : Thread nD τ).loc main_arg2)) (m ((c.tc : Thread nD τ).loc main_arg3)) := rfl

theorem withPrev_apply (t : FVec Ideal S4x2048x4x128 .f32) (b : Fin 4) (n : Fin 16) (j : Fin 256) (h : Fin 4) (d : Fin 128) :
    withPrev t (ix5 b n j h d) = prevAt t b n j h d := by
  pointwise [withPrev, prevAt]

/-- The band's two comparisons, over the difference `t - 255` of a query and a key position. -/
theorem band_word : ∀ t : Fin 512, IntOp.andi (IntOp.cmpi .sge (IntOp.subi (BitVec.ofNat 32 t.val) 255#32) 0#32) (IntOp.cmpi .slt (IntOp.subi (BitVec.ofNat 32 t.val) 255#32) 128#32)
    = if 255 ≤ t.val ∧ t.val < 383 then 1#1 else 0#1 := by decide +kernel

theorem bandM_apply (r : Fin 128) (j : Fin 256) : bandM (ix2 r j) = if r.val < j.val ∧ j.val ≤ r.val + 128 then 1#1 else 0#1 := by
  have key : IntOp.subi (IntOp.addi (BitVec.ofNat 32 r.val) 128#32) (BitVec.ofNat 32 j.val) = IntOp.subi (BitVec.ofNat 32 (r.val + 383 - j.val)) 255#32 := by
    show BitVec.ofNat 32 r.val + 128#32 - BitVec.ofNat 32 j.val = BitVec.ofNat 32 (r.val + 383 - j.val) - 255#32
    bv_omega
  have e := band_word ⟨r.val + 383 - j.val, by omega⟩
  pointwise [bandM]
  rw [key, e]
  refine if_congr ?_ rfl rfl
  show 255 ≤ r.val + 383 - j.val ∧ r.val + 383 - j.val < 383 ↔ _
  omega

theorem haveM_apply (n : Fin 16) (j : Fin 256) : haveM (ix3 n 0 j) = if 0 < n.val ∨ 128 ≤ j.val then 1#1 else 0#1 := by
  pointwise [haveM]
  revert n j
  decide +kernel

theorem maskedR_apply (va : IVec S4x4x4x16x128x256 1) (sc : FVec Ideal S4x4x4x16x128x256 .f32) (y) :
    maskedR va sc y = Scalar.select (va y) (sc y) (Ideal.ofBits .f32 0xFF800000#32) := rfl

theorem validM_apply (ba : IVec S128x256 1) (ha : IVec S16x1x256 1) (b h g : Fin 4) (n : Fin 16) (r : Fin 128) (j : Fin 256) :
    validM ba ha (ix6 b h g n r j) = IntOp.andi (ba (ix2 r j)) (ha (ix3 n 0 j)) :=
  congrArg₂ IntOp.andi (congrArg ba (eq_ix2 _)) (congrArg ha (eq_ix3 _))

theorem dot1_apply (q : FVec Ideal S4x16x128x4x4x128 .f32) (kb : FVec Ideal S4x16x256x4x128 .f32) (b h : Fin 4) (n : Fin 16) (j : Fin 256) (r : Fin 128) (g : Fin 4) :
    Host.dotGeneral (F := Ideal) dot_S4x16x256x4x128_S4x16x128x4x4x128_S4x4x16x256x128x4_4_5_2_24_031_031 none kb q (ix6 b h n j r g)
      = (∑ d : Fin 128, kb (ix5 b n j h d) * q (ix6 b n r h g d) : EReal) := by
  pointwise

theorem dot2_apply (vb : FVec Ideal S4x16x256x4x128 .f32) (p : FVec Ideal S4x4x4x16x128x256 .f32) (b h : Fin 4) (n : Fin 16) (d : Fin 128) (g : Fin 4) (r : Fin 128) :
    Host.dotGeneral (F := Ideal) dot_S4x16x256x4x128_S4x4x4x16x128x256_S4x16x4x128x4x128_2_5_4_24_013_031 none vb p (ix6 b n h d g r)
      = (∑ j : Fin 256, vb (ix5 b n j h d) * p (ix6 b h g n r j) : EReal) := by
  pointwise

theorem resh_apply (q : FVec Ideal S4x2048x16x128 .f32) (b h : Fin 4) (n : Fin 16) (d : Fin 128) (r : Fin 128) (g : Fin 4) :
    shapeCast S4x16x128x4x4x128 q shapeCasts_S4x2048x16x128_S4x16x128x4x4x128 (ix6 b n r h g d)
      = q (ix4 b ⟨n.val * 128 + r.val, by omega⟩ ⟨h.val * 4 + g.val, by omega⟩ d) := by
  pointwise

theorem scoreR_apply (q : FVec Ideal S4x2048x16x128 .f32) (kb : FVec Ideal S4x16x256x4x128 .f32) (b h g : Fin 4) (n : Fin 16) (r : Fin 128) (j : Fin 256) :
    scoreR q kb (ix6 b h g n r j)
      = ((∑ d : Fin 128, kb (ix5 b n j h d) * q (ix4 b ⟨n.val * 128 + r.val, by omega⟩ ⟨h.val * 4 + g.val, by omega⟩ d)) * Ideal.ofBits .f32 0x3DB504F3#32 : EReal) := by
  refine congrArg (· * Ideal.ofBits .f32 0x3DB504F3#32) ?_
  refine (congrArg (Host.dotGeneral (F := Ideal) dot_S4x16x256x4x128_S4x16x128x4x4x128_S4x4x16x256x128x4_4_5_2_24_031_031 none kb (shapeCast _ q shapeCasts_S4x2048x16x128_S4x16x128x4x4x128)) (eq_ix6 _)).trans ?_
  refine (dot1_apply _ kb b h n j r g).trans ?_
  exact Finset.sum_congr rfl fun d _ => congrArg (kb (ix5 b n j h d) * ·) (resh_apply q b h n d r g)

theorem sinkR_apply (s : FVec Ideal S16 .f32) (b h g : Fin 4) (n : Fin 16) (r : Fin 128) :
    sinkR s (ix6 b h g n r 0) = s (ix1 ⟨h.val * 4 + g.val, by omega⟩) := by
  have e : shapeCast S4x4 s shapeCasts_S16_S4x4 (ix2 h g) = s (ix1 ⟨h.val * 4 + g.val, by omega⟩) := by
    pointwise
  exact (congrArg (shapeCast S4x4 s shapeCasts_S16_S4x4) (eq_ix2 _)).trans e

/-- The row maximum over the last axis, as a fold. -/
theorem foldR_apply (sc : FVec Ideal S4x4x4x16x128x256 .f32) (b h g : Fin 4) (n : Fin 16) (r : Fin 128) :
    Host.reduce (FloatOps.maximumf (F := Ideal) (φ := .f32)) sc (constant (F := Ideal) S_ .f32 0xFF800000#32) reducesTo_S4x4x4x16x128x256_S4x4x4x16x128_d5 h_S_ (ix5 b h g n r)
      = Finset.univ.fold max (Ideal.ofBits .f32 0xFF800000#32) (fun j : Fin 256 => sc (ix6 b h g n r j)) := by
  rw [Host.reduce_eq_fold_single FloatOps.maximumf sc _ _ (by decide) h_S_]
  exact congrArg (fun f => Finset.univ.fold max (Ideal.ofBits .f32 0xFF800000#32) f) (funext fun j => congrArg sc (eq_ix6 _))

/-- The sum over the last axis. -/
theorem sumR_apply (e : FVec Ideal S4x4x4x16x128x256 .f32) (b h g : Fin 4) (n : Fin 16) (r : Fin 128) :
    Host.reduceAdd e (constant (F := Ideal) S_ .f32 0x00000000#32) reducesTo_S4x4x4x16x128x256_S4x4x4x16x128_d5 h_S_ (ix5 b h g n r)
      = (Ideal.ofBits .f32 0x00000000#32 + ∑ j : Fin 256, e (ix6 b h g n r j) : EReal) := by
  refine (Ideal.hostReduceAdd_single (a := 5) _ (by decide) e _ _).trans ?_
  exact congrArg (Ideal.ofBits .f32 0x00000000#32 + ·) (Finset.sum_congr rfl fun j _ => congrArg e (eq_ix6 _))

/-- A row statistic against the sink: the statistic's unit axis is inserted, then the two are compared. -/
theorem maxSink_apply (red : FVec Ideal S4x4x4x16x128 .f32) (sk : FVec Ideal S4x4x4x16x128x1 .f32) (b h g : Fin 4) (n : Fin 16) (r : Fin 128) :
    maximumf (broadcastInDim S4x4x4x16x128x1 ![0, 1, 2, 3, 4] bcast_S4x4x4x16x128_S4x4x4x16x128x1_0_1_2_3_4 red) sk (ix6 b h g n r 0)
      = max (red (ix5 b h g n r) : EReal) (sk (ix6 b h g n r 0)) :=
  congrArg (fun z : EReal => max z (sk (ix6 b h g n r 0))) (congrArg red (eq_ix5 _))

theorem maxR_apply (sc : FVec Ideal S4x4x4x16x128x256 .f32) (sk : FVec Ideal S4x4x4x16x128x1 .f32) (b h g : Fin 4) (n : Fin 16) (r : Fin 128) :
    maxR sc sk (ix6 b h g n r 0) = (max (Finset.univ.fold max (Ideal.ofBits .f32 0xFF800000#32) (fun j : Fin 256 => sc (ix6 b h g n r j))) (sk (ix6 b h g n r 0)) : EReal) := by
  rw [← foldR_apply sc b h g n r]
  exact maxSink_apply _ sk b h g n r

theorem expR_apply (sc : FVec Ideal S4x4x4x16x128x256 .f32) (mx : FVec Ideal S4x4x4x16x128x1 .f32) (b h g : Fin 4) (n : Fin 16) (r : Fin 128) (j : Fin 256) :
    expR sc mx (ix6 b h g n r j) = Ideal.exp (sc (ix6 b h g n r j) - mx (ix6 b h g n r 0)) :=
  congrArg (fun z : EReal => Ideal.exp (sc (ix6 b h g n r j) - z)) (congrArg mx (eq_ix6 _))

theorem denomR_apply (e : FVec Ideal S4x4x4x16x128x256 .f32) (sk mx : FVec Ideal S4x4x4x16x128x1 .f32) (b h g : Fin 4) (n : Fin 16) (r : Fin 128) :
    denomR e sk mx (ix6 b h g n r 0)
      = ((Ideal.ofBits .f32 0x00000000#32 + ∑ j : Fin 256, e (ix6 b h g n r j)) + Ideal.exp (sk (ix6 b h g n r 0) - mx (ix6 b h g n r 0)) : EReal) := by
  refine congrArg (fun z : EReal => z + Ideal.exp (sk (ix6 b h g n r 0) - mx (ix6 b h g n r 0))) ?_
  exact (congrArg (Host.reduceAdd e (constant (F := Ideal) S_ .f32 0x00000000#32) reducesTo_S4x4x4x16x128x256_S4x4x4x16x128_d5 h_S_) (eq_ix5 _)).trans (sumR_apply e b h g n r)

theorem probR_apply (e : FVec Ideal S4x4x4x16x128x256 .f32) (d : FVec Ideal S4x4x4x16x128x1 .f32) (b h g : Fin 4) (n : Fin 16) (r : Fin 128) (j : Fin 256) :
    probR e d (ix6 b h g n r j) = Ideal.div (e (ix6 b h g n r j)) (d (ix6 b h g n r 0)) :=
  congrArg (fun z : EReal => Ideal.div (e (ix6 b h g n r j)) z) (congrArg d (eq_ix6 _))

theorem flat_apply (o : FVec Ideal S4x16x128x4x4x128 .f32) (R : Fin 8192) (C : Fin 2048) :
    shapeCast S8192x2048 o shapeCasts_S4x16x128x4x4x128_S8192x2048 (ix2 R C)
      = o (ix6 ⟨R.val / 2048, by omega⟩ ⟨R.val / 128 % 16, by omega⟩ ⟨R.val % 128, by omega⟩ ⟨C.val / 512, by omega⟩ ⟨C.val / 128 % 4, by omega⟩ ⟨C.val % 128, by omega⟩) := by
  pointwise

theorem outR_apply (vb : FVec Ideal S4x16x256x4x128 .f32) (p : FVec Ideal S4x4x4x16x128x256 .f32) (R : Fin 8192) (C : Fin 2048)
    (b h g : Fin 4) (n : Fin 16) (r d : Fin 128) (hR : R.val = b.val * 2048 + n.val * 128 + r.val) (hC : C.val = h.val * 512 + g.val * 128 + d.val) :
    outR vb p (ix2 R C) = (∑ j : Fin 256, vb (ix5 b n j h d) * p (ix6 b h g n r j) : EReal) := by
  unfold outR
  refine (flat_apply (transpose S4x16x128x4x4x128 [0, 1, 5, 2, 4, 3] (Host.dotGeneral (F := Ideal) dot_S4x16x256x4x128_S4x4x4x16x128x256_S4x16x4x128x4x128_2_5_4_24_013_031 none vb p) transposes_S4x16x4x128x4x128_S4x16x128x4x4x128_0_1_5_2_4_3) R C).trans ?_
  have e1 : (⟨R.val / 2048, by omega⟩ : Fin 4) = b := Fin.ext (by show R.val / 2048 = b.val; omega)
  have e2 : (⟨R.val / 128 % 16, by omega⟩ : Fin 16) = n := Fin.ext (by show R.val / 128 % 16 = n.val; omega)
  have e3 : (⟨R.val % 128, by omega⟩ : Fin 128) = r := Fin.ext (by show R.val % 128 = r.val; omega)
  have e4 : (⟨C.val / 512, by omega⟩ : Fin 4) = h := Fin.ext (by show C.val / 512 = h.val; omega)
  have e5 : (⟨C.val / 128 % 4, by omega⟩ : Fin 4) = g := Fin.ext (by show C.val / 128 % 4 = g.val; omega)
  have e6 : (⟨C.val % 128, by omega⟩ : Fin 128) = d := Fin.ext (by show C.val % 128 = d.val; omega)
  rw [e1, e2, e3, e4, e5, e6]
  exact (congrArg (Host.dotGeneral (F := Ideal) dot_S4x16x256x4x128_S4x4x4x16x128x256_S4x16x4x128x4x128_2_5_4_24_013_031 none vb p) (eq_ix6 _)).trans
    (dot2_apply vb p b h n d g r)

/-- The masked, scaled score of the query at row `r` of block `n` against key `j` of the two blocks. -/
def refScore (q : FVec Ideal S4x2048x16x128 .f32) (k : FVec Ideal S4x2048x4x128 .f32) (b h g : Fin 4) (n : Fin 16) (r : Fin 128) (j : Fin 256) : EReal :=
  if (r.val < j.val ∧ j.val ≤ r.val + 128) ∧ (0 < n.val ∨ 128 ≤ j.val) then
    (∑ d : Fin 128, prevAt k b n j h d * q (ix4 b ⟨n.val * 128 + r.val, by omega⟩ ⟨h.val * 4 + g.val, by omega⟩ d)) * Ideal.ofBits .f32 0x3DB504F3#32
  else ⊥

theorem maskedScores_apply (q : FVec Ideal S4x2048x16x128 .f32) (k : FVec Ideal S4x2048x4x128 .f32) (b h g : Fin 4) (n : Fin 16) (r : Fin 128) (j : Fin 256) :
    (maskedScores q k (ix6 b h g n r j) : EReal) = refScore q k b h g n r j := by
  unfold maskedScores
  rw [maskedR_apply, validM_apply, bandM_apply, haveM_apply, scoreR_apply, ofBits_neg_inf]
  simp only [withPrev_apply]
  unfold refScore
  by_cases h1 : r.val < j.val ∧ j.val ≤ r.val + 128 <;> by_cases h2 : 0 < n.val ∨ 128 ≤ j.val
  · rw [if_pos h1, if_pos h2, if_pos ⟨h1, h2⟩]; rfl
  · rw [if_pos h1, if_neg h2, if_neg fun e => h2 e.2]; rfl
  · rw [if_neg h1, if_pos h2, if_neg fun e => h1 e.1]; rfl
  · rw [if_neg h1, if_neg h2, if_neg fun e => h1 e.1]; rfl

/-- The reference at an index is one row of attention. -/
theorem refAttn_apply (q : FVec Ideal S4x2048x16x128 .f32) (k v : FVec Ideal S4x2048x4x128 .f32) (s : FVec Ideal S16 .f32) (R : Fin 8192) (C : Fin 2048)
    (b h g : Fin 4) (n : Fin 16) (r d : Fin 128) (hR : R.val = b.val * 2048 + n.val * 128 + r.val) (hC : C.val = h.val * 512 + g.val * 128 + d.val) :
    (refAttn q k v s (ix2 R C) : EReal) = attend (refScore q k b h g n r) (s (ix1 ⟨h.val * 4 + g.val, by omega⟩)) (fun j => prevAt v b n j h d) := by
  have hm : (refMax q k s (ix6 b h g n r 0) : EReal) = rowMax (refScore q k b h g n r) (s (ix1 ⟨h.val * 4 + g.val, by omega⟩)) := by
    unfold refMax
    rw [maxR_apply, sinkR_apply, ofBits_neg_inf]
    unfold rowMax
    simp only [maskedScores_apply]
  have he : ∀ j, (refExp q k s (ix6 b h g n r j) : EReal) = Ideal.exp (refScore q k b h g n r j - rowMax (refScore q k b h g n r) (s (ix1 ⟨h.val * 4 + g.val, by omega⟩))) := by
    intro j
    unfold refExp
    rw [expR_apply, maskedScores_apply, hm]
  have hd : (refDenom q k s (ix6 b h g n r 0) : EReal) = rowDen (refScore q k b h g n r) (s (ix1 ⟨h.val * 4 + g.val, by omega⟩)) := by
    unfold refDenom
    rw [denomR_apply, sinkR_apply, hm, Ideal.ofBits_zero_f32, zero_add]
    unfold rowDen
    simp only [he]
  unfold refAttn
  rw [outR_apply _ _ R C b h g n r d hR hC]
  unfold attend
  refine Finset.sum_congr rfl fun j _ => ?_
  rw [withPrev_apply, probR_apply, he, hd]

end Cert.ReferenceIdeal.Attn
-- ==== Proof.Attn.Point.lean ====
/-
  ONE ELEMENT OF THE KERNEL'S OUTPUT BLOCK is one row of attention, the reference's.

  The tile is stated over blocks that hold the queries (scaled), the keys and the values of one batch and one key/value
  head. A key that the mask excludes has a score of minus infinity on both sides, so that the block the kernel reads in place of the missing
  predecessor of the first block does not matter.
-/
module

public import proofs.«01_k».proof.Proof.Attn.Tile
public import proofs.«01_k».proof.Proof.Attn.Mask
public import proofs.«01_k».proof.Proof.Attn.Ref

@[expose] public section

set_option maxRecDepth 16384

noncomputable section

namespace Cert.KernelIdeal.Attn

open Cert.KernelIdeal Cert.KernelIdeal.Gen Idealize.ShloMosaic Idealize.ShloMosaic.TcCoe Idealize.SL.Sem
open Cert.Attn Cert.ReferenceIdeal.Attn

theorem rowsOf_apply (x : FVec Ideal S2048x128 .bf16) (n : Fin 16) (a d : Fin 128) :
    rowsOf (F := Ideal) x n (ix2 a d) = x (ix2 ⟨n.val * 128 + a.val, by omega⟩ d) := by
  refine congrArg x ((eq_ix2 _).trans (congrArg₂ ix2 (Fin.ext ?_) (Fin.ext ?_)))
  · show 128 * n.val + 1 * a.val = n.val * 128 + a.val
    omega
  · show 0 + 1 * d.val = d.val
    omega

theorem tileOf_apply (x : FVec Ideal S2048x512 .bf16) (n : Fin 16) (c : Fin 4) (a d : Fin 128) :
    tileOf (F := Ideal) x n c (ix2 a d) = x (ix2 ⟨n.val * 128 + a.val, by omega⟩ ⟨c.val * 128 + d.val, by omega⟩) := by
  refine congrArg x ((eq_ix2 _).trans (congrArg₂ ix2 (Fin.ext ?_) (Fin.ext ?_)))
  · show 128 * n.val + 1 * a.val = n.val * 128 + a.val
    omega
  · show 128 * c.val + 1 * d.val = c.val * 128 + d.val
    omega

theorem maskOf_apply (n : Fin 16) (j : Fin 256) (r : Fin 128) :
    (maskOf (F := Ideal) n (ix3 0 j r) : EReal) = if (r.val < j.val ∧ j.val ≤ r.val + 128) ∧ (0 < n.val ∨ 128 ≤ j.val) then 0 else ⊥ := by
  unfold maskOf
  by_cases hn : n.val = 0
  · rw [if_pos hn, mask4_apply]
    exact if_congr (by omega) rfl rfl
  · rw [if_neg hn, mask5_apply]
    exact if_congr (by omega) rfl rfl

/-- The two blocks of rows that a tile reads are the reference's, but for the rows before the first block. -/
theorem rows_prevAt (x : FVec Ideal S2048x128 .bf16) (t : FVec Ideal S4x2048x4x128 .f32) (b h : Fin 4)
    (hx : ∀ (i : Fin 2048) (d : Fin 128), (x (ix2 i d) : EReal) = t (ix4 b i h d)) (n : Fin 16) (j : Fin 256) (d : Fin 128) (hj : 0 < n.val ∨ 128 ≤ j.val) :
    (if hj : j.val < 128 then (rowsOf (F := Ideal) x (prevOf n) (ix2 ⟨j.val, hj⟩ d) : EReal) else rowsOf (F := Ideal) x n (ix2 ⟨j.val - 128, by omega⟩ d)) = prevAt t b n j h d := by
  unfold prevAt
  by_cases h1 : j.val < 128
  · rw [dif_pos h1, dif_pos h1, dif_neg (by omega), rowsOf_apply, hx]
    rfl
  · rw [dif_neg h1, dif_neg h1, rowsOf_apply, hx]

section
variable (i : grid0.Coords) (x0 : FVec Ideal S16 .f32) (x1 : FVec Ideal S2048x512 .bf16) (x2 x3 : FVec Ideal S2048x128 .bf16)
  (q : FVec Ideal S4x2048x16x128 .f32) (k v : FVec Ideal S4x2048x4x128 .f32) (s : FVec Ideal S16 .f32) (b h : Fin 4)

theorem prevAt_real (hk : ∀ y, (k y : EReal) ≠ ⊤ ∧ (k y : EReal) ≠ ⊥) (n : Fin 16) (j : Fin 256) (d : Fin 128) :
    prevAt k b n j h d ≠ ⊤ ∧ prevAt k b n j h d ≠ ⊥ := by
  unfold prevAt
  split
  · split
    · exact ⟨EReal.zero_ne_top, EReal.zero_ne_bot⟩
    · exact hk _
  · exact hk _

/-- The masked scores agree. -/
theorem score_eq (hk : ∀ y, (k y : EReal) ≠ ⊤ ∧ (k y : EReal) ≠ ⊥) (hq : ∀ y, (q y : EReal) ≠ ⊤ ∧ (q y : EReal) ≠ ⊥)
    (h1 : ∀ (a : Fin 2048) (g : Fin 4) (d : Fin 128), (x1 (ix2 a ⟨g.val * 128 + d.val, by omega⟩) : EReal) = q (ix4 b a ⟨h.val * 4 + g.val, by omega⟩ d) * Ideal.ofBits .f32 0x3DB504F3#32)
    (h2 : ∀ (a : Fin 2048) (d : Fin 128), (x2 (ix2 a d) : EReal) = k (ix4 b a h d)) (n : Fin 16) (g : Fin 4) (r : Fin 128) (j : Fin 256) :
    refScore q k b h g n r j = tileScore (rowsOf (F := Ideal) x2 (prevOf n)) (rowsOf (F := Ideal) x2 n) (maskOf (F := Ideal) n) (tileOf (F := Ideal) x1 n g) r j := by
  unfold refScore tileScore
  rw [maskOf_apply]
  by_cases hv : (r.val < j.val ∧ j.val ≤ r.val + 128) ∧ (0 < n.val ∨ 128 ≤ j.val)
  · rw [if_pos hv, if_pos hv, add_zero]
    obtain ⟨c, hc⟩ := scale_real
    rw [hc, ← sum_scale _ _ c (fun d => prevAt_real k b h hk n j d) (fun d => hq _)]
    refine Finset.sum_congr rfl fun d _ => ?_
    rw [rows_prevAt x2 k b h h2 n j d hv.2, tileOf_apply, h1, hc]
  · rw [if_neg hv, if_neg hv, EReal.add_bot]

theorem refScore_ne_top (hk : ∀ y, (k y : EReal) ≠ ⊤ ∧ (k y : EReal) ≠ ⊥) (hq : ∀ y, (q y : EReal) ≠ ⊤ ∧ (q y : EReal) ≠ ⊥) (n : Fin 16) (g : Fin 4) (r : Fin 128) (j : Fin 256) :
    refScore q k b h g n r j ≠ ⊤ := by
  unfold refScore
  split
  · obtain ⟨c, hc⟩ := scale_real
    rw [hc]
    exact sum_scale_ne_top _ _ c (fun d => prevAt_real k b h hk n j d) (fun d => hq _)
  · exact bot_ne_top

/-- One element of the tile `(n, g)`. -/
theorem tile_eq (hk : ∀ y, (k y : EReal) ≠ ⊤ ∧ (k y : EReal) ≠ ⊥) (hq : ∀ y, (q y : EReal) ≠ ⊤ ∧ (q y : EReal) ≠ ⊥) (hs : ∀ y, (s y : EReal) ≠ ⊤ ∧ (s y : EReal) ≠ ⊥)
    (h0 : ∀ g : Fin 4, (sinkOf (F := Ideal) i x0 g : EReal) = s (ix1 ⟨h.val * 4 + g.val, by omega⟩))
    (h1 : ∀ (a : Fin 2048) (g : Fin 4) (d : Fin 128), (x1 (ix2 a ⟨g.val * 128 + d.val, by omega⟩) : EReal) = q (ix4 b a ⟨h.val * 4 + g.val, by omega⟩ d) * Ideal.ofBits .f32 0x3DB504F3#32)
    (h2 : ∀ (a : Fin 2048) (d : Fin 128), (x2 (ix2 a d) : EReal) = k (ix4 b a h d)) (h3 : ∀ (a : Fin 2048) (d : Fin 128), (x3 (ix2 a d) : EReal) = v (ix4 b a h d))
    (n : Fin 16) (g : Fin 4) (r d : Fin 128) :
    (tileVal (F := Ideal) i x0 x1 x2 x3 n g (ix2 r d) : EReal) = attend (refScore q k b h g n r) (s (ix1 ⟨h.val * 4 + g.val, by omega⟩)) (fun j => prevAt v b n j h d) := by
  unfold tileVal
  rw [headTile_apply _ _ _ _ _ _ _ r d (refScore q k b h g n r) _ (funext fun j => score_eq x1 x2 q k b h hk hq h1 h2 n g r j) rfl, h0]
  obtain ⟨z, hz⟩ : ∃ z : ℝ, s (ix1 ⟨h.val * 4 + g.val, by omega⟩) = (z : EReal) := ⟨_, (EReal.coe_toReal (hs _).1 (hs _).2).symm⟩
  rw [hz]
  refine attend_halves _ _ _ z (fun j => refScore_ne_top q k b h hk hq n g r j) fun j => ?_
  by_cases hv : 0 < n.val ∨ 128 ≤ j.val
  · exact .inr (rows_prevAt x3 v b h h3 n j d hv)
  · exact .inl (by unfold refScore; rw [if_neg fun e => hv e.2])

end

end Cert.KernelIdeal.Attn

end
-- ==== Proof.Attn.Value.lean ====
/-
  THE ATTENTION KERNEL'S RESULT is the reference's, for finite queries, keys and sinks.
-/
module

public import proofs.«01_k».proof.Proof.Attn.Windows
public import proofs.«01_k».proof.Proof.Attn.Point

@[expose] public section

set_option maxRecDepth 16384

noncomputable section

namespace Cert.KernelIdeal.Attn

open Cert.KernelIdeal Cert.KernelIdeal.Gen Idealize.ShloMosaic Idealize.ShloMosaic.TcCoe Idealize.SL.Sem
open Cert.Attn Cert.ReferenceIdeal.Attn

variable (m : (ℓ : Loc nD τ sig) → Buf (Elt Ideal) ℓ) (c : Dev nD)

/-- The arguments on one device. -/
abbrev qArg : FVec Ideal S4x2048x16x128 .f32 := m ((c.tc : Thread nD τ).loc main_arg0)
abbrev kArg : FVec Ideal S4x2048x4x128 .f32 := m ((c.tc : Thread nD τ).loc main_arg1)
abbrev vArg : FVec Ideal S4x2048x4x128 .f32 := m ((c.tc : Thread nD τ).loc main_arg2)
abbrev sArg : FVec Ideal S16 .f32 := m ((c.tc : Thread nD τ).loc main_arg3)

/-- Batch and key/value head of a grid point. -/
def batchOf (t : Fin cfg0.N) : Fin 4 := ⟨t.val / 4, by have := ltN t; omega⟩
def headOf (t : Fin cfg0.N) : Fin 4 := ⟨t.val % 4, by omega⟩

variable (t : Fin cfg0.N)

theorem win_q (a : Fin 2048) (g : Fin 4) (d : Fin 128) :
    (iblk m c 1 t (ix2 a ⟨g.val * 128 + d.val, by omega⟩) : EReal) = qArg m c (ix4 (batchOf t) a ⟨(headOf t).val * 4 + g.val, by omega⟩ d) * Ideal.ofBits .f32 0x3DB504F3#32 := by
  have hN := ltN t
  have e := qkv_q (qArg m c) (kArg m c) (vArg m c) ⟨t.val / 4 * 2048 + a.val, by omega⟩ ⟨(headOf t).val * 4 + g.val, by omega⟩ d
  refine (block1 m c t a ⟨g.val * 128 + d.val, by omega⟩).trans (((congrFun (V_qkv m c) _).trans (congrArg (qkv (qArg m c) (kArg m c) (vArg m c)) (congrArg (ix2 _) (Fin.ext ?_)))).trans (e.trans ?_))
  · show t.val % 4 * 512 + (g.val * 128 + d.val) = (t.val % 4 * 4 + g.val) * 128 + d.val
    omega
  · refine congrArg (· * Ideal.ofBits .f32 0x3DB504F3#32) (congrArg₂ (fun (x : Fin 4) (y : Fin 2048) => qArg m c (ix4 x y _ d)) (Fin.ext ?_) (Fin.ext ?_))
    · show (t.val / 4 * 2048 + a.val) / 2048 = t.val / 4
      omega
    · show (t.val / 4 * 2048 + a.val) % 2048 = a.val
      omega

theorem win_k (a : Fin 2048) (d : Fin 128) : (iblk m c 2 t (ix2 a d) : EReal) = kArg m c (ix4 (batchOf t) a (headOf t) d) := by
  have hN := ltN t
  have e := qkv_k (qArg m c) (kArg m c) (vArg m c) ⟨t.val / 4 * 2048 + a.val, by omega⟩ (headOf t) d
  refine (block2 m c t a d).trans ((congrFun (V_qkv m c) _).trans (e.trans ?_))
  refine congrArg₂ (fun (x : Fin 4) (y : Fin 2048) => kArg m c (ix4 x y _ d)) (Fin.ext ?_) (Fin.ext ?_)
  · show (t.val / 4 * 2048 + a.val) / 2048 = t.val / 4
    omega
  · show (t.val / 4 * 2048 + a.val) % 2048 = a.val
    omega

theorem win_v (a : Fin 2048) (d : Fin 128) : (iblk m c 3 t (ix2 a d) : EReal) = vArg m c (ix4 (batchOf t) a (headOf t) d) := by
  have hN := ltN t
  have e := qkv_v (qArg m c) (kArg m c) (vArg m c) ⟨t.val / 4 * 2048 + a.val, by omega⟩ (headOf t) d
  refine (block3 m c t a d).trans ((congrFun (V_qkv m c) _).trans (e.trans ?_))
  refine congrArg₂ (fun (x : Fin 4) (y : Fin 2048) => vArg m c (ix4 x y _ d)) (Fin.ext ?_) (Fin.ext ?_)
  · show (t.val / 4 * 2048 + a.val) / 2048 = t.val / 4
    omega
  · show (t.val / 4 * 2048 + a.val) % 2048 = a.val
    omega

theorem win_s (g : Fin 4) : (sinkOf (F := Ideal) (grid0.coords t) (iblk m c 0 t) g : EReal) = sArg m c (ix1 ⟨(headOf t).val * 4 + g.val, by omega⟩) := by
  have hc := coords t
  refine (congrArg (iblk m c 0 t) ((eq_ix1 _).trans (congrArg ix1 (Fin.ext ?_)))).trans ((block0 m c t ⟨(headOf t).val * 4 + g.val, by have := (headOf t).isLt; omega⟩).trans ?_)
  · show k0_off1 (grid0.coords t) (BitVec.ofNat 32 g.val) 0 + 1 * 0 = t.val % 4 * 4 + g.val
    rw [k0_off1_eq]
    show 4 * (grid0.coords t 1).val + g.val + 1 * 0 = t.val % 4 * 4 + g.val
    omega
  · exact congrFun (V_main_arg3 m c) _

/-- The array the kernel leaves. -/
theorem arr_eq (hq : ∀ y, (qArg m c y : EReal) ≠ ⊤ ∧ (qArg m c y : EReal) ≠ ⊥) (hk : ∀ y, (kArg m c y : EReal) ≠ ⊤ ∧ (kArg m c y : EReal) ≠ ⊥)
    (hs : ∀ y, (sArg m c y : EReal) ≠ ⊤ ∧ (sArg m c y : EReal) ≠ ⊥) :
    (dats m 0 c).arrAt 4 cfg0.N = refAttn (qArg m c) (kArg m c) (vArg m c) (sArg m c) := by
  refine (dats m 0 c).arrAt_eq_of_covers 4 _ (by decide +kernel) fun t hf y => ?_
  blk_simp
  rw [after0_4]
  change S2048x512.Idx at y
  obtain ⟨a, e, rfl⟩ : ∃ (a : Fin 2048) (e : Fin 512), y = ix2 a e := ⟨y 0, y 1, eq_ix2 y⟩
  have hN := ltN t
  unfold outsAt0
  rw [out_eq]
  unfold blockVal
  refine (tile_eq _ _ _ _ _ (qArg m c) (kArg m c) (vArg m c) (sArg m c) (batchOf t) (headOf t) hk hq hs (win_s m c t) (win_q m c t) (win_k m c t) (win_v m c t) _ _ _ _).trans ?_
  refine (refAttn_apply (qArg m c) (kArg m c) (vArg m c) (sArg m c) ⟨t.val / 4 * 2048 + a.val, by omega⟩ ⟨t.val % 4 * 512 + e.val, by omega⟩ (batchOf t) (headOf t) _ _ _ _ ?_ ?_).symm.trans ?_
  · show t.val / 4 * 2048 + a.val = t.val / 4 * 2048 + a.val / 128 * 128 + a.val % 128
    omega
  · show t.val % 4 * 512 + e.val = t.val % 4 * 512 + e.val / 128 * 128 + e.val % 128
    omega
  · blk_ext [idx t]

end Cert.KernelIdeal.Attn

end
-- ==== Proof.Attn.Claims.lean ====
/-
  THE ATTENTION'S CLAIMS: the kernel and its reference run and leave their arguments alone, and at the extended reals
  their results are equal for finite queries, keys and sinks.
-/
module

public import proofs.«01_k».proof.Defs
public import proofs.«01_k».proof.Proof.Gen.Kernel
public import proofs.«01_k».proof.Proof.Gen.Kernel.Frame
public import proofs.«01_k».proof.Proof.Attn.Value

@[expose] public section

noncomputable section

namespace Cert.Attn

open Idealize.ShloMosaic Idealize.SL.Sem

instance facts_finite : Cert.Pre_finite_inputs.Facts := ⟨by decide, by decide, by decide⟩

theorem frame_kernel : Cert.quiescent_Kernel := fun m ρ _ => Cert.Kernel.Gen.frame m ρ

theorem frame_kernelIdeal : Cert.quiescent_KernelIdeal := fun m ρ _ => Cert.KernelIdeal.Gen.frame m ρ

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- A word that says "less than plus infinity and greater than minus infinity" says that the element is real. -/
theorem real_of_word (x : EReal)
    (e : IntOp.andi (Ideal.cmp .olt x (Ideal.ofBits .f32 0x7F800000#32)) (Ideal.cmp .ogt x (Ideal.ofBits .f32 0xFF800000#32)) = 1#1) :
    x ≠ ⊤ ∧ x ≠ ⊥ := by
  rw [ofBits_pos_inf, ofBits_neg_inf] at e
  have h : (decide (x < ⊤)) = true ∧ (decide (⊥ < x)) = true := by
    change BitVec.ofBool (decide (x < ⊤)) &&& BitVec.ofBool (decide (⊥ < x)) = 1#1 at e
    revert e
    generalize decide (x < ⊤) = a
    generalize decide (⊥ < x) = b
    revert a b
    decide
  exact ⟨(of_decide_eq_true h.1).ne, (of_decide_eq_true h.2).ne'⟩

theorem algebraic : Cert.algebraic_KernelIdeal_ReferenceIdeal_pre_finite_inputs := by
  intro m ρ m' ρ' hpre hargs
  refine ⟨fun c => (Cert.KernelIdeal.Gen.dats m 0 c).arrAt 4 Cert.KernelIdeal.cfg0.N, Cert.KernelIdeal.Value.run_blocks m ρ, ?_⟩
  refine (θ_run Cert.ReferenceIdeal.defs _ _).mono (fun r h c => ⟨(h c).1.trans ?_, (h c).2⟩) (Cert.ReferenceIdeal.Value.run (F := Ideal) m' ρ')
  refine (Cert.ReferenceIdeal.Attn.res_eq m' c).trans ?_
  rw [(hargs c).1, (hargs c).2.1, (hargs c).2.2.1, (hargs c).2.2.2]
  exact (Cert.KernelIdeal.Attn.arr_eq m c (fun y => real_of_word _ (congrFun (hpre c).1 y)) (fun y => real_of_word _ (congrFun (hpre c).2.1 y))
    (fun y => real_of_word _ (congrFun (hpre c).2.2 y))).symm

end Cert.Attn

end
-- ==== Proof.Ffn.Overlay.lean ====
module

public import Idealize.ShloMosaic.Lib.Pipeline.ValueKit
public import Idealize.ShloMosaic.Lib.VecWindow

/-! A scratch buffer written by rectangles: what an index reads after one more store. -/

@[expose] public section

set_option maxRecDepth 16384

noncomputable section

namespace Cert.Ffn

open Idealize.ShloMosaic

/-- The newest piece lies over what the earlier ones left. -/
theorem read_writes_overlay {sig : RefSig} {κ : Kind} {sp : Space} {s : Shape} {e : EltTy} {Val : EltTy → Type} (v : View sig κ sp s e)
    (f : v.ty.Contents Val) (r : Rect s) (w : r.shape.Idx → Val e) (L : List (View.Piece Val s e)) :
    v.read Val (v.writes Val f (⟨r, w⟩ :: L)) = r.overlay (v.read Val (v.writes Val f L)) w := by
  funext y
  by_cases h : y ∈ r.set
  · obtain ⟨x, rfl⟩ := (by rw [← Rect.map_emb_univ, Finset.mem_map] at h; obtain ⟨x, -, h⟩ := h; exact ⟨x, h⟩ : ∃ x, r.emb x = y)
    rw [Rect.overlay_emb, View.read_writes_cons_emb]
  · rw [Rect.overlay_of_not_mem _ _ _ h, View.read_writes_cons_miss _ _ _ _ _ h]

variable {s : Shape} {α : Type}

/-- An index inside the rectangle reads the rectangle's own contents. -/
theorem overlay_of_mem {off off' size : Fin s.rank → ℕ} (inb : ∀ a, off a + size a ≤ s.size a) (S : s.Idx → α)
    (w : (Rect.unit off size inb).shape.Idx → α) (y : s.Idx) (x : (Rect.unit off size inb).shape.Idx) (heq : off = off')
    (hx : ∀ a, (y a).val = off' a + (x a).val) :
    (Rect.unit off size inb).overlay S w y = w x := by
  subst heq
  have hy : (Rect.unit off size inb).emb x = y := funext fun a => Fin.ext (by
    show off a + 1 * (x a).val = (y a).val
    rw [hx a, Nat.one_mul])
  rw [← hy, Rect.overlay_emb]

/-- An index outside it on one axis reads what lies below. -/
theorem overlay_of_out {off off' size : Fin s.rank → ℕ} (inb : ∀ a, off a + size a ≤ s.size a) (S : s.Idx → α)
    (w : (Rect.unit off size inb).shape.Idx → α) (y : s.Idx) (heq : off = off') (a : Fin s.rank)
    (ha : (y a).val < off' a ∨ off' a + size a ≤ (y a).val) :
    (Rect.unit off size inb).overlay S w y = S y := by
  subst heq
  refine Rect.overlay_of_not_mem _ _ _ ?_
  rw [Rect.mem_set_unit]
  intro hall
  have := hall a
  omega

end Cert.Ffn
-- ==== Proof.Down.Run.lean ====
module

public import proofs.«01_k».proof.Proof.Gen.Kernel2Ideal.Skeleton
public import proofs.«01_k».proof.Proof.Gen.Kernel2Ideal.Frame
public import proofs.«01_k».proof.Proof.Ffn.Overlay

/-! The down projection's step, run once for each of its three forms. -/

@[expose] public section

set_option maxRecDepth 16384

noncomputable section

namespace Cert.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

/-- The condition of the body's first branch: the first step of the first column block. -/
abbrev cond1 (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32

/-- The slot and rows that a step stages a slab to. -/
abbrev slabRect (i : grid0.Coords) (h : k0_cond2 i = 1#1) : Rect S2x11008x512 :=
  Rect.unit (s := S2x11008x512) (k0_off1 i) S1x688x512.size (k0_off1_inb i h)
/-- The slot that a step multiplies by. -/
abbrev slotRect (i : grid0.Coords) (h : k0_cond3 i = 1#1) : Rect S2x11008x512 :=
  Rect.unit (s := S2x11008x512) (k0_off2 i) S1x11008x512.size (k0_off2_inb i h)
/-- The first slot. -/
abbrev slot0Rect : Rect S2x11008x512 :=
  Rect.unit (s := S2x11008x512) ![0, 0, 0] S1x11008x512.size inb_S2x11008x512_S1x11008x512_0_0_0

theorem off1_eq : ∀ i : grid0.Coords, k0_off1 i = ![((i 0).val + 1) % 2, 688 * (i 1).val, 0] := by decide +kernel
theorem off2_eq : ∀ i : grid0.Coords, k0_off2 i = ![(i 0).val % 2, 0, 0] := by decide +kernel
instance closedOff1 (i : grid0.Coords) : ClosedOff (k0_off1 i) := ⟨_, off1_eq i⟩
instance closedOff2 (i : grid0.Coords) : ClosedOff (k0_off2 i) := ⟨_, off2_eq i⟩

set_option maxHeartbeats 3000000 in
/-- A step that stages a slab and multiplies. -/
theorem run_mid (c : Dev nD) (i : grid0.Coords) (arg2 : Memref sig .tc .vmem S512x11008 .bf16) (harg2 : arg2.IsWhole) (arg3 : Memref sig .tc .vmem S688x512 .f32) (harg3 : arg3.IsWhole) (arg4 : Memref sig .tc .vmem S11008x512 .bf16) (harg4 : arg4.IsWhole) (arg5 : Memref sig .tc .vmem S512x512 .f32) (harg5 : arg5.IsWhole) (arg6 : Memref sig .tc .vmem S2x11008x512 .bf16) (harg6 : arg6.IsWhole)
    (x0 : Vec F S512x11008 .bf16) (x1 : Vec F S688x512 .f32) (x2 : Vec F S11008x512 .bf16) (S : Vec F S2x11008x512 .bf16)
    (h1 : ¬ cond1 i = 1#1) (h2 : k0_cond2 i = 1#1) (h3 : k0_cond3 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare S
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 x0 (((slabRect i h2).overlay S (k0_pay2 x1)) ∘ (slotRect i h3).emb))
            ∗ owns (c : Thread nD τ) arg6 fullShare ((slabRect i h2).overlay S (k0_pay2 x1))) -∗ K ⟨⟩))
      ⊢ wp frame (wpE (defs₀ (F := F)) Variants.none c none) E (cc0_ffn_down i arg2 harg2 arg3 harg3 arg4 harg4 arg5 harg5 arg6 harg6) K := by
  simp only [cc0_ffn_down_eq_skeleton]; unfold cc0_ffn_down_skel
  unfold owns
  iintro ⟨⟨%f0, %hf0, H0⟩, ⟨%f1, %hf1, H1⟩, ⟨%f2, %hf2, H2⟩, ⟨%d3, %f3, -, H3⟩, ⟨%fs0, %hfs0, HS0⟩, Hk⟩
  obtain rfl := harg2.eq_unread hf0; obtain rfl := harg3.eq_unread hf1; obtain rfl := harg4.eq_unread hf2; obtain rfl := harg6.eq_unread hfs0
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine (View.read_writes_full _ _ _ _ _).trans (congrArg₂ k0_pay3 ((View.readAt_full _ _ _).trans hf0) (funext fun y => ?_))
    refine congrFun (a := (slotRect i h3).emb y) ?_
    exact (Ffn.read_writes_overlay _ _ _ _ _).trans (congrArg₂ (slabRect i h2).overlay hfs0 (congrArg k0_pay2 ((View.readAt_full _ _ _).trans hf1)))
  · iexists _; isplitr
    swap; · iexact HS0
    ipureintro
    exact (Ffn.read_writes_overlay _ _ _ _ _).trans (congrArg₂ (slabRect i h2).overlay hfs0 (congrArg k0_pay2 ((View.readAt_full _ _ _).trans hf1)))

set_option maxHeartbeats 3000000 in
/-- The first step: it also fills the first slot. -/
theorem run_first (c : Dev nD) (i : grid0.Coords) (arg2 : Memref sig .tc .vmem S512x11008 .bf16) (harg2 : arg2.IsWhole) (arg3 : Memref sig .tc .vmem S688x512 .f32) (harg3 : arg3.IsWhole) (arg4 : Memref sig .tc .vmem S11008x512 .bf16) (harg4 : arg4.IsWhole) (arg5 : Memref sig .tc .vmem S512x512 .f32) (harg5 : arg5.IsWhole) (arg6 : Memref sig .tc .vmem S2x11008x512 .bf16) (harg6 : arg6.IsWhole)
    (x0 : Vec F S512x11008 .bf16) (x1 : Vec F S688x512 .f32) (x2 : Vec F S11008x512 .bf16) (S : Vec F S2x11008x512 .bf16)
    (h1 : cond1 i = 1#1) (h2 : k0_cond2 i = 1#1) (h3 : k0_cond3 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare S
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 x0 (((slabRect i h2).overlay (slot0Rect.overlay S (k0_pay1 x2)) (k0_pay2 x1)) ∘ (slotRect i h3).emb))
            ∗ owns (c : Thread nD τ) arg6 fullShare ((slabRect i h2).overlay (slot0Rect.overlay S (k0_pay1 x2)) (k0_pay2 x1))) -∗ K ⟨⟩))
      ⊢ wp frame (wpE (defs₀ (F := F)) Variants.none c none) E (cc0_ffn_down i arg2 harg2 arg3 harg3 arg4 harg4 arg5 harg5 arg6 harg6) K := by
  simp only [cc0_ffn_down_eq_skeleton]; unfold cc0_ffn_down_skel
  unfold owns
  iintro ⟨⟨%f0, %hf0, H0⟩, ⟨%f1, %hf1, H1⟩, ⟨%f2, %hf2, H2⟩, ⟨%d3, %f3, -, H3⟩, ⟨%fs0, %hfs0, HS0⟩, Hk⟩
  obtain rfl := harg2.eq_unread hf0; obtain rfl := harg3.eq_unread hf1; obtain rfl := harg4.eq_unread hf2; obtain rfl := harg6.eq_unread hfs0
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine (View.read_writes_full _ _ _ _ _).trans (congrArg₂ k0_pay3 ((View.readAt_full _ _ _).trans hf0) (funext fun y => ?_))
    refine congrFun (a := (slotRect i h3).emb y) ?_
    exact (Ffn.read_writes_overlay _ _ _ _ _).trans (congrArg₂ (slabRect i h2).overlay ((Ffn.read_writes_overlay _ _ _ _ _).trans (congrArg₂ slot0Rect.overlay hfs0 (congrArg k0_pay1 ((View.readAt_full _ _ _).trans hf2)))) (congrArg k0_pay2 ((View.readAt_full _ _ _).trans hf1)))
  · iexists _; isplitr
    swap; · iexact HS0
    ipureintro
    exact (Ffn.read_writes_overlay _ _ _ _ _).trans (congrArg₂ (slabRect i h2).overlay ((Ffn.read_writes_overlay _ _ _ _ _).trans (congrArg₂ slot0Rect.overlay hfs0 (congrArg k0_pay1 ((View.readAt_full _ _ _).trans hf2)))) (congrArg k0_pay2 ((View.readAt_full _ _ _).trans hf1)))

set_option maxHeartbeats 3000000 in
/-- A step of the last column block: it only multiplies. -/
theorem run_last (c : Dev nD) (i : grid0.Coords) (arg2 : Memref sig .tc .vmem S512x11008 .bf16) (harg2 : arg2.IsWhole) (arg3 : Memref sig .tc .vmem S688x512 .f32) (harg3 : arg3.IsWhole) (arg4 : Memref sig .tc .vmem S11008x512 .bf16) (harg4 : arg4.IsWhole) (arg5 : Memref sig .tc .vmem S512x512 .f32) (harg5 : arg5.IsWhole) (arg6 : Memref sig .tc .vmem S2x11008x512 .bf16) (harg6 : arg6.IsWhole)
    (x0 : Vec F S512x11008 .bf16) (x1 : Vec F S688x512 .f32) (x2 : Vec F S11008x512 .bf16) (S : Vec F S2x11008x512 .bf16)
    (h1 : ¬ cond1 i = 1#1) (h2 : ¬ k0_cond2 i = 1#1) (h3 : k0_cond3 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare S
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 x0 ((S) ∘ (slotRect i h3).emb))
            ∗ owns (c : Thread nD τ) arg6 fullShare (S)) -∗ K ⟨⟩))
      ⊢ wp frame (wpE (defs₀ (F := F)) Variants.none c none) E (cc0_ffn_down i arg2 harg2 arg3 harg3 arg4 harg4 arg5 harg5 arg6 harg6) K := by
  simp only [cc0_ffn_down_eq_skeleton]; unfold cc0_ffn_down_skel
  unfold owns
  iintro ⟨⟨%f0, %hf0, H0⟩, ⟨%f1, %hf1, H1⟩, ⟨%f2, %hf2, H2⟩, ⟨%d3, %f3, -, H3⟩, ⟨%fs0, %hfs0, HS0⟩, Hk⟩
  obtain rfl := harg2.eq_unread hf0; obtain rfl := harg3.eq_unread hf1; obtain rfl := harg4.eq_unread hf2; obtain rfl := harg6.eq_unread hfs0
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine (View.read_writes_full _ _ _ _ _).trans (congrArg₂ k0_pay3 ((View.readAt_full _ _ _).trans hf0) (funext fun y => ?_))
    refine congrFun (a := (slotRect i h3).emb y) ?_
    exact hfs0
  · iexists _; isplitr
    swap; · iexact HS0
    ipureintro
    exact hfs0

end Cert.Down
-- ==== Proof.Down.Point.lean ====
module

public import proofs.«01_k».proof.Proof.Down.Run

/-! The down projection's scratch buffer: the two slots hold the column block being multiplied and the next one,
whose rows arrive a slab at a step. -/

@[expose] public section

set_option maxRecDepth 16384

noncomputable section

namespace Cert.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem co0 : ∀ t : Fin cfg0.N, (grid0.coords t 0).val = t.val / 16 := (by decide +kernel : ∀ t : Fin grid0.N, (grid0.coords t 0).val = t.val / 16)
theorem co1 : ∀ t : Fin cfg0.N, (grid0.coords t 1).val = t.val % 16 := (by decide +kernel : ∀ t : Fin grid0.N, (grid0.coords t 1).val = t.val % 16)
theorem c1_iff : ∀ t : Fin cfg0.N, cond1 (grid0.coords t) = 1#1 ↔ t.val = 0 := (by decide +kernel : ∀ t : Fin grid0.N, cond1 (grid0.coords t) = 1#1 ↔ t.val = 0)
theorem c2_iff : ∀ t : Fin cfg0.N, k0_cond2 (grid0.coords t) = 1#1 ↔ t.val / 16 + 1 < 8 := (by decide +kernel : ∀ t : Fin grid0.N, k0_cond2 (grid0.coords t) = 1#1 ↔ t.val / 16 + 1 < 8)
theorem c3 : ∀ t : Fin cfg0.N, k0_cond3 (grid0.coords t) = 1#1 := (by decide +kernel : ∀ t : Fin grid0.N, k0_cond3 (grid0.coords t) = 1#1)

/-- The step that stages row block `a` of column block `b + 1`. -/
def pt (b a : ℕ) (h : b < 8 ∧ a < 16) : Fin cfg0.N := ⟨16 * b + a, by show _ < grid0.N; rw [N_0]; omega⟩

/-- Column block `b` of the cast weight as the scratch buffer holds it: the first from the prepared array, a later
    one row block by row block from the slabs of the column block before. -/
def wblk (c : Dev nD) (b : ℕ) (r : Fin 11008) (l : Fin 512) : Elt F .bf16 :=
  if h : 0 < b ∧ b < 9 then
    k0_pay2 (iblk m c 1 (pt (b - 1) (r.val / 688) ⟨by omega, by omega⟩)) (ix3 (0 : Fin 1) ⟨r.val % 688, Nat.mod_lt _ (by omega)⟩ l)
  else k0_pay1 (iblk m c 2 ⟨0, by show _ < grid0.N; rw [N_0]; omega⟩) (ix3 (0 : Fin 1) r l)

/-- What the scratch buffer holds before step `n`. -/
def Inv (c : Dev nD) (n : ℕ) (S : Vec F S2x11008x512 .bf16) : Prop :=
  (n ≠ 0 → n < 128 → ∀ (k : Fin 2) (r : Fin 11008) (l : Fin 512), k.val = n / 16 % 2 → S (ix3 k r l) = wblk m c (n / 16) r l)
  ∧ (n / 16 + 1 < 8 → ∀ (k : Fin 2) (r : Fin 11008) (l : Fin 512), k.val = (n / 16 + 1) % 2 → r.val < 688 * (n % 16) → S (ix3 k r l) = wblk m c (n / 16 + 1) r l)

theorem inv_zero (c : Dev nD) (S : Vec F S2x11008x512 .bf16) : Inv m c 0 S :=
  ⟨fun h => absurd rfl h, fun _ k r l _ h => absurd h (by omega)⟩

/-- A slab staged at step `t`, read back. -/
theorem slab_in (t : Fin cfg0.N) (h2) (S : Vec F S2x11008x512 .bf16) (w) (k : Fin 2) (r : Fin 11008) (l : Fin 512)
    (hk : k.val = (t.val / 16 + 1) % 2) (hr : 688 * (t.val % 16) ≤ r.val) (hr' : r.val < 688 * (t.val % 16) + 688) :
    (slabRect (grid0.coords t) h2).overlay S w (ix3 k r l) = w (ix3 (0 : Fin 1) (⟨r.val - 688 * (t.val % 16), by omega⟩ : Fin 688) l) := by
  refine Ffn.overlay_of_mem _ _ _ _ _ (off1_eq _) fun a => ?_
  match a with
  | 0 => show k.val = ((grid0.coords t 0).val + 1) % 2 + 0; rw [co0, hk]; rfl
  | 1 => show r.val = 688 * (grid0.coords t 1).val + (r.val - 688 * (t.val % 16)); rw [co1]; omega
  | 2 => show l.val = 0 + l.val; omega

theorem slab_out_slot (t : Fin cfg0.N) (h2) (S : Vec F S2x11008x512 .bf16) (w) (k : Fin 2) (r : Fin 11008) (l : Fin 512)
    (hk : k.val ≠ (t.val / 16 + 1) % 2) :
    (slabRect (grid0.coords t) h2).overlay S w (ix3 k r l) = S (ix3 k r l) := by
  refine Ffn.overlay_of_out _ _ _ _ (off1_eq _) 0 ?_
  show k.val < ((grid0.coords t 0).val + 1) % 2 ∨ ((grid0.coords t 0).val + 1) % 2 + 1 ≤ k.val
  rw [co0]; omega

theorem slab_out_row (t : Fin cfg0.N) (h2) (S : Vec F S2x11008x512 .bf16) (w) (k : Fin 2) (r : Fin 11008) (l : Fin 512)
    (hr : r.val < 688 * (t.val % 16)) :
    (slabRect (grid0.coords t) h2).overlay S w (ix3 k r l) = S (ix3 k r l) := by
  refine Ffn.overlay_of_out _ _ _ _ (off1_eq _) 1 ?_
  show r.val < 688 * (grid0.coords t 1).val ∨ 688 * (grid0.coords t 1).val + 688 ≤ r.val
  rw [co1]; omega

theorem slot0_in (S : Vec F S2x11008x512 .bf16) (w) (k : Fin 2) (r : Fin 11008) (l : Fin 512) (hk : k.val = 0) :
    slot0Rect.overlay S w (ix3 k r l) = w (ix3 (0 : Fin 1) r l) := by
  refine Ffn.overlay_of_mem _ _ _ _ _ rfl fun a => ?_
  match a with
  | 0 => show k.val = 0 + 0; omega
  | 1 => show r.val = 0 + r.val; omega
  | 2 => show l.val = 0 + l.val; omega

/-- The slab that step `t` stages is the next column block's. -/
theorem pay2_eq (c : Dev nD) (t : Fin cfg0.N) (h : t.val / 16 + 1 < 8) (r : Fin 11008) (l : Fin 512)
    (hr : 688 * (t.val % 16) ≤ r.val) (hr' : r.val < 688 * (t.val % 16) + 688) :
    k0_pay2 (iblk m c 1 t) (ix3 (0 : Fin 1) (⟨r.val - 688 * (t.val % 16), by omega⟩ : Fin 688) l) = wblk m c (t.val / 16 + 1) r l := by
  unfold wblk
  rw [dif_pos ⟨by omega, by omega⟩]
  have e : pt (t.val / 16 + 1 - 1) (r.val / 688) ⟨by omega, by omega⟩ = t := Fin.ext (by show 16 * (t.val / 16 + 1 - 1) + r.val / 688 = t.val; omega)
  have e' : (⟨r.val - 688 * (t.val % 16), by omega⟩ : Fin 688) = ⟨r.val % 688, Nat.mod_lt _ (by omega)⟩ := Fin.ext (by show r.val - 688 * (t.val % 16) = r.val % 688; omega)
  rw [e, e']

/-- The column block multiplied at step `t`, as a slot of the scratch buffer. -/
def wslot (c : Dev nD) (t : Fin cfg0.N) : Vec F S1x11008x512 .bf16 := fun y => wblk m c (t.val / 16) (y 1) (y 2)

theorem slot_read (c : Dev nD) (t : Fin cfg0.N) (S : Vec F S2x11008x512 .bf16)
    (h : ∀ (k : Fin 2) (r : Fin 11008) (l : Fin 512), k.val = t.val / 16 % 2 → S (ix3 k r l) = wblk m c (t.val / 16) r l) :
    S ∘ (slotRect (grid0.coords t) (c3 t)).emb = wslot m c t := by
  funext y
  have e : (slotRect (grid0.coords t) (c3 t)).emb y = ix3 (⟨t.val / 16 % 2, by omega⟩ : Fin 2) (y 1 : Fin 11008) (y 2 : Fin 512) := by
    funext a
    refine Fin.ext ?_
    show k0_off2 (grid0.coords t) a + 1 * (y a).val = _
    rw [off2_eq]
    have := (y 0).isLt
    match a with
    | 0 => show (grid0.coords t 0).val % 2 + 1 * (y 0).val = t.val / 16 % 2
           rw [co0]; have : (y 0).val < 1 := (y 0).isLt
           omega
    | 1 => show 0 + 1 * (y 1).val = (y 1).val; omega
    | 2 => show 0 + 1 * (y 2).val = (y 2).val; omega
  show S _ = _
  rw [e]
  exact h _ _ _ rfl

/-- The scratch buffer after step `t`. -/
def next (c : Dev nD) (t : Fin cfg0.N) (S : Vec F S2x11008x512 .bf16) : Vec F S2x11008x512 .bf16 :=
  if h2 : k0_cond2 (grid0.coords t) = 1#1 then
    (slabRect (grid0.coords t) h2).overlay (if t.val = 0 then slot0Rect.overlay S (k0_pay1 (iblk m c 2 t)) else S) (k0_pay2 (iblk m c 1 t))
  else S

theorem next_cur (c : Dev nD) (t : Fin cfg0.N) (S : Vec F S2x11008x512 .bf16) (h : Inv m c t.val S)
    (k : Fin 2) (r : Fin 11008) (l : Fin 512) (hk : k.val = t.val / 16 % 2) : next m c t S (ix3 k r l) = wblk m c (t.val / 16) r l := by
  have ht : t.val < 128 := lt_of_lt_of_eq t.isLt N_0
  unfold next
  split
  · rw [slab_out_slot _ _ _ _ _ _ _ (by omega)]
    split
    · rename_i h0
      rw [slot0_in _ _ _ _ _ (by omega)]
      unfold wblk
      rw [dif_neg (by omega)]
      congr 2
    · rename_i h0
      exact h.1 h0 ht k r l hk
  · rename_i h2
    rw [c2_iff] at h2
    exact h.1 (by omega) ht k r l hk

theorem next_new (c : Dev nD) (t : Fin cfg0.N) (S : Vec F S2x11008x512 .bf16) (h : Inv m c t.val S) (h8 : t.val / 16 + 1 < 8)
    (k : Fin 2) (r : Fin 11008) (l : Fin 512) (hk : k.val = (t.val / 16 + 1) % 2) (hr : r.val < 688 * (t.val % 16) + 688) :
    next m c t S (ix3 k r l) = wblk m c (t.val / 16 + 1) r l := by
  unfold next
  rw [dif_pos ((c2_iff t).mpr h8)]
  by_cases hr' : 688 * (t.val % 16) ≤ r.val
  · rw [slab_in _ _ _ _ _ _ _ hk hr' hr, pay2_eq m c t h8 r l hr' hr]
  · rw [slab_out_row _ _ _ _ _ _ _ (by omega), if_neg (by omega)]
    exact h.2 h8 k r l hk (by omega)

theorem inv_next (c : Dev nD) (t : Fin cfg0.N) (S : Vec F S2x11008x512 .bf16) (h : Inv m c t.val S) : Inv m c (t.val + 1) (next m c t S) := by
  by_cases hl : t.val % 16 = 15
  · have e : (t.val + 1) / 16 = t.val / 16 + 1 := by omega
    refine ⟨fun _ h1 k r l hk => ?_, fun _ k r l _ hr => absurd hr (by omega)⟩
    rw [e] at hk ⊢
    exact next_new m c t S h (by omega) k r l hk (by have := r.isLt; omega)
  · have e : (t.val + 1) / 16 = t.val / 16 := by omega
    have e' : (t.val + 1) % 16 = t.val % 16 + 1 := by omega
    refine ⟨fun _ h1 k r l hk => ?_, fun h8 k r l hk hr => ?_⟩
    · rw [e] at hk ⊢
      exact next_cur m c t S h k r l hk
    · rw [e] at hk h8 ⊢
      rw [e'] at hr
      exact next_new m c t S h h8 k r l hk (by omega)

end Cert.Down
-- ==== Proof.Down.Sound.lean ====
module

public import proofs.«01_k».proof.Proof.Down.Point

/-! The down projection's run: each step's body, and the whole call. -/

@[expose] public section

set_option maxRecDepth 16384

noncomputable section

namespace Cert.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch operand. -/
abbrev sc : Memref sig .tc .vmem S2x11008x512 .bf16 := Memref.whole cc0_scratch0

theorem PhiA_eq (c : Dev nD) :
    (Pipeline.ΦA spec0 c : sProp 𝕄) = iprop(iprop((∃ d, owns (c : Thread nD τ) sc fullShare d)) ∗ (∃ r, prngReg c r)) := by
  unfold Pipeline.ΦA; rw [scopedRest0_eq]; simp only [sc, owns_whole]; try rfl

/-- The invariant before step `n`: the scratch buffer at contents that `Inv` describes, and the generator register. -/
def PhiS (c : Dev nD) (n : ℕ) (_ : n ≤ cfg0.N) : sProp 𝕄 :=
  iprop((∃ S, ⌜Inv m c n S⌝ ∗ owns (c : Thread nD τ) sc fullShare S) ∗ (∃ r, prngReg c r))

/-- The proof data: each input's buffer at its block, the output's at the product of the step's rows and column block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay3 (iblk m c 0 t) (wslot m c t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = k0_pay3 (iblk m c 0 t) (wslot m c t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem Phi_cast (c : Dev nD) (t : Fin cfg0.N) : (dats m 0 c).Φ t.castSucc = PhiS m c t.val (le_of_lt t.isLt) := by
  dsimp only [dats]; exact Pipeline.Dat.Φ_castSucc (PhiS m c) t
theorem Phi_succ (c : Dev nD) (t : Fin cfg0.N) : (dats m 0 c).Φ t.succ = PhiS m c (t.val + 1) t.isLt := by
  dsimp only [dats]; rfl

/-- The current staging memrefs at point `t`, at the body's types. -/
abbrev ms_0 (t : Fin cfg0.N) : Memref sig .tc .vmem S512x11008 .bf16 := win0_0.stage (cfg0.slots t 0)
abbrev ms_1 (t : Fin cfg0.N) : Memref sig .tc .vmem S688x512 .f32 := win0_1.stage (cfg0.slots t 1)
abbrev ms_2 (t : Fin cfg0.N) : Memref sig .tc .vmem S11008x512 .bf16 := win0_2.stage (cfg0.slots t 2)
abbrev ms_3 (t : Fin cfg0.N) : Memref sig .tc .vmem S512x512 .f32 := win0_3.stage (cfg0.slots t 3)

def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t))

/-- One step on a scratch buffer at `S`: the output's buffer ends at the product with the slot of the new contents. -/
theorem run_step (c : Dev nD) (t : Fin cfg0.N) (S : Vec F S2x11008x512 .bf16) (E : Set ℕ) (K : PUnit → sProp 𝕄) :
    iprop(owns (c : Thread nD τ) (ms_0 t) fullShare (iblk m c 0 t) ∗ owns (c : Thread nD τ) (ms_1 t) fullShare (iblk m c 1 t) ∗ owns (c : Thread nD τ) (ms_2 t) fullShare (iblk m c 2 t) ∗ (∃ d, owns (c : Thread nD τ) (ms_3 t) fullShare d) ∗ owns (c : Thread nD τ) sc fullShare S
        ∗ (iprop(owns (c : Thread nD τ) (ms_0 t) fullShare (iblk m c 0 t) ∗ owns (c : Thread nD τ) (ms_1 t) fullShare (iblk m c 1 t) ∗ owns (c : Thread nD τ) (ms_2 t) fullShare (iblk m c 2 t)
            ∗ owns (c : Thread nD τ) (ms_3 t) fullShare (k0_pay3 (iblk m c 0 t) (next m c t S ∘ (slotRect (grid0.coords t) (c3 t)).emb))
            ∗ owns (c : Thread nD τ) sc fullShare (next m c t S)) -∗ K ⟨⟩))
      ⊢ wp frame (wpE (defs₀ (F := F)) Variants.none c none) E (bodyAt0 t) K := by
  unfold bodyAt0
  by_cases h1 : t.val = 0
  · have h2 : k0_cond2 (grid0.coords t) = 1#1 := (c2_iff t).mpr (by omega)
    have e : next m c t S = (slabRect (grid0.coords t) h2).overlay (slot0Rect.overlay S (k0_pay1 (iblk m c 2 t))) (k0_pay2 (iblk m c 1 t)) := by
      unfold next; rw [dif_pos h2, if_pos h1]
    rw [e]
    exact run_first c (grid0.coords t) _ _ _ _ _ _ _ _ _ _ (iblk m c 0 t) (iblk m c 1 t) (iblk m c 2 t) S ((c1_iff t).mpr h1) h2 (c3 t) E K
  · by_cases h2 : k0_cond2 (grid0.coords t) = 1#1
    · have e : next m c t S = (slabRect (grid0.coords t) h2).overlay S (k0_pay2 (iblk m c 1 t)) := by
        unfold next; rw [dif_pos h2, if_neg h1]
      rw [e]
      exact run_mid c (grid0.coords t) _ _ _ _ _ _ _ _ _ _ (iblk m c 0 t) (iblk m c 1 t) (iblk m c 2 t) S (fun h => h1 ((c1_iff t).mp h)) h2 (c3 t) E K
    · have e : next m c t S = S := by unfold next; rw [dif_neg h2]
      rw [e]
      exact run_last c (grid0.coords t) _ _ _ _ _ _ _ _ _ _ (iblk m c 0 t) (iblk m c 1 t) (iblk m c 2 t) S (fun h => h1 ((c1_iff t).mp h)) h2 (c3 t) E K

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2]
  rw [show (dats m 0 c).owesAt () t.succ = (dats m 0 c).owesAt () t.castSucc from rfl,
    after_0, after_1, after_2, after_3, Phi_cast, Phi_succ]
  unfold PhiS
  iintro ⟨⟨⟨%S, %hS, HS0⟩, Hg⟩, Ho, ⟨%d0, H0⟩, ⟨%d1, H1⟩, ⟨%d2, H2⟩, ⟨%d3, H3⟩⟩
  iapply (run_step m c t S Set.univ _)
  isplitl [H0]; · iexact H0
  isplitl [H1]; · iexact H1
  isplitl [H2]; · iexact H2
  isplitl [H3]; · iexists _; iexact H3
  isplitl [HS0]; · iexact HS0
  iintro ⟨H0, H1, H2, H3, HS0⟩
  isplitl [HS0 Hg]
  · isplitl [HS0]
    · iexists _; isplitr
      swap; · iexact HS0
      ipureintro; exact inv_next m c t S hS
    iexact Hg
  isplitl [Ho]; · iexact Ho
  isplitl [H0]; · iexact H0
  isplitl [H1]; · iexact H1
  isplitl [H2]; · iexact H2
  rw [slot_read m c t (next m c t S) (fun k r l hk => next_cur m c t S hS k r l hk)]
  iexact H3

theorem defs₀_row (t : Fin cfg0.N) :
    defs₀ (F := F) .tc cfg0.body (cfg0.bodyArgs t (cfg0.slots t)) = bodyAt0 t := by
  unfold defs₀; rw [Defs.onTc_tc]

theorem idle_3 (t : Fin cfg0.N) : cfg0.idle 3 (cfg0.grid.coords t) = false := by
  show (!(k0_cond3 (grid0.coords t) == 1#1)) = false
  rw [c3]; rfl

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => by rw [idle_3]; exact .rfl

theorem Phi_in (c : Dev nD) : Pipeline.ΦA spec0 c ⊢ (dats m 0 c).Φ 0 := by
  rw [show (dats m 0 c).Φ 0 = PhiS m c 0 (Nat.zero_le _) from by dsimp only [dats]; rfl, PhiA_eq]
  unfold PhiS
  iintro ⟨⟨%S, HS⟩, Hg⟩
  isplitl [HS]
  · iexists _; isplitr
    swap; · iexact HS
    ipureintro; exact inv_zero m c S
  iexact Hg

theorem Phi_out (c : Dev nD) : (dats m 0 c).Φ (Fin.last cfg0.N) ⊢ Pipeline.ΦA spec0 c := by
  rw [show (dats m 0 c).Φ (Fin.last cfg0.N) = PhiS m c cfg0.N le_rfl from by dsimp only [dats]; rfl, PhiA_eq]
  unfold PhiS
  iintro ⟨⟨%S, -, HS⟩, Hg⟩
  isplitl [HS]
  · iexists _; iexact HS
  iexact Hg

set_option backward.isDefEq.respectTransparency.types false in
/-- The whole call runs to its end, every counter at zero, the arrays at what the proof data says. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c w => by fin_cases w <;> rfl)
    (howed := fun _ _ => rfl) (V := V m) (hmain := hmain m Variants.none) (hA := A_eq m) (hin := Phi_in m) (hout := Phi_out m)
    (hQ' := fun _ h => h)

/-- The arguments end unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Down
-- ==== Proof.Down.Value.lean ====
module

public import proofs.«01_k».proof.Proof.Down.Sound
public import proofs.«01_k».proof.Proof.Gen.Reference2Ideal
public import proofs.«01_k».proof.Proof.Gen.Reference2Ideal.Run

/-! The down projection's values at the extended reals: every element of the result is the sum over the inner axis. -/

@[expose] public section

set_option maxRecDepth 16384

noncomputable section

namespace Cert.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

section
variable {F : FTy → Type} [FloatOps F] (m : (ℓ : Loc nD τ sig) → Buf (Elt F) ℓ)

theorem V_x (c : Dev nD) : V m c main_v2 = truncf .bf16 (m ((c.tc : Thread nD τ).loc main_arg0) : FVec F S8192x11008 .f32) bitsLt_bf16_f32 := by
  unfold V
  simp only [hostOps0]
  after_results_simp <;> rfl

theorem V_first (c : Dev nD) : V m c main_v1 = truncf .bf16 (extractStridedSlice S11008x512 ![0, 0] (m ((c.tc : Thread nD τ).loc main_arg1) : FVec F S11008x4096 .f32) slices_S11008x4096_S11008x512_0_0 : FVec F S11008x512 .f32) bitsLt_bf16_f32 := by
  unfold V
  simp only [hostOps0]
  after_results_simp <;> rfl
end

theorem ltN (t : Fin grid0.N) : t.val < 128 := lt_of_lt_of_eq t.isLt N_0

/-- The windows' index maps. -/
theorem idx : ∀ t : Fin grid0.N, win0_0.index t = ![t.val % 16, 0] ∧ (t.val / 16 + 1 < 8 → win0_1.index t = ![t.val % 16, t.val / 16 + 1]) ∧ win0_2.index t = ![0, 0]
    ∧ win0_3.index t = ![t.val % 16, t.val / 16] := by decide +kernel

variable (m : (ℓ : Loc nD τ sig) → Buf (Elt Ideal) ℓ) (c : Dev nD)

abbrev aArg : FVec Ideal S8192x11008 .f32 := m ((c.tc : Thread nD τ).loc main_arg0)
abbrev wArg : FVec Ideal S11008x4096 .f32 := m ((c.tc : Thread nD τ).loc main_arg1)

theorem block0 (t : Fin cfg0.N) (a : Fin 512) (e : Fin 11008) : iblk m c 0 t (ix2 a e) = V m c main_v2 (ix2 ⟨512 * (t.val % 16) + a.val, by omega⟩ e) := by
  have := ltN t
  blk_ext [iblk, idx t]

theorem block1 (t : Fin cfg0.N) (h : t.val / 16 + 1 < 8) (a : Fin 688) (e : Fin 512) : iblk m c 1 t (ix2 a e) = V m c main_arg1 (ix2 ⟨688 * (t.val % 16) + a.val, by omega⟩ ⟨512 * (t.val / 16 + 1) + e.val, by omega⟩) := by
  have := ltN t
  blk_ext [iblk, (idx t).2.1 h]

theorem block2 (t : Fin cfg0.N) (a : Fin 11008) (e : Fin 512) : iblk m c 2 t (ix2 a e) = V m c main_v1 (ix2 a e) := by
  blk_ext [iblk, idx t]

theorem pay1_apply (x : FVec Ideal S11008x512 .bf16) (r : Fin 11008) (l : Fin 512) : (k0_pay1 (F := Ideal) x (ix3 (0 : Fin 1) r l) : EReal) = x (ix2 r l) := by
  pointwise [k0_pay1]

theorem pay2_apply (x : FVec Ideal S688x512 .f32) (r : Fin 688) (l : Fin 512) : (k0_pay2 (F := Ideal) x (ix3 (0 : Fin 1) r l) : EReal) = x (ix2 r l) := by
  pointwise [k0_pay2]

theorem pay3_apply (x : FVec Ideal S512x11008 .bf16) (w : FVec Ideal S1x11008x512 .bf16) (a l : Fin 512) :
    (k0_pay3 (F := Ideal) x w (ix2 a l) : EReal) = ∑ r : Fin 11008, (x (ix2 a r) * w (ix3 (0 : Fin 1) r l) : EReal) := by
  pointwise [k0_pay3]

theorem ref_apply (a : FVec Ideal S8192x11008 .f32) (w : FVec Ideal S11008x4096 .f32) (R : Fin 8192) (C : Fin 4096) :
    (Host.dotGeneral (F := Ideal) Cert.Reference2Ideal.dot_S8192x11008_S11008x4096_S8192x4096_1_0_0_1_n_n none a w (ix2 R C) : EReal) = ∑ r : Fin 11008, (a (ix2 R r) * w (ix2 r C) : EReal) := by
  pointwise

theorem x_apply (t : Fin cfg0.N) (a : Fin 512) (r : Fin 11008) :
    (iblk m c 0 t (ix2 a r) : EReal) = aArg m c (ix2 ⟨512 * (t.val % 16) + a.val, by omega⟩ r) := by
  rw [block0, V_x]
  rfl

/-- A column block of the weight is the weight's own columns. -/
theorem wblk_apply (b : ℕ) (hb : b < 8) (r : Fin 11008) (l : Fin 512) : (wblk m c b r l : EReal) = wArg m c (ix2 r ⟨512 * b + l.val, by omega⟩) := by
  unfold wblk
  split
  · rename_i h
    refine (pay2_apply _ _ _).trans ?_
    have hp : (pt (b - 1) (r.val / 688) ⟨by omega, by omega⟩).val = 16 * (b - 1) + r.val / 688 := rfl
    have hr := r.isLt
    refine (block1 m c _ (by omega) _ _).trans ?_
    rw [V_main_arg1]
    refine congrArg₂ (fun (e : Fin 11008) (f : Fin 4096) => wArg m c (ix2 e f)) (Fin.ext ?_) (Fin.ext ?_)
    · show 688 * ((16 * (b - 1) + r.val / 688) % 16) + r.val % 688 = r.val
      omega
    · show 512 * ((16 * (b - 1) + r.val / 688) / 16 + 1) + l.val = 512 * b + l.val
      omega
  · rename_i h
    refine (pay1_apply _ _ _).trans ?_
    rw [block2, V_first]
    have : b = 0 := by omega
    subst this
    pointwise

/-- The result array is the product. -/
theorem arr_eq : (dats m 0 c).arrAt 3 cfg0.N = Host.dotGeneral (F := Ideal) Cert.Reference2Ideal.dot_S8192x11008_S11008x4096_S8192x4096_1_0_0_1_n_n none (aArg m c) (wArg m c) := by
  refine (dats m 0 c).arrAt_eq_of_covers 3 _ (by decide +kernel) fun t hf y => ?_
  blk_simp
  rw [after_3]
  change S512x512.Idx at y
  obtain ⟨a, e, rfl⟩ : ∃ (a : Fin 512) (e : Fin 512), y = ix2 a e := ⟨y 0, y 1, eq_ix2 y⟩
  have hN := ltN t
  refine (pay3_apply _ _ _ _).trans ?_
  refine Eq.trans ?_ (ref_apply (aArg m c) (wArg m c) ⟨512 * (t.val % 16) + a.val, by omega⟩ ⟨512 * (t.val / 16) + e.val, by omega⟩).symm |>.trans ?_
  · refine Finset.sum_congr rfl fun r _ => ?_
    rw [x_apply]
    exact congrArg₂ (· * ·) rfl (wblk_apply m c (t.val / 16) (by omega) r e)
  · blk_ext [idx t]

end Cert.Down
-- ==== Proof.Down.Claims.lean ====
module

public import proofs.«01_k».proof.Defs
public import proofs.«01_k».proof.Proof.Gen.Kernel2
public import proofs.«01_k».proof.Proof.Gen.Kernel2.Frame
public import proofs.«01_k».proof.Proof.Down.Value

/-! The down projection's claims: the kernel and its reference run and leave their arguments alone, and at the extended
reals their results are equal. -/

@[expose] public section

set_option maxRecDepth 65536

noncomputable section

namespace Cert.Down

open Idealize.ShloMosaic Idealize.SL.Sem

theorem frame_kernelIdeal : Cert.quiescent_Kernel2Ideal := fun m ρ _ => frame_run m ρ

/-- The two programs have one text: their bodies agree, -/
theorem defs₀_eq : Cert.Kernel2.defs₀ (F := Bits) = Cert.Kernel2Ideal.defs₀ (F := Bits) := by
  unfold Cert.Kernel2.defs₀ Cert.Kernel2Ideal.defs₀
  refine congrArg Defs.onTc (funext fun l => funext fun a => ?_)
  match l, a with
  | ⟨0, _⟩, _ => rfl

/-- and so their pipelines. -/
theorem defs_eq : Cert.Kernel2.defs (F := Bits) = Cert.Kernel2Ideal.defs (F := Bits) := by
  unfold Cert.Kernel2.defs Cert.Kernel2Ideal.defs
  exact congrArg _ defs₀_eq

theorem frame_kernel : Cert.quiescent_Kernel2 := by
  intro m ρ _
  rw [defs_eq]
  exact frame_run (F := Bits) m ρ

theorem frame_referenceIdeal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic : Cert.algebraic_Kernel2Ideal_Reference2Ideal := by
  intro m ρ m' ρ' hpre hargs
  refine ⟨fun c => (dats m 0 c).arrAt 3 Cert.Kernel2Ideal.cfg0.N, ?_, ?_⟩
  · exact (θ_run Cert.Kernel2Ideal.defs _ _).mono (fun r h c => ⟨(h.1.1 c).1 3, h.2.1 c⟩) (θ_run_and (run_main m ρ) (frame_run m ρ))
  refine (θ_run Cert.Reference2Ideal.defs _ _).mono (fun r h c => ⟨(h c).1.trans ?_, (h c).2⟩) (Cert.Reference2Ideal.Value.run (F := Ideal) m' ρ')
  rw [(hargs c).1, (hargs c).2]
  exact (arr_eq m c).symm

end Cert.Down
-- ==== Proof.GateUp.Run.lean ====
module

public import proofs.«01_k».proof.Proof.Gen.Kernel3Ideal.Skeleton
public import proofs.«01_k».proof.Proof.Gen.Kernel3Ideal.Frame
public import proofs.«01_k».proof.Proof.Ffn.Overlay

/-! The gate and up projections' step, run once for each of its four forms. -/

@[expose] public section

set_option maxRecDepth 16384

noncomputable section

namespace Cert.GateUp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

/-- The slot and rows that a step stages a slab to. -/
abbrev slabRect (i : grid0.Coords) (h : k0_cond2 i = 1#1) : Rect S2x4096x512 :=
  Rect.unit (s := S2x4096x512) (k0_off1 i) S1x512x512.size (k0_off1_inb i h)
/-- The slot that a step multiplies by. -/
abbrev slotRect (i : grid0.Coords) (h : k0_cond3 i = 1#1) : Rect S2x4096x512 :=
  Rect.unit (s := S2x4096x512) (k0_off2 i) S1x4096x512.size (k0_off2_inb i h)

theorem off1_eq : ∀ i : grid0.Coords, k0_off1 i = ![(i 0).val % 2, 512 * (i 1).val, 0] := by decide +kernel
theorem off2_raw : ∀ i : grid0.Coords, k0_off2 i = ![if (i 0).val = 0 then 1 else ((i 0).val - 1) % 2, 0, 0] := by decide +kernel
instance closedOff1 (i : grid0.Coords) : ClosedOff (k0_off1 i) := ⟨_, off1_eq i⟩
instance closedOff2 (i : grid0.Coords) : ClosedOff (k0_off2 i) := ⟨_, off2_raw i⟩

theorem pay4_congr {a a' c c' : Vec F S1024x4096 .bf16} {b b' d d' : Vec F S1x4096x512 .bf16} (ha : a = a') (hb : b = b') (hc : c = c') (hd : d = d') :
    k0_pay4 a b c d = k0_pay4 a' b' c' d' := by
  subst ha; subst hb; subst hc; subst hd; rfl

set_option maxHeartbeats 6000000 in
/-- A step of the first round: it stages, and nothing is multiplied yet. -/
theorem run_first (c : Dev nD) (i : grid0.Coords) (arg2 : Memref sig .tc .vmem S1024x4096 .bf16) (harg2 : arg2.IsWhole) (arg3 : Memref sig .tc .vmem S512x512 .f32) (harg3 : arg3.IsWhole) (arg4 : Memref sig .tc .vmem S512x512 .f32) (harg4 : arg4.IsWhole) (arg5 : Memref sig .tc .vmem S64x512 .f32) (harg5 : arg5.IsWhole) (arg6 : Memref sig .tc .vmem S1024x512 .bf16) (harg6 : arg6.IsWhole) (arg7 : Memref sig .tc .vmem S64x512 .bf16) (harg7 : arg7.IsWhole) (arg8 : Memref sig .tc .vmem S2x4096x512 .bf16) (harg8 : arg8.IsWhole) (arg9 : Memref sig .tc .vmem S2x4096x512 .bf16) (harg9 : arg9.IsWhole)
    (x0 : Vec F S1024x4096 .bf16) (x1 x2 : Vec F S512x512 .f32) (x3 : Vec F S64x512 .f32) (x4 : Vec F S1024x512 .bf16) (x5 : Vec F S64x512 .bf16) (S T : Vec F S2x4096x512 .bf16)
    (h1 : k0_cond1 i = 1#1) (h2 : k0_cond2 i = 1#1) (h3 : ¬ k0_cond3 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare S ∗ owns (c : Thread nD τ) arg9 fullShare T
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4
            ∗ owns (c : Thread nD τ) arg7 fullShare (k0_pay1 x3)
            ∗ owns (c : Thread nD τ) arg8 fullShare ((slabRect i h2).overlay S (k0_pay2 x1))
            ∗ owns (c : Thread nD τ) arg9 fullShare ((slabRect i h2).overlay T (k0_pay3 x2))) -∗ K ⟨⟩))
      ⊢ wp frame (wpE (defs₀ (F := F)) Variants.none c none) E (cc0_ffn_gate_up i arg2 harg2 arg3 harg3 arg4 harg4 arg5 harg5 arg6 harg6 arg7 harg7 arg8 harg8 arg9 harg9) K := by
  simp only [cc0_ffn_gate_up_eq_skeleton]; unfold cc0_ffn_gate_up_skel
  unfold owns
  iintro ⟨⟨%f0, %hf0, H0⟩, ⟨%f1, %hf1, H1⟩, ⟨%f2, %hf2, H2⟩, ⟨%f3, %hf3, H3⟩, ⟨%f4, %hf4, H4⟩, ⟨%f5, -, H5⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg8.eq_unread hfs0; obtain rfl := harg9.eq_unread hfs1
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact hf4
    iexact H4
  isplitl [H5]
  · iexists _; isplitr
    swap; · iexact H5
    ipureintro
    exact (View.read_writes_full _ _ _ _ _).trans (congrArg k0_pay1 ((View.readAt_full _ _ _).trans hf3))
  isplitl [HS0]
  · iexists _; isplitr
    swap; · iexact HS0
    ipureintro
    exact (Ffn.read_writes_overlay _ _ _ _ _).trans (congrArg₂ (slabRect i h2).overlay hfs0 (congrArg k0_pay2 ((View.readAt_full _ _ _).trans hf1)))
  · iexists _; isplitr
    swap; · iexact HS1
    ipureintro
    exact (Ffn.read_writes_overlay _ _ _ _ _).trans (congrArg₂ (slabRect i h2).overlay hfs1 (congrArg k0_pay3 ((View.readAt_full _ _ _).trans hf2)))

set_option maxHeartbeats 6000000 in
/-- A step that stages and multiplies. -/
theorem run_mid (c : Dev nD) (i : grid0.Coords) (arg2 : Memref sig .tc .vmem S1024x4096 .bf16) (harg2 : arg2.IsWhole) (arg3 : Memref sig .tc .vmem S512x512 .f32) (harg3 : arg3.IsWhole) (arg4 : Memref sig .tc .vmem S512x512 .f32) (harg4 : arg4.IsWhole) (arg5 : Memref sig .tc .vmem S64x512 .f32) (harg5 : arg5.IsWhole) (arg6 : Memref sig .tc .vmem S1024x512 .bf16) (harg6 : arg6.IsWhole) (arg7 : Memref sig .tc .vmem S64x512 .bf16) (harg7 : arg7.IsWhole) (arg8 : Memref sig .tc .vmem S2x4096x512 .bf16) (harg8 : arg8.IsWhole) (arg9 : Memref sig .tc .vmem S2x4096x512 .bf16) (harg9 : arg9.IsWhole)
    (x0 : Vec F S1024x4096 .bf16) (x1 x2 : Vec F S512x512 .f32) (x3 : Vec F S64x512 .f32) (x4 : Vec F S1024x512 .bf16) (x5 : Vec F S64x512 .bf16) (S T : Vec F S2x4096x512 .bf16)
    (h1 : k0_cond1 i = 1#1) (h2 : k0_cond2 i = 1#1) (h3 : k0_cond3 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare S ∗ owns (c : Thread nD τ) arg9 fullShare T
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay4 x0 (((slabRect i h2).overlay S (k0_pay2 x1)) ∘ (slotRect i h3).emb) x0 (((slabRect i h2).overlay T (k0_pay3 x2)) ∘ (slotRect i h3).emb))
            ∗ owns (c : Thread nD τ) arg7 fullShare (k0_pay1 x3)
            ∗ owns (c : Thread nD τ) arg8 fullShare ((slabRect i h2).overlay S (k0_pay2 x1))
            ∗ owns (c : Thread nD τ) arg9 fullShare ((slabRect i h2).overlay T (k0_pay3 x2))) -∗ K ⟨⟩))
      ⊢ wp frame (wpE (defs₀ (F := F)) Variants.none c none) E (cc0_ffn_gate_up i arg2 harg2 arg3 harg3 arg4 harg4 arg5 harg5 arg6 harg6 arg7 harg7 arg8 harg8 arg9 harg9) K := by
  simp only [cc0_ffn_gate_up_eq_skeleton]; unfold cc0_ffn_gate_up_skel
  unfold owns
  iintro ⟨⟨%f0, %hf0, H0⟩, ⟨%f1, %hf1, H1⟩, ⟨%f2, %hf2, H2⟩, ⟨%f3, %hf3, H3⟩, ⟨%f4, -, H4⟩, ⟨%f5, -, H5⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg8.eq_unread hfs0; obtain rfl := harg9.eq_unread hfs1
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    refine (View.read_writes_full _ _ _ _ _).trans (pay4_congr ((View.readAt_full _ _ _).trans hf0) (funext fun y => ?_) ((View.readAt_full _ _ _).trans hf0) (funext fun y => ?_))
    · refine congrFun (a := (slotRect i h3).emb y) ?_
      exact (Ffn.read_writes_overlay _ _ _ _ _).trans (congrArg₂ (slabRect i h2).overlay hfs0 (congrArg k0_pay2 ((View.readAt_full _ _ _).trans hf1)))
    · refine congrFun (a := (slotRect i h3).emb y) ?_
      exact (Ffn.read_writes_overlay _ _ _ _ _).trans (congrArg₂ (slabRect i h2).overlay hfs1 (congrArg k0_pay3 ((View.readAt_full _ _ _).trans hf2)))
  isplitl [H5]
  · iexists _; isplitr
    swap; · iexact H5
    ipureintro
    exact (View.read_writes_full _ _ _ _ _).trans (congrArg k0_pay1 ((View.readAt_full _ _ _).trans hf3))
  isplitl [HS0]
  · iexists _; isplitr
    swap; · iexact HS0
    ipureintro
    exact (Ffn.read_writes_overlay _ _ _ _ _).trans (congrArg₂ (slabRect i h2).overlay hfs0 (congrArg k0_pay2 ((View.readAt_full _ _ _).trans hf1)))
  · iexists _; isplitr
    swap; · iexact HS1
    ipureintro
    exact (Ffn.read_writes_overlay _ _ _ _ _).trans (congrArg₂ (slabRect i h2).overlay hfs1 (congrArg k0_pay3 ((View.readAt_full _ _ _).trans hf2)))

set_option maxHeartbeats 6000000 in
/-- A step of the last round that still casts a side block. -/
theorem run_late (c : Dev nD) (i : grid0.Coords) (arg2 : Memref sig .tc .vmem S1024x4096 .bf16) (harg2 : arg2.IsWhole) (arg3 : Memref sig .tc .vmem S512x512 .f32) (harg3 : arg3.IsWhole) (arg4 : Memref sig .tc .vmem S512x512 .f32) (harg4 : arg4.IsWhole) (arg5 : Memref sig .tc .vmem S64x512 .f32) (harg5 : arg5.IsWhole) (arg6 : Memref sig .tc .vmem S1024x512 .bf16) (harg6 : arg6.IsWhole) (arg7 : Memref sig .tc .vmem S64x512 .bf16) (harg7 : arg7.IsWhole) (arg8 : Memref sig .tc .vmem S2x4096x512 .bf16) (harg8 : arg8.IsWhole) (arg9 : Memref sig .tc .vmem S2x4096x512 .bf16) (harg9 : arg9.IsWhole)
    (x0 : Vec F S1024x4096 .bf16) (x1 x2 : Vec F S512x512 .f32) (x3 : Vec F S64x512 .f32) (x4 : Vec F S1024x512 .bf16) (x5 : Vec F S64x512 .bf16) (S T : Vec F S2x4096x512 .bf16)
    (h1 : k0_cond1 i = 1#1) (h2 : ¬ k0_cond2 i = 1#1) (h3 : k0_cond3 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare S ∗ owns (c : Thread nD τ) arg9 fullShare T
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay4 x0 (S ∘ (slotRect i h3).emb) x0 (T ∘ (slotRect i h3).emb))
            ∗ owns (c : Thread nD τ) arg7 fullShare (k0_pay1 x3)
            ∗ owns (c : Thread nD τ) arg8 fullShare S
            ∗ owns (c : Thread nD τ) arg9 fullShare T) -∗ K ⟨⟩))
      ⊢ wp frame (wpE (defs₀ (F := F)) Variants.none c none) E (cc0_ffn_gate_up i arg2 harg2 arg3 harg3 arg4 harg4 arg5 harg5 arg6 harg6 arg7 harg7 arg8 harg8 arg9 harg9) K := by
  simp only [cc0_ffn_gate_up_eq_skeleton]; unfold cc0_ffn_gate_up_skel
  unfold owns
  iintro ⟨⟨%f0, %hf0, H0⟩, ⟨%f1, %hf1, H1⟩, ⟨%f2, %hf2, H2⟩, ⟨%f3, %hf3, H3⟩, ⟨%f4, -, H4⟩, ⟨%f5, -, H5⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg8.eq_unread hfs0; obtain rfl := harg9.eq_unread hfs1
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    refine (View.read_writes_full _ _ _ _ _).trans (pay4_congr ((View.readAt_full _ _ _).trans hf0) (funext fun y => ?_) ((View.readAt_full _ _ _).trans hf0) (funext fun y => ?_))
    · refine congrFun (a := (slotRect i h3).emb y) ?_
      exact hfs0
    · refine congrFun (a := (slotRect i h3).emb y) ?_
      exact hfs1
  isplitl [H5]
  · iexists _; isplitr
    swap; · iexact H5
    ipureintro
    exact (View.read_writes_full _ _ _ _ _).trans (congrArg k0_pay1 ((View.readAt_full _ _ _).trans hf3))
  isplitl [HS0]
  · iexists _; isplitr
    swap; · iexact HS0
    ipureintro
    exact hfs0
  · iexists _; isplitr
    swap; · iexact HS1
    ipureintro
    exact hfs1

set_option maxHeartbeats 6000000 in
/-- A step of the last round that only multiplies. -/
theorem run_last (c : Dev nD) (i : grid0.Coords) (arg2 : Memref sig .tc .vmem S1024x4096 .bf16) (harg2 : arg2.IsWhole) (arg3 : Memref sig .tc .vmem S512x512 .f32) (harg3 : arg3.IsWhole) (arg4 : Memref sig .tc .vmem S512x512 .f32) (harg4 : arg4.IsWhole) (arg5 : Memref sig .tc .vmem S64x512 .f32) (harg5 : arg5.IsWhole) (arg6 : Memref sig .tc .vmem S1024x512 .bf16) (harg6 : arg6.IsWhole) (arg7 : Memref sig .tc .vmem S64x512 .bf16) (harg7 : arg7.IsWhole) (arg8 : Memref sig .tc .vmem S2x4096x512 .bf16) (harg8 : arg8.IsWhole) (arg9 : Memref sig .tc .vmem S2x4096x512 .bf16) (harg9 : arg9.IsWhole)
    (x0 : Vec F S1024x4096 .bf16) (x1 x2 : Vec F S512x512 .f32) (x3 : Vec F S64x512 .f32) (x4 : Vec F S1024x512 .bf16) (x5 : Vec F S64x512 .bf16) (S T : Vec F S2x4096x512 .bf16)
    (h1 : ¬ k0_cond1 i = 1#1) (h2 : ¬ k0_cond2 i = 1#1) (h3 : k0_cond3 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare S ∗ owns (c : Thread nD τ) arg9 fullShare T
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay4 x0 (S ∘ (slotRect i h3).emb) x0 (T ∘ (slotRect i h3).emb))
            ∗ owns (c : Thread nD τ) arg7 fullShare x5
            ∗ owns (c : Thread nD τ) arg8 fullShare S
            ∗ owns (c : Thread nD τ) arg9 fullShare T) -∗ K ⟨⟩))
      ⊢ wp frame (wpE (defs₀ (F := F)) Variants.none c none) E (cc0_ffn_gate_up i arg2 harg2 arg3 harg3 arg4 harg4 arg5 harg5 arg6 harg6 arg7 harg7 arg8 harg8 arg9 harg9) K := by
  simp only [cc0_ffn_gate_up_eq_skeleton]; unfold cc0_ffn_gate_up_skel
  unfold owns
  iintro ⟨⟨%f0, %hf0, H0⟩, ⟨%f1, %hf1, H1⟩, ⟨%f2, %hf2, H2⟩, ⟨%f3, %hf3, H3⟩, ⟨%f4, -, H4⟩, ⟨%f5, %hf5, H5⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg8.eq_unread hfs0; obtain rfl := harg9.eq_unread hfs1
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    refine (View.read_writes_full _ _ _ _ _).trans (pay4_congr ((View.readAt_full _ _ _).trans hf0) (funext fun y => ?_) ((View.readAt_full _ _ _).trans hf0) (funext fun y => ?_))
    · refine congrFun (a := (slotRect i h3).emb y) ?_
      exact hfs0
    · refine congrFun (a := (slotRect i h3).emb y) ?_
      exact hfs1
  isplitl [H5]
  · iexists _; isplitr; · ipureintro; exact hf5
    iexact H5
  isplitl [HS0]
  · iexists _; isplitr
    swap; · iexact HS0
    ipureintro
    exact hfs0
  · iexists _; isplitr
    swap; · iexact HS1
    ipureintro
    exact hfs1

end Cert.GateUp
-- ==== Proof.GateUp.Point.lean ====
module

public import proofs.«01_k».proof.Proof.GateUp.Run

/-! The gate and up projections' two scratch buffers: in each, one slot holds the column block being multiplied and
the other the next one, whose rows arrive a slab at a step. -/

@[expose] public section

set_option maxRecDepth 16384

noncomputable section

namespace Cert.GateUp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem co0 : ∀ t : Fin cfg0.N, (grid0.coords t 0).val = t.val / 8 := (by decide +kernel : ∀ t : Fin grid0.N, (grid0.coords t 0).val = t.val / 8)
theorem co1 : ∀ t : Fin cfg0.N, (grid0.coords t 1).val = t.val % 8 := (by decide +kernel : ∀ t : Fin grid0.N, (grid0.coords t 1).val = t.val % 8)
theorem c1_iff : ∀ t : Fin cfg0.N, k0_cond1 (grid0.coords t) = 1#1 ↔ t.val < 172 := (by decide +kernel : ∀ t : Fin grid0.N, k0_cond1 (grid0.coords t) = 1#1 ↔ t.val < 172)
theorem c2_iff : ∀ t : Fin cfg0.N, k0_cond2 (grid0.coords t) = 1#1 ↔ t.val / 8 < 21 := (by decide +kernel : ∀ t : Fin grid0.N, k0_cond2 (grid0.coords t) = 1#1 ↔ t.val / 8 < 21)
theorem c3_iff : ∀ t : Fin cfg0.N, k0_cond3 (grid0.coords t) = 1#1 ↔ 8 ≤ t.val := (by decide +kernel : ∀ t : Fin grid0.N, k0_cond3 (grid0.coords t) = 1#1 ↔ 8 ≤ t.val)

theorem ltN (t : Fin cfg0.N) : t.val < 176 := lt_of_lt_of_eq t.isLt N_0

/-- The step of round `b` that stages row block `a`. -/
def pt (b a : ℕ) : Fin cfg0.N := ⟨8 * (b % 22) + a % 8, by show _ < grid0.N; rw [N_0]; omega⟩

/-- Column block `b` of the cast gate weight, row block by row block from the slabs of round `b`. -/
def wgate (c : Dev nD) (b : ℕ) (r : Fin 4096) (l : Fin 512) : Elt F .bf16 :=
  k0_pay2 (X0_1 m c (pt b (r.val / 512))) (ix3 (0 : Fin 1) ⟨r.val % 512, Nat.mod_lt _ (by omega)⟩ l)

/-- The same of the up weight. -/
def wup (c : Dev nD) (b : ℕ) (r : Fin 4096) (l : Fin 512) : Elt F .bf16 :=
  k0_pay3 (X0_2 m c (pt b (r.val / 512))) (ix3 (0 : Fin 1) ⟨r.val % 512, Nat.mod_lt _ (by omega)⟩ l)

/-- What a scratch buffer holds before step `n`, for column blocks `W`. -/
def Inv (W : ℕ → Fin 4096 → Fin 512 → Elt F .bf16) (n : ℕ) (S : Vec F S2x4096x512 .bf16) : Prop :=
  (8 ≤ n → n < 176 → ∀ (k : Fin 2) (r : Fin 4096) (l : Fin 512), k.val = (n / 8 - 1) % 2 → S (ix3 k r l) = W (n / 8 - 1) r l)
  ∧ (n / 8 < 21 → ∀ (k : Fin 2) (r : Fin 4096) (l : Fin 512), k.val = n / 8 % 2 → r.val < 512 * (n % 8) → S (ix3 k r l) = W (n / 8) r l)

theorem inv_zero (W : ℕ → Fin 4096 → Fin 512 → Elt F .bf16) (S : Vec F S2x4096x512 .bf16) : Inv W 0 S :=
  ⟨fun h => absurd h (by omega), fun _ k r l _ h => absurd h (by omega)⟩

/-- A slab staged at step `t`, read back. -/
theorem slab_in (t : Fin cfg0.N) (h2) (S : Vec F S2x4096x512 .bf16) (w) (k : Fin 2) (r : Fin 4096) (l : Fin 512)
    (hk : k.val = t.val / 8 % 2) (hr : 512 * (t.val % 8) ≤ r.val) (hr' : r.val < 512 * (t.val % 8) + 512) :
    (slabRect (grid0.coords t) h2).overlay S w (ix3 k r l) = w (ix3 (0 : Fin 1) (⟨r.val % 512, Nat.mod_lt _ (by omega)⟩ : Fin 512) l) := by
  refine Ffn.overlay_of_mem _ _ _ _ _ (off1_eq _) fun a => ?_
  match a with
  | 0 => show k.val = (grid0.coords t 0).val % 2 + 0; rw [co0, hk]; rfl
  | 1 => show r.val = 512 * (grid0.coords t 1).val + r.val % 512; rw [co1]; omega
  | 2 => show l.val = 0 + l.val; omega

theorem slab_out_slot (t : Fin cfg0.N) (h2) (S : Vec F S2x4096x512 .bf16) (w) (k : Fin 2) (r : Fin 4096) (l : Fin 512)
    (hk : k.val ≠ t.val / 8 % 2) :
    (slabRect (grid0.coords t) h2).overlay S w (ix3 k r l) = S (ix3 k r l) := by
  refine Ffn.overlay_of_out _ _ _ _ (off1_eq _) 0 ?_
  show k.val < (grid0.coords t 0).val % 2 ∨ (grid0.coords t 0).val % 2 + 1 ≤ k.val
  rw [co0]; omega

theorem slab_out_row (t : Fin cfg0.N) (h2) (S : Vec F S2x4096x512 .bf16) (w) (k : Fin 2) (r : Fin 4096) (l : Fin 512)
    (hr : r.val < 512 * (t.val % 8)) :
    (slabRect (grid0.coords t) h2).overlay S w (ix3 k r l) = S (ix3 k r l) := by
  refine Ffn.overlay_of_out _ _ _ _ (off1_eq _) 1 ?_
  show r.val < 512 * (grid0.coords t 1).val ∨ 512 * (grid0.coords t 1).val + 512 ≤ r.val
  rw [co1]; omega

/-- The step that stages a row of the column block of step `t`'s round, when the row is in step `t`'s slab. -/
theorem pt_eq (t : Fin cfg0.N) (r : Fin 4096) (hr : 512 * (t.val % 8) ≤ r.val) (hr' : r.val < 512 * (t.val % 8) + 512) :
    pt (t.val / 8) (r.val / 512) = t := by
  have := ltN t
  exact Fin.ext (by show 8 * (t.val / 8 % 22) + r.val / 512 % 8 = t.val; omega)

/-- A column block of a scratch buffer, as a slot. -/
def slotOf (W : ℕ → Fin 4096 → Fin 512 → Elt F .bf16) (t : Fin cfg0.N) : Vec F S1x4096x512 .bf16 := fun y => W (t.val / 8 - 1) (y 1) (y 2)

theorem slot_read (W : ℕ → Fin 4096 → Fin 512 → Elt F .bf16) (t : Fin cfg0.N) (h3 : k0_cond3 (grid0.coords t) = 1#1) (S : Vec F S2x4096x512 .bf16)
    (h : ∀ (k : Fin 2) (r : Fin 4096) (l : Fin 512), k.val = (t.val / 8 - 1) % 2 → S (ix3 k r l) = W (t.val / 8 - 1) r l) :
    S ∘ (slotRect (grid0.coords t) h3).emb = slotOf W t := by
  have h8 := (c3_iff t).mp h3
  funext y
  have e : (slotRect (grid0.coords t) h3).emb y = ix3 (⟨(t.val / 8 - 1) % 2, by omega⟩ : Fin 2) (y 1 : Fin 4096) (y 2 : Fin 512) := by
    funext a
    refine Fin.ext ?_
    show k0_off2 (grid0.coords t) a + 1 * (y a).val = _
    rw [off2_raw]
    match a with
    | 0 => show (if (grid0.coords t 0).val = 0 then 1 else ((grid0.coords t 0).val - 1) % 2) + 1 * (y 0).val = (t.val / 8 - 1) % 2
           rw [co0, if_neg (by omega)]; have : (y 0).val < 1 := (y 0).isLt
           omega
    | 1 => show 0 + 1 * (y 1).val = (y 1).val; omega
    | 2 => show 0 + 1 * (y 2).val = (y 2).val; omega
  show S _ = _
  rw [e]
  exact h _ _ _ rfl

/-- A scratch buffer after step `t`, whose slab is `w`. -/
def next (t : Fin cfg0.N) (S : Vec F S2x4096x512 .bf16) (w : Vec F S1x512x512 .bf16) : Vec F S2x4096x512 .bf16 :=
  if h2 : k0_cond2 (grid0.coords t) = 1#1 then (slabRect (grid0.coords t) h2).overlay S w else S

section
variable (W : ℕ → Fin 4096 → Fin 512 → Elt F .bf16) (t : Fin cfg0.N) (S : Vec F S2x4096x512 .bf16) (w : Vec F S1x512x512 .bf16) (h : Inv W t.val S)
  (hw : ∀ (r : Fin 4096) (l : Fin 512), 512 * (t.val % 8) ≤ r.val → r.val < 512 * (t.val % 8) + 512 →
    w (ix3 (0 : Fin 1) (⟨r.val % 512, Nat.mod_lt _ (by omega)⟩ : Fin 512) l) = W (t.val / 8) r l)
include h

theorem next_cur (h8 : 8 ≤ t.val) (k : Fin 2) (r : Fin 4096) (l : Fin 512) (hk : k.val = (t.val / 8 - 1) % 2) :
    next t S w (ix3 k r l) = W (t.val / 8 - 1) r l := by
  have ht := ltN t
  unfold next
  split
  · rw [slab_out_slot _ _ _ _ _ _ _ (by omega)]
    exact h.1 h8 ht k r l hk
  · exact h.1 h8 ht k r l hk

include hw

theorem next_new (h21 : t.val / 8 < 21) (k : Fin 2) (r : Fin 4096) (l : Fin 512) (hk : k.val = t.val / 8 % 2) (hr : r.val < 512 * (t.val % 8) + 512) :
    next t S w (ix3 k r l) = W (t.val / 8) r l := by
  unfold next
  rw [dif_pos ((c2_iff t).mpr h21)]
  by_cases hr' : 512 * (t.val % 8) ≤ r.val
  · rw [slab_in _ _ _ _ _ _ _ hk hr' hr]
    exact hw r l hr' hr
  · rw [slab_out_row _ _ _ _ _ _ _ (by omega)]
    exact h.2 h21 k r l hk (by omega)

theorem inv_next : Inv W (t.val + 1) (next t S w) := by
  by_cases hl : t.val % 8 = 7
  · have e : (t.val + 1) / 8 = t.val / 8 + 1 := by omega
    refine ⟨fun _ h1 k r l hk => ?_, fun _ k r l _ hr => absurd hr (by omega)⟩
    rw [e, Nat.add_sub_cancel] at hk ⊢
    exact next_new W t S w h hw (by omega) k r l hk (by have := r.isLt; omega)
  · have e : (t.val + 1) / 8 = t.val / 8 := by omega
    have e' : (t.val + 1) % 8 = t.val % 8 + 1 := by omega
    refine ⟨fun h8 h1 k r l hk => ?_, fun h21 k r l hk hr => ?_⟩
    · rw [e] at hk ⊢
      exact next_cur W t S w h (by omega) k r l hk
    · rw [e] at hk h21 ⊢
      rw [e'] at hr
      exact next_new W t S w h hw h21 k r l hk (by omega)

end

/-- The slab that step `t` stages of the gate weight is of its round's column block. -/
theorem gate_slab (c : Dev nD) (t : Fin cfg0.N) (r : Fin 4096) (l : Fin 512) (hr : 512 * (t.val % 8) ≤ r.val) (hr' : r.val < 512 * (t.val % 8) + 512) :
    k0_pay2 (X0_1 m c t) (ix3 (0 : Fin 1) (⟨r.val % 512, Nat.mod_lt _ (by omega)⟩ : Fin 512) l) = wgate m c (t.val / 8) r l := by
  unfold wgate
  rw [pt_eq t r hr hr']

theorem up_slab (c : Dev nD) (t : Fin cfg0.N) (r : Fin 4096) (l : Fin 512) (hr : 512 * (t.val % 8) ≤ r.val) (hr' : r.val < 512 * (t.val % 8) + 512) :
    k0_pay3 (X0_2 m c t) (ix3 (0 : Fin 1) (⟨r.val % 512, Nat.mod_lt _ (by omega)⟩ : Fin 512) l) = wup m c (t.val / 8) r l := by
  unfold wup
  rw [pt_eq t r hr hr']

end Cert.GateUp
-- ==== Proof.GateUp.Sound.lean ====
module

public import proofs.«01_k».proof.Proof.GateUp.Point

/-! The gate and up projections' run: each step's body, and the whole call. -/

@[expose] public section

set_option maxRecDepth 16384

noncomputable section

namespace Cert.GateUp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch operands. -/
abbrev sc0 : Memref sig .tc .vmem S2x4096x512 .bf16 := Memref.whole cc0_scratch0
abbrev sc1 : Memref sig .tc .vmem S2x4096x512 .bf16 := Memref.whole cc0_scratch1

theorem PhiA_eq (c : Dev nD) :
    (Pipeline.ΦA spec0 c : sProp 𝕄) = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- The invariant before step `n`: the scratch buffers at contents that `Inv` describes, and the generator register. -/
def PhiS (c : Dev nD) (n : ℕ) (_ : n ≤ cfg0.N) : sProp 𝕄 :=
  iprop((∃ S, ∃ T, ⌜Inv (wgate m c) n S ∧ Inv (wup m c) n T⌝ ∗ owns (c : Thread nD τ) sc0 fullShare S ∗ owns (c : Thread nD τ) sc1 fullShare T) ∗ (∃ r, prngReg c r))

/-- The step that casts the side block which step `t` leaves: the last such step, from there on. -/
def sideStep (t : Fin cfg0.N) : Fin cfg0.N := ⟨min t.val 171, lt_of_le_of_lt (Nat.min_le_left _ _) t.isLt⟩

/-- The proof data: each input's buffer at its block, the outputs' at what the step computes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => X0_2 m c t
    | ⟨3, _⟩ => iblk m c 3 t
    | ⟨4, _⟩ => k0_pay4 (iblk m c 0 t) (slotOf (wgate m c) t) (iblk m c 0 t) (slotOf (wup m c) t)
    | ⟨5, _⟩ => k0_pay1 (iblk m c 3 (sideStep t))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = X0_1 m c t := by dsimp only [dats]
theorem after_2 (c : Dev nD) (t : Fin cfg0.N) : (dats m 0 c).after 2 t = X0_2 m c t := by dsimp only [dats]
theorem after_3 (c : Dev nD) (t : Fin cfg0.N) : (dats m 0 c).after 3 t = iblk m c 3 t := by dsimp only [dats]
theorem after_4 (c : Dev nD) (t : Fin cfg0.N) : (dats m 0 c).after 4 t = k0_pay4 (iblk m c 0 t) (slotOf (wgate m c) t) (iblk m c 0 t) (slotOf (wup m c) t) := by dsimp only [dats]
theorem after_5 (c : Dev nD) (t : Fin cfg0.N) : (dats m 0 c).after 5 t = k0_pay1 (iblk m c 3 (sideStep t)) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = X0_1 m c t :=
  before0_1_of m (dats m 0 c) (A_eq m c 1) (after_1 m c) t d
theorem before_2 (c : Dev nD) (t : Fin cfg0.N) (d) : (dats m 0 c).before 2 t d = X0_2 m c t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem Phi_cast (c : Dev nD) (t : Fin cfg0.N) : (dats m 0 c).Φ t.castSucc = PhiS m c t.val (le_of_lt t.isLt) := by
  dsimp only [dats]; exact Pipeline.Dat.Φ_castSucc (PhiS m c) t
theorem Phi_succ (c : Dev nD) (t : Fin cfg0.N) : (dats m 0 c).Φ t.succ = PhiS m c (t.val + 1) t.isLt := by
  dsimp only [dats]; rfl

/-- Where the outputs' windows are idle, and where they are written back. -/
theorem idle_4 : ∀ t : Fin cfg0.N, cfg0.idle 4 (cfg0.grid.coords t) = decide (t.val < 8) := fun t => by
  show (!(k0_cond3 (grid0.coords t) == 1#1)) = _
  by_cases h : 8 ≤ t.val
  · rw [(c3_iff t).mpr h, decide_eq_false (by omega)]; rfl
  · rw [decide_eq_true (by omega), Bool.not_eq_true', beq_eq_false_iff_ne]
    exact fun e => h ((c3_iff t).mp e)
theorem idle_5 : ∀ t : Fin cfg0.N, cfg0.idle 5 (cfg0.grid.coords t) = decide (172 ≤ t.val) := fun t => by
  show (!(k0_cond1 (grid0.coords t) == 1#1)) = _
  by_cases h : t.val < 172
  · rw [(c1_iff t).mpr h, decide_eq_false (by omega)]; rfl
  · rw [decide_eq_true (by omega), Bool.not_eq_true', beq_eq_false_iff_ne]
    exact fun e => h ((c1_iff t).mp e)
theorem flush_4 : ∀ t : Fin cfg0.N, t.val < 8 → (cfg0.win 4).flush t = decide (t.val = 8) := (by decide +kernel : ∀ t : Fin grid0.N, t.val < 8 → win0_4.flush t = decide (t.val = 8))
theorem flush_5 : ∀ t : Fin cfg0.N, 171 ≤ t.val → (cfg0.win 5).flush t = decide (t.val = 175) := (by decide +kernel : ∀ t : Fin grid0.N, 171 ≤ t.val → win0_5.flush t = decide (t.val = 175))

theorem before_5_step (c : Dev nD) (t : Fin cfg0.N) (h : 172 ≤ t.val) (d) :
    (dats m 0 c).before 5 t d = (dats m 0 c).left 5 ⟨t.val - 1, Nat.lt_of_le_of_lt (Nat.sub_le _ _) t.isLt⟩ d := by
  have := ltN t
  rw [(dats m 0 c).before_of_pos 5 t (by omega) ((cfg0.win 5).fetch_out rfl t),
    flush_5 ⟨t.val - 1, Nat.lt_of_le_of_lt (Nat.sub_le _ _) t.isLt⟩ (by show 171 ≤ t.val - 1; omega),
    decide_eq_false (by show ¬ (t.val - 1 = 175); omega), if_neg Bool.false_ne_true]

/-- From step 172 on the side block's buffer is found as step 171 left it. -/
theorem before_5 (c : Dev nD) (d) : ∀ (n : ℕ) (t : Fin cfg0.N), t.val = 172 + n → (dats m 0 c).before 5 t d = k0_pay1 (iblk m c 3 (sideStep t))
  | 0, t, h => by
    rw [before_5_step m c t (by omega)]
    unfold Dat.left
    rw [idle_5, decide_eq_false (by show ¬ (172 ≤ t.val - 1); omega)]
    refine (show _ = (dats m 0 c).after 5 _ from rfl).trans ((after_5 m c _).trans ?_)
    refine congrArg (fun u => k0_pay1 (iblk m c 3 u)) (Fin.ext ?_)
    show min (t.val - 1) 171 = min t.val 171
    omega
  | n + 1, t, h => by
    rw [before_5_step m c t (by omega)]
    unfold Dat.left
    rw [idle_5, decide_eq_true (by show 172 ≤ t.val - 1; omega)]
    refine (before_5 c d n _ (by show t.val - 1 = 172 + n; omega)).trans ?_
    refine congrArg (fun u => k0_pay1 (iblk m c 3 u)) (Fin.ext ?_)
    show min (t.val - 1) 171 = min t.val 171
    omega

/-- The current staging memrefs at point `t`, at the body's types. -/
abbrev ms_0 (t : Fin cfg0.N) : Memref sig .tc .vmem S1024x4096 .bf16 := win0_0.stage (cfg0.slots t 0)
abbrev ms_1 (t : Fin cfg0.N) : Memref sig .tc .vmem S512x512 .f32 := win0_1.stage (cfg0.slots t 1)
abbrev ms_2 (t : Fin cfg0.N) : Memref sig .tc .vmem S512x512 .f32 := win0_2.stage (cfg0.slots t 2)
abbrev ms_3 (t : Fin cfg0.N) : Memref sig .tc .vmem S64x512 .f32 := win0_3.stage (cfg0.slots t 3)
abbrev ms_4 (t : Fin cfg0.N) : Memref sig .tc .vmem S1024x512 .bf16 := win0_4.stage (cfg0.slots t 4)
abbrev ms_5 (t : Fin cfg0.N) : Memref sig .tc .vmem S64x512 .bf16 := win0_5.stage (cfg0.slots t 5)

def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ (dats m 0 c).leavesExact 4 t ∗ (dats m 0 c).leavesExact 5 t)

/-- What a step leaves in the outputs' buffers, from the scratch buffers' contents before it. -/
def out4 (c : Dev nD) (t : Fin cfg0.N) (S T : Vec F S2x4096x512 .bf16) (d : Vec F S1024x512 .bf16) : Vec F S1024x512 .bf16 :=
  if h3 : k0_cond3 (grid0.coords t) = 1#1 then
    k0_pay4 (iblk m c 0 t) (next t S (k0_pay2 (X0_1 m c t)) ∘ (slotRect (grid0.coords t) h3).emb) (iblk m c 0 t) (next t T (k0_pay3 (X0_2 m c t)) ∘ (slotRect (grid0.coords t) h3).emb)
  else d
def out5 (c : Dev nD) (t : Fin cfg0.N) (d : Vec F S64x512 .bf16) : Vec F S64x512 .bf16 :=
  if t.val < 172 then k0_pay1 (iblk m c 3 t) else d

theorem next_of (t : Fin cfg0.N) (h2 : k0_cond2 (grid0.coords t) = 1#1) (S : Vec F S2x4096x512 .bf16) (w) : (slabRect (grid0.coords t) h2).overlay S w = next t S w := by
  unfold next; rw [dif_pos h2]
theorem next_not (t : Fin cfg0.N) (h2 : ¬ k0_cond2 (grid0.coords t) = 1#1) (S : Vec F S2x4096x512 .bf16) (w) : next t S w = S := by
  unfold next; rw [dif_neg h2]

/-- One step on scratch buffers at `S` and `T`. -/
theorem run_step (c : Dev nD) (t : Fin cfg0.N) (d4 : Vec F S1024x512 .bf16) (d5 : Vec F S64x512 .bf16) (S T : Vec F S2x4096x512 .bf16) (E : Set ℕ) (K : PUnit → sProp 𝕄) :
    iprop(owns (c : Thread nD τ) (ms_0 t) fullShare (iblk m c 0 t) ∗ owns (c : Thread nD τ) (ms_1 t) fullShare (X0_1 m c t) ∗ owns (c : Thread nD τ) (ms_2 t) fullShare (X0_2 m c t) ∗ owns (c : Thread nD τ) (ms_3 t) fullShare (iblk m c 3 t) ∗ owns (c : Thread nD τ) (ms_4 t) fullShare d4 ∗ owns (c : Thread nD τ) (ms_5 t) fullShare d5 ∗ owns (c : Thread nD τ) sc0 fullShare S ∗ owns (c : Thread nD τ) sc1 fullShare T
        ∗ (iprop(owns (c : Thread nD τ) (ms_0 t) fullShare (iblk m c 0 t) ∗ owns (c : Thread nD τ) (ms_1 t) fullShare (X0_1 m c t) ∗ owns (c : Thread nD τ) (ms_2 t) fullShare (X0_2 m c t) ∗ owns (c : Thread nD τ) (ms_3 t) fullShare (iblk m c 3 t)
            ∗ owns (c : Thread nD τ) (ms_4 t) fullShare (out4 m c t S T d4) ∗ owns (c : Thread nD τ) (ms_5 t) fullShare (out5 m c t d5)
            ∗ owns (c : Thread nD τ) sc0 fullShare (next t S (k0_pay2 (X0_1 m c t))) ∗ owns (c : Thread nD τ) sc1 fullShare (next t T (k0_pay3 (X0_2 m c t)))) -∗ K ⟨⟩))
      ⊢ wp frame (wpE (defs₀ (F := F)) Variants.none c none) E (bodyAt0 t) K := by
  have hN := ltN t
  unfold bodyAt0
  by_cases h3 : k0_cond3 (grid0.coords t) = 1#1
  · by_cases h2 : k0_cond2 (grid0.coords t) = 1#1
    · have h1 : t.val < 172 := by have := (c2_iff t).mp h2; omega
      unfold out4 out5
      rw [dif_pos h3, if_pos h1, ← next_of t h2, ← next_of t h2]
      exact run_mid c (grid0.coords t) _ _ _ _ _ _ _ _ _ _ _ _ _ _ _ _ (iblk m c 0 t) (X0_1 m c t) (X0_2 m c t) (iblk m c 3 t) d4 d5 S T ((c1_iff t).mpr h1) h2 h3 E K
    · by_cases h1 : t.val < 172
      · unfold out4 out5
        rw [dif_pos h3, if_pos h1, next_not t h2, next_not t h2]
        exact run_late c (grid0.coords t) _ _ _ _ _ _ _ _ _ _ _ _ _ _ _ _ (iblk m c 0 t) (X0_1 m c t) (X0_2 m c t) (iblk m c 3 t) d4 d5 S T ((c1_iff t).mpr h1) h2 h3 E K
      · unfold out4 out5
        rw [dif_pos h3, if_neg h1, next_not t h2, next_not t h2]
        exact run_last c (grid0.coords t) _ _ _ _ _ _ _ _ _ _ _ _ _ _ _ _ (iblk m c 0 t) (X0_1 m c t) (X0_2 m c t) (iblk m c 3 t) d4 d5 S T (fun e => h1 ((c1_iff t).mp e)) h2 h3 E K
  · have h8 : ¬ 8 ≤ t.val := fun e => h3 ((c3_iff t).mpr e)
    have h2 : k0_cond2 (grid0.coords t) = 1#1 := (c2_iff t).mpr (by omega)
    have h1 : t.val < 172 := by omega
    unfold out4 out5
    rw [dif_neg h3, if_pos h1, ← next_of t h2, ← next_of t h2]
    exact run_first c (grid0.coords t) _ _ _ _ _ _ _ _ _ _ _ _ _ _ _ _ (iblk m c 0 t) (X0_1 m c t) (X0_2 m c t) (iblk m c 3 t) d4 d5 S T ((c1_iff t).mpr h1) h2 h3 E K

/-- The main output's buffer as the step leaves it. -/
theorem leave_4 (c : Dev nD) (t : Fin cfg0.N) (S T : Vec F S2x4096x512 .bf16) (hS : Inv (wgate m c) t.val S) (hT : Inv (wup m c) t.val T) (d) :
    (owns (c : Thread nD τ) (ms_4 t) fullShare (out4 m c t S T ((dats m 0 c).before 4 t d)) : sProp 𝕄) ⊢ (dats m 0 c).leavesExact 4 t := by
  by_cases h8 : 8 ≤ t.val
  · have h3 := (c3_iff t).mpr h8
    unfold Dat.leavesExact
    rw [idle_4, decide_eq_false (by omega)]
    unfold out4
    rw [dif_pos h3, slot_read (wgate m c) t h3 _ (fun k r l hk => next_cur (wgate m c) t S _ hS h8 k r l hk),
      slot_read (wup m c) t h3 _ (fun k r l hk => next_cur (wup m c) t T _ hT h8 k r l hk)]
    show _ ⊢ owns (c : Thread nD τ) (ms_4 t) fullShare ((dats m 0 c).after 4 t)
    rw [after_4]
  · rw [Dat.leavesExact_idle _ 4 t (by rw [idle_4, decide_eq_true (by omega)]) (by rw [flush_4 t (by omega), decide_eq_false (by omega)])]
    unfold out4
    rw [dif_neg fun e => h8 ((c3_iff t).mp e)]
    iintro H
    iexists _
    iexact H

/-- The side output's. -/
theorem leave_5 (c : Dev nD) (t : Fin cfg0.N) (d) :
    (owns (c : Thread nD τ) (ms_5 t) fullShare (out5 m c t ((dats m 0 c).before 5 t d)) : sProp 𝕄) ⊢ (dats m 0 c).leavesExact 5 t := by
  have hN := ltN t
  by_cases h1 : t.val < 172
  · unfold Dat.leavesExact
    rw [idle_5, decide_eq_false (by omega)]
    unfold out5
    rw [if_pos h1]
    show _ ⊢ owns (c : Thread nD τ) (ms_5 t) fullShare ((dats m 0 c).after 5 t)
    rw [after_5, show sideStep t = t from Fin.ext (by show min t.val 171 = t.val; omega)]
  · unfold out5
    rw [if_neg h1]
    by_cases hf : t.val = 175
    · unfold Dat.leavesExact
      rw [idle_5, decide_eq_true (by omega), flush_5 t (by omega), decide_eq_true hf, before_5 m c d (t.val - 172) t (by omega)]
      show _ ⊢ owns (c : Thread nD τ) (ms_5 t) fullShare ((dats m 0 c).after 5 t)
      rw [after_5]
    · rw [Dat.leavesExact_idle _ 5 t (by rw [idle_5, decide_eq_true (by omega)]) (by rw [flush_5 t (by omega), decide_eq_false hf])]
      iintro H
      iexists _
      iexact H

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3]
  rw [show (dats m 0 c).owesAt () t.succ = (dats m 0 c).owesAt () t.castSucc from rfl,
    after_0, after_1, after_2, after_3, Phi_cast, Phi_succ]
  unfold PhiS
  iintro ⟨⟨⟨%S, %T, %hST, HS0, HS1⟩, Hg⟩, Ho, ⟨%d0, H0⟩, ⟨%d1, H1⟩, ⟨%d2, H2⟩, ⟨%d3, H3⟩, ⟨%d4, H4⟩, ⟨%d5, H5⟩⟩
  iapply (run_step m c t ((dats m 0 c).before 4 t d4) ((dats m 0 c).before 5 t d5) S T Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, HS0, HS1⟩
  isplitl [HS0 HS1 Hg]
  · isplitl [HS0 HS1]
    · iexists _; iexists _; isplitr
      swap
      · isplitl [HS0]; · iexact HS0
        iexact HS1
      ipureintro
      exact ⟨inv_next (wgate m c) t S _ hST.1 (fun r l hr hr' => gate_slab m c t r l hr hr'),
        inv_next (wup m c) t T _ hST.2 (fun r l hr hr' => up_slab m c t r l hr hr')⟩
    iexact Hg
  isplitl [Ho]; · iexact Ho
  isplitl [H0]; · iexact H0
  isplitl [H1]; · iexact H1
  isplitl [H2]; · iexact H2
  isplitl [H3]; · iexact H3
  isplitl [H4]
  · iapply (leave_4 m c t S T hST.1 hST.2 d4); iexact H4
  · iapply (leave_5 m c t d5); iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem Phi_in (c : Dev nD) : Pipeline.ΦA spec0 c ⊢ (dats m 0 c).Φ 0 := by
  rw [show (dats m 0 c).Φ 0 = PhiS m c 0 (Nat.zero_le _) from by dsimp only [dats]; rfl, PhiA_eq]
  unfold PhiS
  iintro ⟨⟨⟨%S, HS⟩, ⟨%T, HT⟩⟩, Hg⟩
  isplitl [HS HT]
  · iexists _; iexists _; isplitr
    swap
    · isplitl [HS]; · iexact HS
      iexact HT
    ipureintro; exact ⟨inv_zero _ S, inv_zero _ T⟩
  iexact Hg

theorem Phi_out (c : Dev nD) : (dats m 0 c).Φ (Fin.last cfg0.N) ⊢ Pipeline.ΦA spec0 c := by
  rw [show (dats m 0 c).Φ (Fin.last cfg0.N) = PhiS m c cfg0.N le_rfl from by dsimp only [dats]; rfl, PhiA_eq]
  unfold PhiS
  iintro ⟨⟨%S, %T, -, HS, HT⟩, Hg⟩
  isplitl [HS HT]
  · isplitl [HS]
    · iexists _; iexact HS
    · iexists _; iexact HT
  iexact Hg

set_option backward.isDefEq.respectTransparency.types false in
/-- The whole call runs to its end, every counter at zero, the arrays at what the proof data says and the slice after
    the region at the main output's columns. -/
theorem run_main : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c w => by fin_cases w <;> rfl)
    (howed := fun _ _ => rfl) (V₀ := V0 m) (opss := [hostOps1]) (hsub := sfx_sub) (hfresh := sfx_fresh) (hkeep := sfx_keeps)
    (hmain := hmain m Variants.none) (hA := A_eq m) (hin := Phi_in m) (hout := Phi_out m)
    (hQ' := fun _ h => h)

/-- The arguments end unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.GateUp
-- ==== Proof.GateUp.Value.lean ====
module

public import proofs.«01_k».proof.Proof.GateUp.Sound
public import proofs.«01_k».proof.Proof.Gen.Reference3Ideal
public import proofs.«01_k».proof.Proof.Gen.Reference3Ideal.Run

/-! The gate and up projections' values at the extended reals: every element of the result is the gated product of two
sums over the inner axis, and the side result is the argument's own columns. -/

@[expose] public section

set_option maxRecDepth 16384

noncomputable section

namespace Cert.GateUp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

section
variable {F : FTy → Type} [FloatOps F] (m : (ℓ : Loc nD τ sig) → Buf (Elt F) ℓ)

theorem V_h (c : Dev nD) : V m c main_v0 = truncf .bf16 (m ((c.tc : Thread nD τ).loc main_arg0) : FVec F S8192x4096 .f32) bitsLt_bf16_f32 := by
  unfold V V0
  simp only [List.flatten_cons, List.flatten_nil, List.append_nil]
  after_results <;> rfl
end

/-- The windows' index maps. -/
theorem idx0 : ∀ t : Fin grid0.N, 8 ≤ t.val → win0_0.index t = ![t.val % 8, 0] := by decide +kernel
theorem idx1 : ∀ t : Fin grid0.N, t.val < 168 → win0_1.index t = ![t.val % 8, t.val / 8] := by decide +kernel
theorem idx2 : ∀ t : Fin grid0.N, t.val < 168 → win0_2.index t = ![t.val % 8, t.val / 8] := by decide +kernel
theorem idx3 : ∀ t : Fin grid0.N, win0_3.index t = ![min t.val 171, 0] := by decide +kernel
theorem idx4 : ∀ t : Fin grid0.N, 8 ≤ t.val → win0_4.index t = ![t.val % 8, t.val / 8 - 1] := by decide +kernel
theorem idx5 : ∀ t : Fin grid0.N, win0_5.index t = ![min t.val 171, 0] := by decide +kernel
theorem flush4_ge : ∀ t : Fin cfg0.N, (cfg0.win 4).flush t = true → 8 ≤ t.val := (by decide +kernel : ∀ t : Fin grid0.N, win0_4.flush t = true → 8 ≤ t.val)

variable (m : (ℓ : Loc nD τ sig) → Buf (Elt Ideal) ℓ) (c : Dev nD)

abbrev hArg : FVec Ideal S8192x4096 .f32 := m ((c.tc : Thread nD τ).loc main_arg0)
abbrev gArg : FVec Ideal S4096x11008 .f32 := m ((c.tc : Thread nD τ).loc main_arg1)
abbrev uArg : FVec Ideal S4096x11008 .f32 := m ((c.tc : Thread nD τ).loc main_arg2)
abbrev dArg : FVec Ideal S11008x4096 .f32 := m ((c.tc : Thread nD τ).loc main_arg3)

theorem block0 (t : Fin cfg0.N) (h : 8 ≤ t.val) (a : Fin 1024) (e : Fin 4096) : iblk m c 0 t (ix2 a e) = V m c main_v0 (ix2 ⟨1024 * (t.val % 8) + a.val, by omega⟩ e) := by
  have := ltN t
  blk_ext [iblk, idx0 t h]

theorem block1 (t : Fin cfg0.N) (h : t.val < 168) (a : Fin 512) (e : Fin 512) : X0_1 m c t (ix2 a e) = V m c main_arg1 (ix2 ⟨512 * (t.val % 8) + a.val, by omega⟩ ⟨512 * (t.val / 8) + e.val, by omega⟩) := by
  unfold X0_1 Pipeline.Window.fill
  rw [dif_pos (moved0_1 t _)]
  blk_ext [iblk, idx1 t h]

theorem block2 (t : Fin cfg0.N) (h : t.val < 168) (a : Fin 512) (e : Fin 512) : X0_2 m c t (ix2 a e) = V m c main_arg2 (ix2 ⟨512 * (t.val % 8) + a.val, by omega⟩ ⟨512 * (t.val / 8) + e.val, by omega⟩) := by
  unfold X0_2 Pipeline.Window.fill
  rw [dif_pos (moved0_2 t _)]
  blk_ext [iblk, idx2 t h]

theorem block3 (t : Fin cfg0.N) (h : t.val < 172) (a : Fin 64) (e : Fin 512) : iblk m c 3 t (ix2 a e) = V m c main_arg3 (ix2 ⟨64 * t.val + a.val, by omega⟩ ⟨e.val, by omega⟩) := by
  have hm : min t.val 171 = t.val := by omega
  blk_ext [iblk, idx3 t, hm]

theorem pay1_apply (x : FVec Ideal S64x512 .f32) (a : Fin 64) (l : Fin 512) : (k0_pay1 (F := Ideal) x (ix2 a l) : EReal) = x (ix2 a l) := by
  pointwise [k0_pay1]

theorem pay2_apply (x : FVec Ideal S512x512 .f32) (r : Fin 512) (l : Fin 512) : (k0_pay2 (F := Ideal) x (ix3 (0 : Fin 1) r l) : EReal) = x (ix2 r l) := by
  pointwise [k0_pay2]

theorem pay3_apply (x : FVec Ideal S512x512 .f32) (r : Fin 512) (l : Fin 512) : (k0_pay3 (F := Ideal) x (ix3 (0 : Fin 1) r l) : EReal) = x (ix2 r l) := by
  pointwise [k0_pay3]

/-- The gated product of two numbers. -/
def gated (g u : EReal) : EReal := g * Ideal.logistic g * u

theorem pay4_apply (x x' : FVec Ideal S1024x4096 .bf16) (v w : FVec Ideal S1x4096x512 .bf16) (a : Fin 1024) (l : Fin 512) :
    (k0_pay4 (F := Ideal) x v x' w (ix2 a l) : EReal) = gated (∑ r : Fin 4096, (x (ix2 a r) * v (ix3 (0 : Fin 1) r l) : EReal)) (∑ r : Fin 4096, (x' (ix2 a r) * w (ix3 (0 : Fin 1) r l) : EReal)) := by
  unfold gated
  pointwise [k0_pay4]

theorem dot_apply (hs : Cert.Reference3Ideal.S4096x11008.Slices ![0, 0] Cert.Reference3Ideal.S4096x10752) (a : FVec Ideal S8192x4096 .f32) (w : FVec Ideal S4096x11008 .f32) (R : Fin 8192) (C : Fin 10752) :
    (Host.dotGeneral (F := Ideal) Cert.Reference3Ideal.dot_S8192x4096_S4096x10752_S8192x10752_1_0_0_1_n_n none a (extractStridedSlice Cert.Reference3Ideal.S4096x10752 ![0, 0] w hs) (ix2 R C) : EReal)
      = ∑ r : Fin 4096, (a (ix2 R r) * w (ix2 r ⟨C.val, by omega⟩) : EReal) := by
  pointwise

/-- The reference's gated linear unit, at an element of its two products. -/
theorem silu_apply (hb : Cert.Reference3Ideal.S_.BroadcastsInDim Cert.Reference3Ideal.S8192x10752 (![] : Fin 0 → Fin Cert.Reference3Ideal.S8192x10752.rank)) (ht : FTy.bits .bf16 < FTy.bits .f32) (g u : FVec Ideal Cert.Reference3Ideal.S8192x10752 .f32) (y : Cert.Reference3Ideal.S8192x10752.Idx) :
    (truncf .bf16 (mulf (mulf g (Host.divf (broadcastInDim Cert.Reference3Ideal.S8192x10752 ![] hb (constant (F := Ideal) Cert.Reference3Ideal.S_ .f32 0x3F800000#32)) (addf (broadcastInDim Cert.Reference3Ideal.S8192x10752 ![] hb (constant (F := Ideal) Cert.Reference3Ideal.S_ .f32 0x3F800000#32)) (Host.exp (Host.negf g))))) u) ht y : EReal)
      = gated (g y) (u y) := by
  unfold gated
  pointwise
  rfl

theorem h_apply (t : Fin cfg0.N) (h : 8 ≤ t.val) (a : Fin 1024) (r : Fin 4096) :
    (iblk m c 0 t (ix2 a r) : EReal) = hArg m c (ix2 ⟨1024 * (t.val % 8) + a.val, by omega⟩ r) := by
  rw [block0 m c t h, V_h]
  rfl

/-- A column block of a weight is the weight's own columns. -/
theorem wgate_apply (b : ℕ) (hb : b < 21) (r : Fin 4096) (l : Fin 512) : (wgate m c b r l : EReal) = gArg m c (ix2 r ⟨512 * b + l.val, by omega⟩) := by
  unfold wgate
  refine (pay2_apply _ _ _).trans ?_
  have hp : (pt b (r.val / 512)).val = 8 * (b % 22) + r.val / 512 % 8 := rfl
  have hr := r.isLt
  refine (block1 m c _ (by omega) _ _).trans ?_
  rw [V_main_arg1]
  refine congrArg₂ (fun (e : Fin 4096) (f : Fin 11008) => gArg m c (ix2 e f)) (Fin.ext ?_) (Fin.ext ?_)
  · show 512 * ((8 * (b % 22) + r.val / 512 % 8) % 8) + r.val % 512 = r.val
    omega
  · show 512 * ((8 * (b % 22) + r.val / 512 % 8) / 8) + l.val = 512 * b + l.val
    omega

theorem wup_apply (b : ℕ) (hb : b < 21) (r : Fin 4096) (l : Fin 512) : (wup m c b r l : EReal) = uArg m c (ix2 r ⟨512 * b + l.val, by omega⟩) := by
  unfold wup
  refine (pay3_apply _ _ _).trans ?_
  have hp : (pt b (r.val / 512)).val = 8 * (b % 22) + r.val / 512 % 8 := rfl
  have hr := r.isLt
  refine (block2 m c _ (by omega) _ _).trans ?_
  rw [V_main_arg2]
  refine congrArg₂ (fun (e : Fin 4096) (f : Fin 11008) => uArg m c (ix2 e f)) (Fin.ext ?_) (Fin.ext ?_)
  · show 512 * ((8 * (b % 22) + r.val / 512 % 8) % 8) + r.val % 512 = r.val
    omega
  · show 512 * ((8 * (b % 22) + r.val / 512 % 8) / 8) + l.val = 512 * b + l.val
    omega

/-- The gated product of row `R` and column `C`. -/
def act (R : Fin 8192) (C : Fin 11008) : EReal :=
  gated (∑ r : Fin 4096, (hArg m c (ix2 R r) * gArg m c (ix2 r C) : EReal)) (∑ r : Fin 4096, (hArg m c (ix2 R r) * uArg m c (ix2 r C) : EReal))

/-- What a step leaves in the main output's buffer. -/
theorem after4_apply (t : Fin cfg0.N) (h : 8 ≤ t.val) (a : Fin 1024) (l : Fin 512) :
    ((dats m 0 c).after 4 t (ix2 a l) : EReal) = act m c ⟨1024 * (t.val % 8) + a.val, by omega⟩ ⟨512 * (t.val / 8 - 1) + l.val, by have := ltN t; omega⟩ := by
  have hN := ltN t
  rw [after_4]
  refine (pay4_apply _ _ _ _ _ _).trans ?_
  unfold act
  refine congrArg₂ gated (Finset.sum_congr rfl fun r _ => ?_) (Finset.sum_congr rfl fun r _ => ?_)
  · rw [h_apply m c t h]
    exact congrArg₂ (· * ·) rfl (wgate_apply m c (t.val / 8 - 1) (by omega) r l)
  · rw [h_apply m c t h]
    exact congrArg₂ (· * ·) rfl (wup_apply m c (t.val / 8 - 1) (by omega) r l)

/-- The main output's array, at the columns the call covers. -/
theorem arr4_eq (R : Fin 8192) (C : Fin 11008) (hC : C.val < 10752) : ((dats m 0 c).arrAt 4 cfg0.N (ix2 R C) : EReal) = act m c R C := by
  have key := (dats m 0 c).arrAt_apply_of_coversWhere 4 (fun i : S8192x11008.Idx => act m c (i 0) (i 1)) (P := fun i : S8192x11008.Idx => (i 1 : ℕ) / 512 < 21)
    (fun β => β (1 : Fin 2) < 21) (by decide +kernel) (fun t hf y => ?_) (fun j => Iff.rfl) (ix2 R C : S8192x11008.Idx)
  · rw [if_pos (by show C.val / 512 < 21; omega)] at key
    exact key
  · have h8 := flush4_ge t hf
    blk_simp
    refine (congrArg ((dats m 0 c).after 4 t) (eq_ix2 (n0 := 1024) (n1 := 512) _)).trans ((after4_apply m c t h8 _ _).trans ?_)
    refine congrArg₂ (act m c) (Fin.ext ?_) (Fin.ext ?_)
    · blk_simp [idx4 t h8]
      exact congrArg (· + (y 0).val) (Nat.mul_comm _ _)
    · blk_simp [idx4 t h8]
      exact congrArg (· + (y 1).val) (Nat.mul_comm _ _)

/-- The side output's array. -/
theorem side_apply (hs : Cert.Reference3Ideal.S11008x4096.Slices ![0, 0] Cert.Reference3Ideal.S11008x512) (ht : FTy.bits .bf16 < FTy.bits .f32) (w : FVec Ideal Cert.Reference3Ideal.S11008x4096 .f32) (R : Fin 11008) (C : Fin 512) :
    (truncf .bf16 (extractStridedSlice Cert.Reference3Ideal.S11008x512 ![0, 0] w hs) ht (ix2 R C) : EReal) = w (ix2 R ⟨C.val, by omega⟩) := by
  pointwise

theorem arr5_eq (hs : Cert.Reference3Ideal.S11008x4096.Slices ![0, 0] Cert.Reference3Ideal.S11008x512) (ht : FTy.bits .bf16 < FTy.bits .f32) : (dats m 0 c).arrAt 5 cfg0.N = truncf .bf16 (extractStridedSlice Cert.Reference3Ideal.S11008x512 ![0, 0] (dArg m c) hs) ht := by
  refine (dats m 0 c).arrAt_eq_of_covers 5 _ (by decide +kernel) fun t hf y => ?_
  blk_simp
  rw [after_5]
  change S64x512.Idx at y
  obtain ⟨a, e, rfl⟩ : ∃ (a : Fin 64) (e : Fin 512), y = ix2 a e := ⟨y 0, y 1, eq_ix2 y⟩
  have hN := ltN t
  refine (pay1_apply _ _ _).trans ?_
  have he : (sideStep t).val = min t.val 171 := rfl
  rw [block3 m c (sideStep t) (by omega), V_main_arg3]
  refine (side_apply hs ht (dArg m c) ⟨64 * (sideStep t).val + a.val, by omega⟩ e).symm.trans ?_
  blk_ext [idx5 t, he]

end Cert.GateUp
-- ==== Proof.GateUp.Claims.lean ====
module

public import proofs.«01_k».proof.Defs
public import proofs.«01_k».proof.Proof.Gen.Kernel3
public import proofs.«01_k».proof.Proof.Gen.Kernel3.Frame
public import proofs.«01_k».proof.Proof.GateUp.Value

/-! The gate and up projections' claims: the kernel and its reference run and leave their arguments alone, and at the
extended reals their results are equal. -/

@[expose] public section

set_option maxRecDepth 65536

noncomputable section

namespace Cert.GateUp

open Idealize.ShloMosaic Idealize.ShloMosaic.TcCoe Idealize.ShloMosaic.Tactic Idealize.SL.Sem

theorem frame_kernelIdeal : Cert.quiescent_Kernel3Ideal := fun m ρ _ => frame_run m ρ

/-- The two programs have one text: their bodies agree, -/
theorem defs₀_eq : Cert.Kernel3.defs₀ (F := Bits) = Cert.Kernel3Ideal.defs₀ (F := Bits) := by
  unfold Cert.Kernel3.defs₀ Cert.Kernel3Ideal.defs₀
  refine congrArg Defs.onTc (funext fun l => funext fun a => ?_)
  match l, a with
  | ⟨0, _⟩, _ => rfl

/-- and so their pipelines. -/
theorem defs_eq : Cert.Kernel3.defs (F := Bits) = Cert.Kernel3Ideal.defs (F := Bits) := by
  unfold Cert.Kernel3.defs Cert.Kernel3Ideal.defs
  exact congrArg _ defs₀_eq

theorem frame_kernel : Cert.quiescent_Kernel3 := by
  intro m ρ _
  rw [defs_eq]
  exact frame_run (F := Bits) m ρ

theorem frame_referenceIdeal : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

section
open Cert.Kernel3Ideal Cert.Kernel3Ideal.Gen
variable (m : (ℓ : Loc nD τ sig) → Buf (Elt Ideal) ℓ) (c : Dev nD)

/-- The main result's array, after the host code behind the call. -/
def result : FVec Ideal S8192x10752 .bf16 := Pipeline.afterTail₀ cfgs (dats m) 0 (V0 m) [hostOps1] c main_v2

/-- It is the main output's first columns. -/
theorem result_eq (hs : S8192x11008.Slices ![0, 0] S8192x10752) : result m c
    = extractStridedSlice S8192x10752 ![0, 0] ((dats m 0 c).arrAt 4 cfg0.N : FVec Ideal S8192x11008 .bf16) hs := by
  unfold result Pipeline.afterTail₀
  simp only [List.flatten_cons, List.flatten_nil, List.append_nil]
  after_results
  exact congrArg (fun v : FVec Ideal S8192x11008 .bf16 => extractStridedSlice S8192x10752 ![0, 0] v hs)
    (Pipeline.withArrays_arr spec0 (show Function.Injective (Pipeline.arrRef spec0) by decide) c (V0 m c) (fun w => (dats m 0 c).arrAt w cfg0.N) 4)

theorem slice_apply (hs : S8192x11008.Slices ![0, 0] S8192x10752) (v : FVec Ideal S8192x11008 .bf16) (R : Fin 8192) (C : Fin 10752) :
    (extractStridedSlice S8192x10752 ![0, 0] v hs (ix2 R C) : EReal) = v (ix2 R ⟨C.val, by omega⟩) := by
  pointwise
end

theorem algebraic : Cert.algebraic_Kernel3Ideal_Reference3Ideal := by
  intro m ρ m' ρ' hpre hargs
  refine ⟨result m,
    fun c => (dats m 0 c).arrAt 5 Cert.Kernel3Ideal.cfg0.N, ?_, ?_⟩
  · exact (θ_run Cert.Kernel3Ideal.defs _ _).mono (fun r h c => ⟨(h.1.1 c).2 Cert.Kernel3Ideal.main_v2 (Pipeline.mem_restRefs_of Cert.Kernel3Ideal.main_v2 (by decide) (by decide)),
      (h.1.1 c).1 5, h.2.1 c⟩) (θ_run_and (run_main m ρ) (frame_run m ρ))
  refine (θ_run Cert.Reference3Ideal.defs _ _).mono (fun r h c => ⟨(h c).1.trans ?_, (h c).2.1.trans ?_, (h c).2.2⟩) (Cert.Reference3Ideal.Value.run (F := Ideal) m' ρ')
  · rw [(hargs c).1, (hargs c).2.1, (hargs c).2.2.1, result_eq m c (by decide)]
    funext y
    obtain ⟨R, C, rfl⟩ : ∃ (R : Fin 8192) (C : Fin 10752), y = ix2 R C := ⟨y 0, y 1, eq_ix2 (n0 := 8192) (n1 := 10752) y⟩
    refine (silu_apply _ _ _ _ _).trans ?_
    refine (congrArg₂ gated (dot_apply _ _ _ R C) (dot_apply _ _ _ R C)).trans ?_
    exact ((slice_apply (by decide) _ R C).trans (arr4_eq m c R ⟨C.val, by omega⟩ C.isLt)).symm
  · rw [(hargs c).2.2.2]
    exact (arr5_eq m c _ _).symm

end Cert.GateUp
-- ==== Proof.Res.Ref.lean ====
module

public import proofs.«01_k».proof.Proof.Gen.Reference4Ideal
public import proofs.«01_k».proof.Proof.Gen.Reference4Ideal.Run
public import Idealize.ShloMosaic.Lib.Pipeline.ValueKit

/-! The last residual sum in the reference: every element of the result is the residual's element and half the normalized
element beside it. -/

@[expose] public section

set_option maxRecDepth 16384

noncomputable section

namespace Cert.Res

open Idealize.ShloMosaic Idealize.ShloMosaic.TcCoe Idealize.ShloMosaic.Tactic Idealize.SL.Sem
open Cert.Reference4Ideal Cert.Reference4Ideal.Gen

/-- One element of the residual sum: the row `y`'s entry `z`, divided by the root of the row's mean square and scaled by
`g`, is added by half to `x`. -/
def resid (x : EReal) (y : Fin 4096 → EReal) (z g : EReal) : EReal :=
  x + Ideal.ofBits .f32 0x3F000000#32 * (z * Ideal.rsqrt (Ideal.div (∑ e, y e * y e) (Ideal.ofBits .f32 0x45800000#32) + Ideal.ofBits .f32 0x358637BD#32) * g)

/-- The reference's lines, on a residual, a branch and a gain. -/
def refRes (x y : FVec Ideal S4x2048x4096 .f32) (g : FVec Ideal S4096 .f32) : FVec Ideal S8192x4096 .f32 :=
  shapeCast _ (addf x (mulf (broadcastInDim S4x2048x4096 ![] bcast_S_S4x2048x4096 (constant S_ .f32 0x3F000000#32)) (mulf (mulf y (broadcastInDim S4x2048x4096 ![0, 1, 2] bcast_S4x2048x1_S4x2048x4096_0_1_2 (Host.rsqrt (addf (Host.divf (broadcastInDim S4x2048x1 ![0, 1] bcast_S4x2048_S4x2048x1_0_1 (Host.reduceAdd (mulf y y) (constant S_ .f32 0x00000000#32) reducesTo_S4x2048x4096_S4x2048_d2 h_S_)) (broadcastInDim S4x2048x1 ![] bcast_S_S4x2048x1 (constant S_ .f32 0x45800000#32))) (broadcastInDim S4x2048x1 ![] bcast_S_S4x2048x1 (constant S_ .f32 0x358637BD#32)))))) (broadcastInDim S4x2048x4096 ![0, 1, 2] bcast_S1x1x4096_S4x2048x4096_0_1_2 (broadcastInDim S1x1x4096 ![2] bcast_S4096_S1x1x4096_2 g))))) shapeCasts_S4x2048x4096_S8192x4096

theorem refRes_apply (x y : FVec Ideal S4x2048x4096 .f32) (g : FVec Ideal S4096 .f32) (R : Fin 8192) (e : Fin 4096) :
    (refRes x y g (ix2 R e) : EReal) = resid (x (ix3 ⟨R.val / 2048, by omega⟩ ⟨R.val % 2048, by omega⟩ e)) (fun f => y (ix3 ⟨R.val / 2048, by omega⟩ ⟨R.val % 2048, by omega⟩ f))
      (y (ix3 ⟨R.val / 2048, by omega⟩ ⟨R.val % 2048, by omega⟩ e)) (g (ix1 e)) := by
  unfold resid
  unfold refRes
  pointwise

end Cert.Res
-- ==== Proof.Res.Value.lean ====
module

public import proofs.«01_k».proof.Proof.Gen.Kernel4Ideal.Value
public import proofs.«01_k».proof.Proof.Res.Ref
public import Idealize.ShloMosaic.Lib.Pipeline.ValueKit

/-! The last residual sum's value at the extended reals: what a grid point leaves, and the array the kernel leaves. -/

@[expose] public section

set_option maxRecDepth 16384

noncomputable section

namespace Cert.Res

open Idealize.ShloMosaic Idealize.ShloMosaic.TcCoe Idealize.ShloMosaic.Tactic Idealize.SL.Sem
open Cert.Kernel4Ideal Cert.Kernel4Ideal.Gen

section
variable {F : FTy → Type} [FloatOps F] (m : (ℓ : Loc nD τ sig) → Buf (Elt F) ℓ)

theorem V_x (c : Dev nD) : V m c main_v0 = shapeCast S8192x4096 (m ((c.tc : Thread nD τ).loc main_arg0) : FVec F S4x2048x4096 .f32) shapeCasts_S4x2048x4096_S8192x4096 := by
  unfold V
  simp only [hostOps0]
  after_results <;> rfl

theorem V_y (c : Dev nD) : V m c main_v1 = shapeCast S8192x4096 (m ((c.tc : Thread nD τ).loc main_arg1) : FVec F S4x2048x4096 .f32) shapeCasts_S4x2048x4096_S8192x4096 := by
  unfold V
  simp only [hostOps0]
  after_results <;> rfl

theorem V_g (c : Dev nD) : V m c main_v2 = shapeCast S1x4096 (m ((c.tc : Thread nD τ).loc main_arg2) : FVec F S4096 .f32) shapeCasts_S4096_S1x4096 := by
  unfold V
  simp only [hostOps0]
  after_results <;> rfl
end

/-- A grid point leaves the body's value. -/
theorem out_eq {F : FTy → Type} [FloatOps F] (x y : Vec F S256x4096 .f32) (g : Vec F S1x4096 .f32) : out0_3 x y g = k0_pay1 y g x := by
  have h0 : (![0, 0] : Fin 2 → Nat) = fun _ => 0 := by decide
  unfold out0_3
  refine (View.canon_unit_zero h0 _ _).trans ?_
  rw [View.ld_unit_zero h0, View.ld_unit_zero h0, View.ld_unit_zero h0]

theorem pay_apply (x y : FVec Ideal S256x4096 .f32) (g : FVec Ideal S1x4096 .f32) (a : Fin 256) (e : Fin 4096) :
    (k0_pay1 (F := Ideal) y g x (ix2 a e) : EReal) = resid (x (ix2 a e)) (fun f => y (ix2 a f)) (y (ix2 a e)) (g (ix2 (0 : Fin 1) e)) := by
  unfold resid
  pointwise [k0_pay1]

theorem flat_apply (x : FVec Ideal S4x2048x4096 .f32) (R : Fin 8192) (e : Fin 4096) :
    (shapeCast S8192x4096 x shapeCasts_S4x2048x4096_S8192x4096 (ix2 R e) : EReal) = x (ix3 ⟨R.val / 2048, by omega⟩ ⟨R.val % 2048, by omega⟩ e) := by
  pointwise

theorem gain_apply (g : FVec Ideal S4096 .f32) (e : Fin 4096) :
    (shapeCast S1x4096 g shapeCasts_S4096_S1x4096 (ix2 (0 : Fin 1) e) : EReal) = g (ix1 e) := by
  pointwise

theorem idx : ∀ t : Fin grid0.N, win0_0.index t = ![t.val, 0] ∧ win0_1.index t = ![t.val, 0] ∧ win0_2.index t = ![0, 0] ∧ win0_3.index t = ![t.val, 0] := by decide +kernel

theorem ltN (t : Fin grid0.N) : t.val < 32 := t.isLt

variable (m : (ℓ : Loc nD τ sig) → Buf (Elt Ideal) ℓ) (c : Dev nD) (t : Fin cfg0.N)

theorem block0 (a : Fin 256) (e : Fin 4096) : iblk m c 0 t (ix2 a e) = V m c main_v0 (ix2 ⟨t.val * 256 + a.val, by have := ltN t; omega⟩ e) := by
  have := ltN t
  blk_ext [iblk, idx t]

theorem block1 (a : Fin 256) (e : Fin 4096) : iblk m c 1 t (ix2 a e) = V m c main_v1 (ix2 ⟨t.val * 256 + a.val, by have := ltN t; omega⟩ e) := by
  have := ltN t
  blk_ext [iblk, idx t]

theorem block2 (e : Fin 4096) : iblk m c 2 t (ix2 (0 : Fin 1) e) = V m c main_v2 (ix2 (0 : Fin 1) e) := by
  have := ltN t
  blk_ext [iblk, idx t]

theorem out_apply (x y : FVec Ideal S256x4096 .f32) (g : FVec Ideal S1x4096 .f32) (a : Fin 256) (e : Fin 4096) :
    (out0_3 (F := Ideal) x y g (ix2 a e) : EReal) = resid (x (ix2 a e)) (fun f => y (ix2 a f)) (y (ix2 a e)) (g (ix2 (0 : Fin 1) e)) := by
  rw [out_eq]
  exact pay_apply x y g a e

abbrev xArg : FVec Ideal S4x2048x4096 .f32 := m ((c.tc : Thread nD τ).loc main_arg0)
abbrev yArg : FVec Ideal S4x2048x4096 .f32 := m ((c.tc : Thread nD τ).loc main_arg1)
abbrev gArg : FVec Ideal S4096 .f32 := m ((c.tc : Thread nD τ).loc main_arg2)

/-- The array the kernel leaves. -/
theorem arr_eq : (dats m 0 c).arrAt 3 cfg0.N = refRes (xArg m c) (yArg m c) (gArg m c) := by
  refine (dats m 0 c).arrAt_eq_of_covers 3 _ (by decide +kernel) fun t hf y => ?_
  blk_simp
  rw [after0_3]
  change S256x4096.Idx at y
  obtain ⟨a, e, rfl⟩ : ∃ (a : Fin 256) (e : Fin 4096), y = ix2 a e := ⟨y 0, y 1, eq_ix2 y⟩
  have hN := ltN t
  refine (out_apply _ _ _ a e).trans (Eq.trans ?_ ((refRes_apply (xArg m c) (yArg m c) (gArg m c) ⟨t.val * 256 + a.val, by omega⟩ e).symm.trans ?_))
  · have h1 := fun f => (block1 m c t a f).trans ((congrFun (V_y m c) _).trans (flat_apply (yArg m c) _ f))
    rw [(block0 m c t a e).trans ((congrFun (V_x m c) _).trans (flat_apply (xArg m c) _ e)), (block2 m c t e).trans ((congrFun (V_g m c) _).trans (gain_apply (gArg m c) e)), h1 e, funext h1]
  · blk_ext [idx t]

end Cert.Res
-- ==== Proof.Res.Claims.lean ====
module

public import proofs.«01_k».proof.Defs
public import proofs.«01_k».proof.Proof.Gen.Kernel4
public import proofs.«01_k».proof.Proof.Gen.Kernel4.Frame
public import proofs.«01_k».proof.Proof.Res.Value

/-! The last residual sum's claims: the kernel and its reference run and leave their arguments alone, and at the extended
reals their results are equal. -/

@[expose] public section

set_option maxRecDepth 65536

noncomputable section

namespace Cert.Res

open Idealize.ShloMosaic Idealize.SL.Sem

theorem frame_kernelIdeal : Cert.quiescent_Kernel4Ideal := fun m ρ _ => Cert.Kernel4Ideal.Gen.frame m ρ

theorem frame_kernel : Cert.quiescent_Kernel4 := fun m ρ _ => Cert.Kernel4.Gen.frame m ρ

theorem frame_referenceIdeal : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic : Cert.algebraic_Kernel4Ideal_Reference4Ideal := by
  intro m ρ m' ρ' hpre hargs
  refine ⟨fun c => (Cert.Kernel4Ideal.Gen.dats m 0 c).arrAt 3 Cert.Kernel4Ideal.cfg0.N, Cert.Kernel4Ideal.Value.run_blocks m ρ, ?_⟩
  refine (θ_run Cert.Reference4Ideal.defs _ _).mono (fun r h c => ⟨(h c).1.trans ?_, (h c).2⟩) (Cert.Reference4Ideal.Value.run (F := Ideal) m' ρ')
  rw [(hargs c).1, (hargs c).2.1, (hargs c).2.2]
  exact (arr_eq m c).symm

end Cert.Res
-- ==== Proof.Out.Ref.lean ====
module

public import proofs.«01_k».proof.Proof.Gen.Reference5Ideal
public import proofs.«01_k».proof.Proof.Gen.Reference5Ideal.Run
public import Idealize.ShloMosaic.Lib.Pipeline.ValueKit

/-! The output projection with its residual sum in the reference: the two halves beside each other multiplied with the
weight, the product normalized and added to the residual, and the sum normalized again. -/

@[expose] public section

set_option maxRecDepth 16384

noncomputable section

namespace Cert.Out

open Idealize.ShloMosaic Idealize.ShloMosaic.TcCoe Idealize.ShloMosaic.Tactic Idealize.SL.Sem
open Cert.Reference5Ideal Cert.Reference5Ideal.Gen

/-- One element of a normalized row: the row `y`'s entry `z`, divided by the root of the row's mean square and scaled by
`g`. -/
def norm (y : Fin 4096 → EReal) (z g : EReal) : EReal :=
  z * Ideal.rsqrt (Ideal.div (∑ e, y e * y e) (Ideal.ofBits .f32 0x45800000#32) + Ideal.ofBits .f32 0x358637BD#32) * g

/-- One element of the product: a row of each half with a column of the weight's upper and lower half. -/
def prod (a p : Fin 2048 → EReal) (w : Fin 4096 → EReal) : EReal :=
  (∑ r : Fin 2048, a r * w ⟨r.val, by omega⟩) + ∑ r : Fin 2048, p r * w ⟨2048 + r.val, by omega⟩

/-- The reference's normalization. -/
def refNorm (y : FVec Ideal S4x2048x4096 .f32) (g : FVec Ideal S4096 .f32) : FVec Ideal S4x2048x4096 .f32 :=
  mulf (mulf y (broadcastInDim S4x2048x4096 ![0, 1, 2] bcast_S4x2048x1_S4x2048x4096_0_1_2 (Host.rsqrt (addf (Host.divf (broadcastInDim S4x2048x1 ![0, 1] bcast_S4x2048_S4x2048x1_0_1 (Host.reduceAdd (mulf y y) (constant S_ .f32 0x00000000#32) reducesTo_S4x2048x4096_S4x2048_d2 h_S_)) (broadcastInDim S4x2048x1 ![] bcast_S_S4x2048x1 (constant S_ .f32 0x45800000#32))) (broadcastInDim S4x2048x1 ![] bcast_S_S4x2048x1 (constant S_ .f32 0x358637BD#32)))))) (broadcastInDim S4x2048x4096 ![0, 1, 2] bcast_S1x1x4096_S4x2048x4096_0_1_2 (broadcastInDim S1x1x4096 ![2] bcast_S4096_S1x1x4096_2 g))

/-- The reference's product. -/
def refProd (a p : FVec Ideal S4x2048x2048 .f32) (w : FVec Ideal S4096x4096 .f32) : FVec Ideal S4x2048x4096 .f32 :=
  Host.dotGeneral dot_S4x2048x4096_S4096x4096_S4x2048x4096_2_0_01_1_n_n none (concatenate S4x2048x4096 2 [⟨S4x2048x2048, a⟩, ⟨S4x2048x2048, p⟩] concatenates_S4x2048x2048_S4x2048x2048_S4x2048x4096_d2) w

/-- The residual sum. -/
def refX (a p : FVec Ideal S4x2048x2048 .f32) (x : FVec Ideal S4x2048x4096 .f32) (g : FVec Ideal S4096 .f32) (w : FVec Ideal S4096x4096 .f32) :
    FVec Ideal S4x2048x4096 .f32 :=
  addf x (refNorm (refProd a p w) g)

/-- The two results. -/
def refOut0 (a p : FVec Ideal S4x2048x2048 .f32) (x : FVec Ideal S4x2048x4096 .f32) (g : FVec Ideal S4096 .f32) (w : FVec Ideal S4096x4096 .f32) :
    FVec Ideal S8192x4096 .f32 :=
  shapeCast _ (refX a p x g w) shapeCasts_S4x2048x4096_S8192x4096

def refOut1 (a p : FVec Ideal S4x2048x2048 .f32) (x : FVec Ideal S4x2048x4096 .f32) (g g' : FVec Ideal S4096 .f32) (w : FVec Ideal S4096x4096 .f32) :
    FVec Ideal S8192x4096 .bf16 :=
  truncf .bf16 (shapeCast S8192x4096 (refNorm (refX a p x g w) g') shapeCasts_S4x2048x4096_S8192x4096) bitsLt_bf16_f32

theorem refNorm_apply (y : FVec Ideal S4x2048x4096 .f32) (g : FVec Ideal S4096 .f32) (b : Fin 4) (s : Fin 2048) (e : Fin 4096) :
    (refNorm y g (ix3 b s e) : EReal) = norm (fun f => y (ix3 b s f)) (y (ix3 b s e)) (g (ix1 e)) := by
  unfold norm
  unfold refNorm
  pointwise

theorem dot_apply (v : FVec Ideal S4x2048x4096 .f32) (w : FVec Ideal S4096x4096 .f32) (b : Fin 4) (s : Fin 2048) (e : Fin 4096) :
    (Host.dotGeneral (F := Ideal) dot_S4x2048x4096_S4096x4096_S4x2048x4096_2_0_01_1_n_n none v w (ix3 b s e) : EReal) = ∑ r : Fin 4096, (v (ix3 b s r) * w (ix2 r e) : EReal) := by
  pointwise

theorem cat_left (a p : FVec Ideal S4x2048x2048 .f32) (b : Fin 4) (s : Fin 2048) (r : Fin 2048) :
    (concatenate S4x2048x4096 2 [⟨S4x2048x2048, a⟩, ⟨S4x2048x2048, p⟩] concatenates_S4x2048x2048_S4x2048x2048_S4x2048x4096_d2 (ix3 b s (⟨r.val, by omega⟩ : Fin 4096)) : EReal)
      = a (ix3 b s r) := by
  have := r.isLt
  pointwise

theorem cat_right (a p : FVec Ideal S4x2048x2048 .f32) (b : Fin 4) (s : Fin 2048) (r : Fin 2048) :
    (concatenate S4x2048x4096 2 [⟨S4x2048x2048, a⟩, ⟨S4x2048x2048, p⟩] concatenates_S4x2048x2048_S4x2048x2048_S4x2048x4096_d2 (ix3 b s (⟨2048 + r.val, by omega⟩ : Fin 4096)) : EReal)
      = p (ix3 b s r) := by
  have := r.isLt
  pointwise

theorem refProd_apply (a p : FVec Ideal S4x2048x2048 .f32) (w : FVec Ideal S4096x4096 .f32) (b : Fin 4) (s : Fin 2048) (e : Fin 4096) :
    (refProd a p w (ix3 b s e) : EReal) = prod (fun r => a (ix3 b s r)) (fun r => p (ix3 b s r)) (fun r => w (ix2 r e)) := by
  unfold refProd prod
  refine (dot_apply _ _ _ _ _).trans ?_
  refine (Fin.sum_univ_add (a := 2048) (b := 2048) (fun r : Fin (2048 + 2048) => (_ * _ : EReal))).trans ?_
  refine congrArg₂ (· + ·) (Finset.sum_congr rfl fun r _ => ?_) (Finset.sum_congr rfl fun r _ => ?_)
  · exact congrArg (· * _) (cat_left a p b s r)
  · exact congrArg (· * _) (cat_right a p b s r)

theorem refX_apply (a p : FVec Ideal S4x2048x2048 .f32) (x : FVec Ideal S4x2048x4096 .f32) (g : FVec Ideal S4096 .f32) (w : FVec Ideal S4096x4096 .f32)
    (b : Fin 4) (s : Fin 2048) (e : Fin 4096) :
    (refX a p x g w (ix3 b s e) : EReal) = (x (ix3 b s e) : EReal) + norm (fun f => prod (fun r => a (ix3 b s r)) (fun r => p (ix3 b s r)) (fun r => w (ix2 r f)))
      (prod (fun r => a (ix3 b s r)) (fun r => p (ix3 b s r)) (fun r => w (ix2 r e))) (g (ix1 e)) := by
  refine congrArg (_ + ·) ((refNorm_apply _ _ _ _ _).trans ?_)
  rw [refProd_apply a p w b s e, funext fun f => refProd_apply a p w b s f]

theorem flat_apply (x : FVec Ideal S4x2048x4096 .f32) (R : Fin 8192) (e : Fin 4096) :
    (shapeCast S8192x4096 x shapeCasts_S4x2048x4096_S8192x4096 (ix2 R e) : EReal) = x (ix3 ⟨R.val / 2048, by omega⟩ ⟨R.val % 2048, by omega⟩ e) := by
  pointwise

end Cert.Out
-- ==== Proof.Out.Value.lean ====
module

public import proofs.«01_k».proof.Proof.Gen.Kernel5Ideal.Value
public import proofs.«01_k».proof.Proof.Out.Ref
public import Idealize.ShloMosaic.Lib.Pipeline.ValueKit

/-! The output projection's value at the extended reals: what a grid point leaves in its two windows, and the two arrays
the kernel leaves. -/

@[expose] public section

set_option maxRecDepth 16384

noncomputable section

namespace Cert.Out

open Idealize.ShloMosaic Idealize.ShloMosaic.TcCoe Idealize.ShloMosaic.Tactic Idealize.SL.Sem
open Cert.Kernel5Ideal Cert.Kernel5Ideal.Gen

section
variable {F : FTy → Type} [FloatOps F] (m : (ℓ : Loc nD τ sig) → Buf (Elt F) ℓ)

theorem V_a (c : Dev nD) : V m c main_v1 = truncf .bf16 (shapeCast S8192x2048 (m ((c.tc : Thread nD τ).loc main_arg0) : FVec F S4x2048x2048 .f32) shapeCasts_S4x2048x2048_S8192x2048) bitsLt_bf16_f32 := by
  unfold V
  simp only [hostOps0]
  after_results <;> rfl

theorem V_p (c : Dev nD) : V m c main_v3 = truncf .bf16 (shapeCast S8192x2048 (m ((c.tc : Thread nD τ).loc main_arg1) : FVec F S4x2048x2048 .f32) shapeCasts_S4x2048x2048_S8192x2048) bitsLt_bf16_f32 := by
  unfold V
  simp only [hostOps0]
  after_results <;> rfl

theorem V_x (c : Dev nD) : V m c main_v4 = shapeCast S8192x4096 (m ((c.tc : Thread nD τ).loc main_arg2) : FVec F S4x2048x4096 .f32) shapeCasts_S4x2048x4096_S8192x4096 := by
  unfold V
  simp only [hostOps0]
  after_results <;> rfl

theorem V_g (c : Dev nD) : V m c main_v5 = shapeCast S1x4096 (m ((c.tc : Thread nD τ).loc main_arg3) : FVec F S4096 .f32) shapeCasts_S4096_S1x4096 := by
  unfold V
  simp only [hostOps0]
  after_results <;> rfl

theorem V_g' (c : Dev nD) : V m c main_v6 = shapeCast S1x4096 (m ((c.tc : Thread nD τ).loc main_arg4) : FVec F S4096 .f32) shapeCasts_S4096_S1x4096 := by
  unfold V
  simp only [hostOps0]
  after_results <;> rfl

theorem V_w (c : Dev nD) : V m c main_v7 = truncf .bf16 (m ((c.tc : Thread nD τ).loc main_arg5) : FVec F S4096x4096 .f32) bitsLt_bf16_f32 := by
  unfold V
  simp only [hostOps0]
  after_results <;> rfl
end

section
variable {F : FTy → Type} [FloatOps F]

/-- What a grid point leaves in its first output window. -/
theorem out6_eq (a p : Vec F S256x2048 .bf16) (x : Vec F S256x4096 .f32) (g g' : Vec F S1x4096 .f32) (w : Vec F S4096x4096 .bf16) :
    out0_6 a p x g g' w = k0_pay2 a (View.ld w r0_1) p (View.ld w r0_2) x g := by
  have h0 : (![0, 0] : Fin 2 → Nat) = fun _ => 0 := by decide
  unfold out0_6
  refine (View.canon_unit_zero h0 _ _).trans ?_
  rw [View.ld_unit_zero h0, View.ld_unit_zero h0, View.ld_unit_zero h0, View.ld_unit_zero h0]

/-- What a grid point leaves in its second output window. -/
theorem out7_eq (a p : Vec F S256x2048 .bf16) (x : Vec F S256x4096 .f32) (g g' : Vec F S1x4096 .f32) (w : Vec F S4096x4096 .bf16) :
    out0_7 a p x g g' w = k0_pay1 (k0_pay2 a (View.ld w r0_1) p (View.ld w r0_2) x g) (k0_pay3 g') (k0_pay4 a (View.ld w r0_1) p (View.ld w r0_2) x g) (k0_pay5 (F := F)) := by
  have h0 : (![0, 0] : Fin 2 → Nat) = fun _ => 0 := by decide
  unfold out0_7
  refine (View.canon_unit_zero h0 _ _).trans ?_
  rw [View.ld_unit_zero h0, View.ld_unit_zero h0, View.ld_unit_zero h0, View.ld_unit_zero h0, View.ld_unit_zero h0]

theorem upper (w : Vec F S4096x4096 .bf16) (r : Fin 2048) (e : Fin 4096) : View.ld w r0_1 (ix2 r e) = w (ix2 (⟨r.val, by omega⟩ : Fin 4096) e) := by
  refine View.ld_unit_apply_of _ _ _ _ _ _ fun a => ?_
  match a with
  | 0 => show r.val = 0 + r.val; omega
  | 1 => show e.val = 0 + e.val; omega

theorem lower (w : Vec F S4096x4096 .bf16) (r : Fin 2048) (e : Fin 4096) : View.ld w r0_2 (ix2 r e) = w (ix2 (⟨2048 + r.val, by omega⟩ : Fin 4096) e) := by
  refine View.ld_unit_apply_of _ _ _ _ _ _ fun a => ?_
  match a with
  | 0 => show 2048 + r.val = 2048 + r.val; omega
  | 1 => show e.val = 0 + e.val; omega
end

theorem pay2_apply (a p : FVec Ideal S256x2048 .bf16) (w0 w1 : FVec Ideal S2048x4096 .bf16) (x : FVec Ideal S256x4096 .f32) (g : FVec Ideal S1x4096 .f32) (i : Fin 256) (e : Fin 4096) :
    (k0_pay2 (F := Ideal) a w0 p w1 x g (ix2 i e) : EReal) = (x (ix2 i e) : EReal) + norm (fun f => (∑ r : Fin 2048, (a (ix2 i r) * w0 (ix2 r f) : EReal)) + ∑ r : Fin 2048, (p (ix2 i r) * w1 (ix2 r f) : EReal))
      ((∑ r : Fin 2048, (a (ix2 i r) * w0 (ix2 r e) : EReal)) + ∑ r : Fin 2048, (p (ix2 i r) * w1 (ix2 r e) : EReal)) (g (ix2 (0 : Fin 1) e)) := by
  unfold norm
  pointwise [k0_pay2]

theorem pay4_apply (a p : FVec Ideal S256x2048 .bf16) (w0 w1 : FVec Ideal S2048x4096 .bf16) (x : FVec Ideal S256x4096 .f32) (g : FVec Ideal S1x4096 .f32) (i : Fin 256) :
    (k0_pay4 (F := Ideal) a w0 p w1 x g (ix2 i (0 : Fin 1)) : EReal) = ∑ f : Fin 4096, (k0_pay2 (F := Ideal) a w0 p w1 x g (ix2 i f) * k0_pay2 (F := Ideal) a w0 p w1 x g (ix2 i f) : EReal) := by
  pointwise [k0_pay4]

theorem pay1_apply (X : FVec Ideal S256x4096 .f32) (g : FVec Ideal S1x4096 .f32) (s : FVec Ideal S256x1 .f32) (i : Fin 256) (e : Fin 4096)
    (h : (s (ix2 i (0 : Fin 1)) : EReal) = ∑ f : Fin 4096, (X (ix2 i f) * X (ix2 i f) : EReal)) :
    (k0_pay1 (F := Ideal) X (k0_pay3 g) s (k0_pay5 (F := Ideal)) (ix2 i e) : EReal) = norm (fun f => X (ix2 i f)) (X (ix2 i e)) (g (ix2 (0 : Fin 1) e)) := by
  unfold norm
  rw [← h]
  pointwise [k0_pay1, k0_pay3, k0_pay5]

theorem row_apply (x : FVec Ideal S4x2048x2048 .f32) (R : Fin 8192) (e : Fin 2048) :
    (truncf .bf16 (shapeCast S8192x2048 x shapeCasts_S4x2048x2048_S8192x2048) bitsLt_bf16_f32 (ix2 R e) : EReal) = x (ix3 ⟨R.val / 2048, by omega⟩ ⟨R.val % 2048, by omega⟩ e) := by
  pointwise

theorem gain_apply (g : FVec Ideal S4096 .f32) (e : Fin 4096) :
    (shapeCast S1x4096 g shapeCasts_S4096_S1x4096 (ix2 (0 : Fin 1) e) : EReal) = g (ix1 e) := by
  pointwise

theorem idx : ∀ t : Fin grid0.N, win0_0.index t = ![t.val, 0] ∧ win0_1.index t = ![t.val, 0] ∧ win0_2.index t = ![t.val, 0] ∧ win0_3.index t = ![0, 0]
    ∧ win0_4.index t = ![0, 0] ∧ win0_5.index t = ![0, 0] ∧ win0_6.index t = ![t.val, 0] ∧ win0_7.index t = ![t.val, 0] := by decide +kernel

theorem ltN (t : Fin grid0.N) : t.val < 32 := t.isLt

variable (m : (ℓ : Loc nD τ sig) → Buf (Elt Ideal) ℓ) (c : Dev nD) (t : Fin cfg0.N)

abbrev aArg : FVec Ideal S4x2048x2048 .f32 := m ((c.tc : Thread nD τ).loc main_arg0)
abbrev pArg : FVec Ideal S4x2048x2048 .f32 := m ((c.tc : Thread nD τ).loc main_arg1)
abbrev xArg : FVec Ideal S4x2048x4096 .f32 := m ((c.tc : Thread nD τ).loc main_arg2)
abbrev gArg : FVec Ideal S4096 .f32 := m ((c.tc : Thread nD τ).loc main_arg3)
abbrev g'Arg : FVec Ideal S4096 .f32 := m ((c.tc : Thread nD τ).loc main_arg4)
abbrev wArg : FVec Ideal S4096x4096 .f32 := m ((c.tc : Thread nD τ).loc main_arg5)

theorem block0 (a : Fin 256) (e : Fin 2048) : iblk m c 0 t (ix2 a e) = V m c main_v1 (ix2 ⟨t.val * 256 + a.val, by have := ltN t; omega⟩ e) := by
  have := ltN t
  blk_ext [iblk, idx t]

theorem block1 (a : Fin 256) (e : Fin 2048) : iblk m c 1 t (ix2 a e) = V m c main_v3 (ix2 ⟨t.val * 256 + a.val, by have := ltN t; omega⟩ e) := by
  have := ltN t
  blk_ext [iblk, idx t]

theorem block2 (a : Fin 256) (e : Fin 4096) : iblk m c 2 t (ix2 a e) = V m c main_v4 (ix2 ⟨t.val * 256 + a.val, by have := ltN t; omega⟩ e) := by
  have := ltN t
  blk_ext [iblk, idx t]

theorem block3 (e : Fin 4096) : iblk m c 3 t (ix2 (0 : Fin 1) e) = V m c main_v5 (ix2 (0 : Fin 1) e) := by
  blk_ext [iblk, idx t]

theorem block4 (e : Fin 4096) : iblk m c 4 t (ix2 (0 : Fin 1) e) = V m c main_v6 (ix2 (0 : Fin 1) e) := by
  blk_ext [iblk, idx t]

theorem block5 (r e : Fin 4096) : iblk m c 5 t (ix2 r e) = V m c main_v7 (ix2 r e) := by
  blk_ext [iblk, idx t]

theorem w_apply (r e : Fin 4096) : (iblk m c 5 t (ix2 r e) : EReal) = wArg m c (ix2 r e) := by
  rw [block5, V_w]
  rfl

/-- The input windows' blocks at step `t`. -/
abbrev aBlk : FVec Ideal S256x2048 .bf16 := iblk m c 0 t
abbrev pBlk : FVec Ideal S256x2048 .bf16 := iblk m c 1 t
abbrev w0Blk : FVec Ideal S2048x4096 .bf16 := View.ld (iblk m c 5 t) r0_1
abbrev w1Blk : FVec Ideal S2048x4096 .bf16 := View.ld (iblk m c 5 t) r0_2

/-- The batch and the position of row `a` of step `t`. -/
def bat (a : Fin 256) : Fin 4 := ⟨(t.val * 256 + a.val) / 2048, by have := ltN t; omega⟩
def pos (a : Fin 256) : Fin 2048 := ⟨(t.val * 256 + a.val) % 2048, by omega⟩

/-- The residual sum at a grid point is the reference's. -/
theorem sum_apply (a : Fin 256) (e : Fin 4096) :
    (k0_pay2 (F := Ideal) (iblk m c 0 t) (View.ld (iblk m c 5 t) r0_1) (iblk m c 1 t) (View.ld (iblk m c 5 t) r0_2) (iblk m c 2 t) (iblk m c 3 t) (ix2 a e) : EReal)
      = refX (aArg m c) (pArg m c) (xArg m c) (gArg m c) (wArg m c) (ix3 (bat t a) (pos t a) e) := by
  refine (pay2_apply _ _ _ _ _ _ _ _).trans (Eq.trans ?_ (refX_apply _ _ _ _ _ _ _ _).symm)
  have hp : ∀ f : Fin 4096, ((∑ r : Fin 2048, (aBlk m c t (ix2 a r) * w0Blk m c t (ix2 r f) : EReal)) + ∑ r : Fin 2048, (pBlk m c t (ix2 a r) * w1Blk m c t (ix2 r f) : EReal))
      = prod (fun r => aArg m c (ix3 (bat t a) (pos t a) r)) (fun r => pArg m c (ix3 (bat t a) (pos t a) r)) (fun r => wArg m c (ix2 r f)) := fun f => by
    unfold prod
    refine congrArg₂ (· + ·) (Finset.sum_congr rfl fun r _ => congrArg₂ (· * ·) ?_ ?_) (Finset.sum_congr rfl fun r _ => congrArg₂ (· * ·) ?_ ?_)
    · exact (block0 m c t a r).trans ((congrFun (V_a m c) _).trans (row_apply (aArg m c) _ r))
    · exact (upper _ r f).trans (w_apply m c t _ f)
    · exact (block1 m c t a r).trans ((congrFun (V_p m c) _).trans (row_apply (pArg m c) _ r))
    · exact (lower _ r f).trans (w_apply m c t _ f)
  refine congrArg₂ (· + ·) ((block2 m c t a e).trans ((congrFun (V_x m c) _).trans (flat_apply (xArg m c) _ e))) ?_
  exact congr (congrArg₂ norm (funext hp) (hp e)) ((block3 m c t e).trans ((congrFun (V_g m c) _).trans (gain_apply (gArg m c) e)))

/-- The first array the kernel leaves. -/
theorem arr6_eq : (dats m 0 c).arrAt 6 cfg0.N = refOut0 (aArg m c) (pArg m c) (xArg m c) (gArg m c) (wArg m c) := by
  refine (dats m 0 c).arrAt_eq_of_covers 6 _ (by decide +kernel) fun t hf y => ?_
  blk_simp
  rw [after0_6, out6_eq]
  change S256x4096.Idx at y
  obtain ⟨a, e, rfl⟩ : ∃ (a : Fin 256) (e : Fin 4096), y = ix2 a e := ⟨y 0, y 1, eq_ix2 y⟩
  have hN := ltN t
  refine (sum_apply m c t a e).trans ((flat_apply (refX (aArg m c) (pArg m c) (xArg m c) (gArg m c) (wArg m c)) ⟨t.val * 256 + a.val, by omega⟩ e).symm.trans ?_)
  unfold refOut0
  blk_ext [idx t]

/-- The second array the kernel leaves. -/
theorem arr7_eq : (dats m 0 c).arrAt 7 cfg0.N = refOut1 (aArg m c) (pArg m c) (xArg m c) (gArg m c) (g'Arg m c) (wArg m c) := by
  refine (dats m 0 c).arrAt_eq_of_covers 7 _ (by decide +kernel) fun t hf y => ?_
  blk_simp
  rw [after0_7, out7_eq]
  change S256x4096.Idx at y
  obtain ⟨a, e, rfl⟩ : ∃ (a : Fin 256) (e : Fin 4096), y = ix2 a e := ⟨y 0, y 1, eq_ix2 y⟩
  have hN := ltN t
  refine (pay1_apply _ _ _ a e (pay4_apply _ _ _ _ _ _ a)).trans ?_
  refine (congr (congrArg₂ norm (funext fun f => sum_apply m c t a f) (sum_apply m c t a e)) ((block4 m c t e).trans ((congrFun (V_g' m c) _).trans (gain_apply (g'Arg m c) e)))).trans ?_
  refine (refNorm_apply (refX (aArg m c) (pArg m c) (xArg m c) (gArg m c) (wArg m c)) (g'Arg m c) (bat t a) (pos t a) e).symm.trans ?_
  refine (flat_apply (refNorm (refX (aArg m c) (pArg m c) (xArg m c) (gArg m c) (wArg m c)) (g'Arg m c)) ⟨t.val * 256 + a.val, by omega⟩ e).symm.trans ?_
  unfold refOut1
  refine Eq.trans ?_ (show _ = shapeCast S8192x4096 (refNorm (refX (aArg m c) (pArg m c) (xArg m c) (gArg m c) (wArg m c)) (g'Arg m c)) Cert.Reference5Ideal.Gen.shapeCasts_S4x2048x4096_S8192x4096 _ from rfl).symm
  blk_ext [idx t]

end Cert.Out
-- ==== Proof.Out.Claims.lean ====
module

public import proofs.«01_k».proof.Defs
public import proofs.«01_k».proof.Proof.Gen.Kernel5
public import proofs.«01_k».proof.Proof.Gen.Kernel5.Frame
public import proofs.«01_k».proof.Proof.Out.Value

/-! The output projection's claims: the kernel and its reference run and leave their arguments alone, and at the extended
reals their results are equal. -/

@[expose] public section

set_option maxRecDepth 65536

noncomputable section

namespace Cert.Out

open Idealize.ShloMosaic Idealize.SL.Sem

theorem frame_kernelIdeal : Cert.quiescent_Kernel5Ideal := fun m ρ _ => Cert.Kernel5Ideal.Gen.frame m ρ

theorem frame_kernel : Cert.quiescent_Kernel5 := fun m ρ _ => Cert.Kernel5.Gen.frame m ρ

theorem frame_referenceIdeal : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

theorem algebraic : Cert.algebraic_Kernel5Ideal_Reference5Ideal := by
  intro m ρ m' ρ' hpre hargs
  refine ⟨fun c => (Cert.Kernel5Ideal.Gen.dats m 0 c).arrAt 6 Cert.Kernel5Ideal.cfg0.N, fun c => (Cert.Kernel5Ideal.Gen.dats m 0 c).arrAt 7 Cert.Kernel5Ideal.cfg0.N, Cert.Kernel5Ideal.Value.run_blocks m ρ, ?_⟩
  refine (θ_run Cert.Reference5Ideal.defs _ _).mono (fun r h c => ⟨(h c).1.trans ?_, (h c).2.1.trans ?_, (h c).2.2⟩) (Cert.Reference5Ideal.Value.run (F := Ideal) m' ρ')
  · rw [(hargs c).1, (hargs c).2.1, (hargs c).2.2.1, (hargs c).2.2.2.1, (hargs c).2.2.2.2.2]
    exact (arr6_eq m c).symm
  · unfold Cert.Reference5Ideal.Value.res_main_v31
    rw [(hargs c).1, (hargs c).2.1, (hargs c).2.2.1, (hargs c).2.2.2.1, (hargs c).2.2.2.2.1, (hargs c).2.2.2.2.2]
    exact (arr7_eq m c).symm

end Cert.Out
-- ==== Proof.GateUp1.Base.lean ====
module

public import proofs.«01_k».proof.Proof.Gen.Kernel6Ideal.Skeleton
public import proofs.«01_k».proof.Proof.Gen.Kernel6Ideal.Frame
public import proofs.«01_k».proof.Proof.Ffn.Overlay

/-! The first feed-forward half's gate and up projections: where a step stages and multiplies. -/

@[expose] public section

set_option maxRecDepth 16384

noncomputable section

namespace Cert.GateUp1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen

variable {F : FTy → Type} [FloatOps F]

local notation "𝕄" => MT nD τ sig Unit (Elt F) ℕ (UR sig nD τ) ℕ

/-- The slot and rows that a step stages a slab to. -/
abbrev slabRect (i : grid0.Coords) (h : k0_cond4 i = 1#1) : Rect S2x4096x512 :=
  Rect.unit (s := S2x4096x512) (k0_off1 i) S1x512x512.size (k0_off1_inb i h)
/-- The slot that a step multiplies by. -/
abbrev slotRect (i : grid0.Coords) (h : k0_cond5 i = 1#1) : Rect S2x4096x512 :=
  Rect.unit (s := S2x4096x512) (k0_off2 i) S1x4096x512.size (k0_off2_inb i h)

theorem off1_eq : ∀ i : grid0.Coords, k0_off1 i = ![(i 0).val % 2, 512 * (i 1).val, 0] := by decide +kernel
theorem off2_raw : ∀ i : grid0.Coords, k0_off2 i = ![if (i 0).val = 0 then 1 else ((i 0).val - 1) % 2, 0, 0] := by decide +kernel
instance closedOff1 (i : grid0.Coords) : ClosedOff (k0_off1 i) := ⟨_, off1_eq i⟩
instance closedOff2 (i : grid0.Coords) : ClosedOff (k0_off2 i) := ⟨_, off2_raw i⟩

theorem pay6_congr {a a' c c' : Vec F S1024x4096 .bf16} {b b' d d' : Vec F S1x4096x512 .bf16} (ha : a = a') (hb : b = b') (hc : c = c') (hd : d = d') :
    k0_pay6 a b c d = k0_pay6 a' b' c' d' := by
  subst ha; subst hb; subst hc; subst hd; rfl

end Cert.GateUp1
-- ==== Proof.GateUp1.Point.lean ====
module

public import proofs.«01_k».proof.Proof.GateUp1.Base

/-! The first half's gate and up projections' two scratch buffers: in each, one slot holds the column block being multiplied and
the other the next one, whose rows arrive a slab at a step. -/

@[expose] public section

set_option maxRecDepth 16384

noncomputable section

namespace Cert.GateUp1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem co0 : ∀ t : Fin cfg0.N, (grid0.coords t 0).val = t.val / 8 := (by decide +kernel : ∀ t : Fin grid0.N, (grid0.coords t 0).val = t.val / 8)
theorem co1 : ∀ t : Fin cfg0.N, (grid0.coords t 1).val = t.val % 8 := (by decide +kernel : ∀ t : Fin grid0.N, (grid0.coords t 1).val = t.val % 8)
theorem c1_iff : ∀ t : Fin cfg0.N, k0_cond1 (grid0.coords t) = 1#1 ↔ t.val < 128 := (by decide +kernel : ∀ t : Fin grid0.N, k0_cond1 (grid0.coords t) = 1#1 ↔ t.val < 128)
theorem c2_iff : ∀ t : Fin cfg0.N, k0_cond2 (grid0.coords t) = 1#1 ↔ t.val < 128 := (by decide +kernel : ∀ t : Fin grid0.N, k0_cond2 (grid0.coords t) = 1#1 ↔ t.val < 128)
theorem c3_iff : ∀ t : Fin cfg0.N, k0_cond3 (grid0.coords t) = 1#1 ↔ t.val < 172 := (by decide +kernel : ∀ t : Fin grid0.N, k0_cond3 (grid0.coords t) = 1#1 ↔ t.val < 172)
theorem c4_iff : ∀ t : Fin cfg0.N, k0_cond4 (grid0.coords t) = 1#1 ↔ t.val / 8 < 21 := (by decide +kernel : ∀ t : Fin grid0.N, k0_cond4 (grid0.coords t) = 1#1 ↔ t.val / 8 < 21)
theorem c5_iff : ∀ t : Fin cfg0.N, k0_cond5 (grid0.coords t) = 1#1 ↔ 8 ≤ t.val := (by decide +kernel : ∀ t : Fin grid0.N, k0_cond5 (grid0.coords t) = 1#1 ↔ 8 ≤ t.val)

theorem ltN (t : Fin cfg0.N) : t.val < 176 := lt_of_lt_of_eq t.isLt N_0

/-- The step of round `b` that stages row block `a`. -/
def pt (b a : ℕ) : Fin cfg0.N := ⟨8 * (b % 22) + a % 8, by show _ < grid0.N; rw [N_0]; omega⟩

/-- Column block `b` of the cast gate weight, row block by row block from the slabs of round `b`. -/
def wgate (c : Dev nD) (b : ℕ) (r : Fin 4096) (l : Fin 512) : Elt F .bf16 :=
  k0_pay4 (X0_1 m c (pt b (r.val / 512))) (ix3 (0 : Fin 1) ⟨r.val % 512, Nat.mod_lt _ (by omega)⟩ l)

/-- The same of the up weight. -/
def wup (c : Dev nD) (b : ℕ) (r : Fin 4096) (l : Fin 512) : Elt F .bf16 :=
  k0_pay5 (X0_2 m c (pt b (r.val / 512))) (ix3 (0 : Fin 1) ⟨r.val % 512, Nat.mod_lt _ (by omega)⟩ l)

/-- What a scratch buffer holds before step `n`, for column blocks `W`. -/
def Inv (W : ℕ → Fin 4096 → Fin 512 → Elt F .bf16) (n : ℕ) (S : Vec F S2x4096x512 .bf16) : Prop :=
  (8 ≤ n → n < 176 → ∀ (k : Fin 2) (r : Fin 4096) (l : Fin 512), k.val = (n / 8 - 1) % 2 → S (ix3 k r l) = W (n / 8 - 1) r l)
  ∧ (n / 8 < 21 → ∀ (k : Fin 2) (r : Fin 4096) (l : Fin 512), k.val = n / 8 % 2 → r.val < 512 * (n % 8) → S (ix3 k r l) = W (n / 8) r l)

theorem inv_zero (W : ℕ → Fin 4096 → Fin 512 → Elt F .bf16) (S : Vec F S2x4096x512 .bf16) : Inv W 0 S :=
  ⟨fun h => absurd h (by omega), fun _ k r l _ h => absurd h (by omega)⟩

/-- A slab staged at step `t`, read back. -/
theorem slab_in (t : Fin cfg0.N) (h2) (S : Vec F S2x4096x512 .bf16) (w) (k : Fin 2) (r : Fin 4096) (l : Fin 512)
    (hk : k.val = t.val / 8 % 2) (hr : 512 * (t.val % 8) ≤ r.val) (hr' : r.val < 512 * (t.val % 8) + 512) :
    (slabRect (grid0.coords t) h2).overlay S w (ix3 k r l) = w (ix3 (0 : Fin 1) (⟨r.val % 512, Nat.mod_lt _ (by omega)⟩ : Fin 512) l) := by
  refine Ffn.overlay_of_mem _ _ _ _ _ (off1_eq _) fun a => ?_
  match a with
  | 0 => show k.val = (grid0.coords t 0).val % 2 + 0; rw [co0, hk]; rfl
  | 1 => show r.val = 512 * (grid0.coords t 1).val + r.val % 512; rw [co1]; omega
  | 2 => show l.val = 0 + l.val; omega

theorem slab_out_slot (t : Fin cfg0.N) (h2) (S : Vec F S2x4096x512 .bf16) (w) (k : Fin 2) (r : Fin 4096) (l : Fin 512)
    (hk : k.val ≠ t.val / 8 % 2) :
    (slabRect (grid0.coords t) h2).overlay S w (ix3 k r l) = S (ix3 k r l) := by
  refine Ffn.overlay_of_out _ _ _ _ (off1_eq _) 0 ?_
  show k.val < (grid0.coords t 0).val % 2 ∨ (grid0.coords t 0).val % 2 + 1 ≤ k.val
  rw [co0]; omega

theorem slab_out_row (t : Fin cfg0.N) (h2) (S : Vec F S2x4096x512 .bf16) (w) (k : Fin 2) (r : Fin 4096) (l : Fin 512)
    (hr : r.val < 512 * (t.val % 8)) :
    (slabRect (grid0.coords t) h2).overlay S w (ix3 k r l) = S (ix3 k r l) := by
  refine Ffn.overlay_of_out _ _ _ _ (off1_eq _) 1 ?_
  show r.val < 512 * (grid0.coords t 1).val ∨ 512 * (grid0.coords t 1).val + 512 ≤ r.val
  rw [co1]; omega

/-- The step that stages a row of the column block of step `t`'s round, when the row is in step `t`'s slab. -/
theorem pt_eq (t : Fin cfg0.N) (r : Fin 4096) (hr : 512 * (t.val % 8) ≤ r.val) (hr' : r.val < 512 * (t.val % 8) + 512) :
    pt (t.val / 8) (r.val / 512) = t := by
  have := ltN t
  exact Fin.ext (by show 8 * (t.val / 8 % 22) + r.val / 512 % 8 = t.val; omega)

/-- A column block of a scratch buffer, as a slot. -/
def slotOf (W : ℕ → Fin 4096 → Fin 512 → Elt F .bf16) (t : Fin cfg0.N) : Vec F S1x4096x512 .bf16 := fun y => W (t.val / 8 - 1) (y 1) (y 2)

theorem slot_read (W : ℕ → Fin 4096 → Fin 512 → Elt F .bf16) (t : Fin cfg0.N) (h3 : k0_cond5 (grid0.coords t) = 1#1) (S : Vec F S2x4096x512 .bf16)
    (h : ∀ (k : Fin 2) (r : Fin 4096) (l : Fin 512), k.val = (t.val / 8 - 1) % 2 → S (ix3 k r l) = W (t.val / 8 - 1) r l) :
    S ∘ (slotRect (grid0.coords t) h3).emb = slotOf W t := by
  have h8 := (c5_iff t).mp h3
  funext y
  have e : (slotRect (grid0.coords t) h3).emb y = ix3 (⟨(t.val / 8 - 1) % 2, by omega⟩ : Fin 2) (y 1 : Fin 4096) (y 2 : Fin 512) := by
    funext a
    refine Fin.ext ?_
    show k0_off2 (grid0.coords t) a + 1 * (y a).val = _
    rw [off2_raw]
    match a with
    | 0 => show (if (grid0.coords t 0).val = 0 then 1 else ((grid0.coords t 0).val - 1) % 2) + 1 * (y 0).val = (t.val / 8 - 1) % 2
           rw [co0, if_neg (by omega)]; have : (y 0).val < 1 := (y 0).isLt
           omega
    | 1 => show 0 + 1 * (y 1).val = (y 1).val; omega
    | 2 => show 0 + 1 * (y 2).val = (y 2).val; omega
  show S _ = _
  rw [e]
  exact h _ _ _ rfl

/-- A scratch buffer after step `t`, whose slab is `w`. -/
def next (t : Fin cfg0.N) (S : Vec F S2x4096x512 .bf16) (w : Vec F S1x512x512 .bf16) : Vec F S2x4096x512 .bf16 :=
  if h2 : k0_cond4 (grid0.coords t) = 1#1 then (slabRect (grid0.coords t) h2).overlay S w else S

section
variable (W : ℕ → Fin 4096 → Fin 512 → Elt F .bf16) (t : Fin cfg0.N) (S : Vec F S2x4096x512 .bf16) (w : Vec F S1x512x512 .bf16) (h : Inv W t.val S)
  (hw : ∀ (r : Fin 4096) (l : Fin 512), 512 * (t.val % 8) ≤ r.val → r.val < 512 * (t.val % 8) + 512 →
    w (ix3 (0 : Fin 1) (⟨r.val % 512, Nat.mod_lt _ (by omega)⟩ : Fin 512) l) = W (t.val / 8) r l)
include h

theorem next_cur (h8 : 8 ≤ t.val) (k : Fin 2) (r : Fin 4096) (l : Fin 512) (hk : k.val = (t.val / 8 - 1) % 2) :
    next t S w (ix3 k r l) = W (t.val / 8 - 1) r l := by
  have ht := ltN t
  unfold next
  split
  · rw [slab_out_slot _ _ _ _ _ _ _ (by omega)]
    exact h.1 h8 ht k r l hk
  · exact h.1 h8 ht k r l hk

include hw

theorem next_new (h21 : t.val / 8 < 21) (k : Fin 2) (r : Fin 4096) (l : Fin 512) (hk : k.val = t.val / 8 % 2) (hr : r.val < 512 * (t.val % 8) + 512) :
    next t S w (ix3 k r l) = W (t.val / 8) r l := by
  unfold next
  rw [dif_pos ((c4_iff t).mpr h21)]
  by_cases hr' : 512 * (t.val % 8) ≤ r.val
  · rw [slab_in _ _ _ _ _ _ _ hk hr' hr]
    exact hw r l hr' hr
  · rw [slab_out_row _ _ _ _ _ _ _ (by omega)]
    exact h.2 h21 k r l hk (by omega)

theorem inv_next : Inv W (t.val + 1) (next t S w) := by
  by_cases hl : t.val % 8 = 7
  · have e : (t.val + 1) / 8 = t.val / 8 + 1 := by omega
    refine ⟨fun _ h1 k r l hk => ?_, fun _ k r l _ hr => absurd hr (by omega)⟩
    rw [e, Nat.add_sub_cancel] at hk ⊢
    exact next_new W t S w h hw (by omega) k r l hk (by have := r.isLt; omega)
  · have e : (t.val + 1) / 8 = t.val / 8 := by omega
    have e' : (t.val + 1) % 8 = t.val % 8 + 1 := by omega
    refine ⟨fun h8 h1 k r l hk => ?_, fun h21 k r l hk hr => ?_⟩
    · rw [e] at hk ⊢
      exact next_cur W t S w h (by omega) k r l hk
    · rw [e] at hk h21 ⊢
      rw [e'] at hr
      exact next_new W t S w h hw h21 k r l hk (by omega)

end

/-- The slab that step `t` stages of the gate weight is of its round's column block. -/
theorem gate_slab (c : Dev nD) (t : Fin cfg0.N) (r : Fin 4096) (l : Fin 512) (hr : 512 * (t.val % 8) ≤ r.val) (hr' : r.val < 512 * (t.val % 8) + 512) :
    k0_pay4 (X0_1 m c t) (ix3 (0 : Fin 1) (⟨r.val % 512, Nat.mod_lt _ (by omega)⟩ : Fin 512) l) = wgate m c (t.val / 8) r l := by
  unfold wgate
  rw [pt_eq t r hr hr']

theorem up_slab (c : Dev nD) (t : Fin cfg0.N) (r : Fin 4096) (l : Fin 512) (hr : 512 * (t.val % 8) ≤ r.val) (hr' : r.val < 512 * (t.val % 8) + 512) :
    k0_pay5 (X0_2 m c t) (ix3 (0 : Fin 1) (⟨r.val % 512, Nat.mod_lt _ (by omega)⟩ : Fin 512) l) = wup m c (t.val / 8) r l := by
  unfold wup
  rw [pt_eq t r hr hr']

end Cert.GateUp1
-- ==== Proof.GateUp1.RunA.lean ====
module

public import proofs.«01_k».proof.Proof.GateUp1.Base

/-! The first feed-forward half's gate and up projections: the steps that cast the blocks of all three side arrays. -/

@[expose] public section

set_option maxRecDepth 16384

noncomputable section

namespace Cert.GateUp1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen

variable {F : FTy → Type} [FloatOps F]

local notation "𝕄" => MT nD τ sig Unit (Elt F) ℕ (UR sig nD τ) ℕ

set_option maxHeartbeats 12000000 in
/-- A step of the first round: it stages, and nothing is multiplied yet. -/
theorem run_first (c : Dev nD) (i : grid0.Coords) (arg2 : Memref sig .tc .vmem S1024x4096 .bf16) (harg2 : arg2.IsWhole) (arg3 : Memref sig .tc .vmem S512x512 .f32) (harg3 : arg3.IsWhole) (arg4 : Memref sig .tc .vmem S512x512 .f32) (harg4 : arg4.IsWhole) (arg5 : Memref sig .tc .vmem S32x3072 .f32) (harg5 : arg5.IsWhole) (arg6 : Memref sig .tc .vmem S32x4096 .f32) (harg6 : arg6.IsWhole) (arg7 : Memref sig .tc .vmem S64x512 .f32) (harg7 : arg7.IsWhole) (arg8 : Memref sig .tc .vmem S1024x512 .bf16) (harg8 : arg8.IsWhole) (arg9 : Memref sig .tc .vmem S32x3072 .bf16) (harg9 : arg9.IsWhole) (arg10 : Memref sig .tc .vmem S32x4096 .bf16) (harg10 : arg10.IsWhole) (arg11 : Memref sig .tc .vmem S64x512 .bf16) (harg11 : arg11.IsWhole) (arg12 : Memref sig .tc .vmem S2x4096x512 .bf16) (harg12 : arg12.IsWhole) (arg13 : Memref sig .tc .vmem S2x4096x512 .bf16) (harg13 : arg13.IsWhole)
    (x0 : Vec F S1024x4096 .bf16) (x1 : Vec F S512x512 .f32) (x2 : Vec F S512x512 .f32) (x3 : Vec F S32x3072 .f32) (x4 : Vec F S32x4096 .f32) (x5 : Vec F S64x512 .f32) (x6 : Vec F S1024x512 .bf16) (x7 : Vec F S32x3072 .bf16) (x8 : Vec F S32x4096 .bf16) (x9 : Vec F S64x512 .bf16) (S T : Vec F S2x4096x512 .bf16)
    (h1 : k0_cond1 i = 1#1) (h2 : k0_cond2 i = 1#1) (h3 : k0_cond3 i = 1#1) (h4 : k0_cond4 i = 1#1) (h5 : ¬ k0_cond5 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare S ∗ owns (c : Thread nD τ) arg13 fullShare T
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare x6
            ∗ owns (c : Thread nD τ) arg9 fullShare (k0_pay1 x3)
            ∗ owns (c : Thread nD τ) arg10 fullShare (k0_pay2 x4)
            ∗ owns (c : Thread nD τ) arg11 fullShare (k0_pay3 x5)
            ∗ owns (c : Thread nD τ) arg12 fullShare ((slabRect i h4).overlay S (k0_pay4 x1))
            ∗ owns (c : Thread nD τ) arg13 fullShare ((slabRect i h4).overlay T (k0_pay5 x2))) -∗ K ⟨⟩))
      ⊢ wp frame (wpE (defs₀ (F := F)) Variants.none c none) E (cc0_ffn_gate_up i arg2 harg2 arg3 harg3 arg4 harg4 arg5 harg5 arg6 harg6 arg7 harg7 arg8 harg8 arg9 harg9 arg10 harg10 arg11 harg11 arg12 harg12 arg13 harg13) K := by
  simp only [cc0_ffn_gate_up_eq_skeleton]; unfold cc0_ffn_gate_up_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, -, H7⟩, ⟨%f8, -, H8⟩, ⟨%f9, -, H9⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg12.eq_unread hfs0; obtain rfl := harg13.eq_unread hfs1
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact hf6
    iexact H6
  isplitl [H7]
  · iexists _; isplitr
    swap; · iexact H7
    ipureintro
    exact (View.read_writes_full _ _ _ _ _).trans (congrArg k0_pay1 ((View.readAt_full _ _ _).trans hf3))
  isplitl [H8]
  · iexists _; isplitr
    swap; · iexact H8
    ipureintro
    exact (View.read_writes_full _ _ _ _ _).trans (congrArg k0_pay2 ((View.readAt_full _ _ _).trans hf4))
  isplitl [H9]
  · iexists _; isplitr
    swap; · iexact H9
    ipureintro
    exact (View.read_writes_full _ _ _ _ _).trans (congrArg k0_pay3 ((View.readAt_full _ _ _).trans hf5))
  isplitl [HS0]
  · iexists _; isplitr
    swap; · iexact HS0
    ipureintro
    exact (Ffn.read_writes_overlay _ _ _ _ _).trans (congrArg₂ (slabRect i h4).overlay hfs0 (congrArg k0_pay4 ((View.readAt_full _ _ _).trans hf1)))
  · iexists _; isplitr
    swap; · iexact HS1
    ipureintro
    exact (Ffn.read_writes_overlay _ _ _ _ _).trans (congrArg₂ (slabRect i h4).overlay hfs1 (congrArg k0_pay5 ((View.readAt_full _ _ _).trans hf2)))

set_option maxHeartbeats 12000000 in
/-- A step that stages, multiplies and casts a block of every side array. -/
theorem run_mid (c : Dev nD) (i : grid0.Coords) (arg2 : Memref sig .tc .vmem S1024x4096 .bf16) (harg2 : arg2.IsWhole) (arg3 : Memref sig .tc .vmem S512x512 .f32) (harg3 : arg3.IsWhole) (arg4 : Memref sig .tc .vmem S512x512 .f32) (harg4 : arg4.IsWhole) (arg5 : Memref sig .tc .vmem S32x3072 .f32) (harg5 : arg5.IsWhole) (arg6 : Memref sig .tc .vmem S32x4096 .f32) (harg6 : arg6.IsWhole) (arg7 : Memref sig .tc .vmem S64x512 .f32) (harg7 : arg7.IsWhole) (arg8 : Memref sig .tc .vmem S1024x512 .bf16) (harg8 : arg8.IsWhole) (arg9 : Memref sig .tc .vmem S32x3072 .bf16) (harg9 : arg9.IsWhole) (arg10 : Memref sig .tc .vmem S32x4096 .bf16) (harg10 : arg10.IsWhole) (arg11 : Memref sig .tc .vmem S64x512 .bf16) (harg11 : arg11.IsWhole) (arg12 : Memref sig .tc .vmem S2x4096x512 .bf16) (harg12 : arg12.IsWhole) (arg13 : Memref sig .tc .vmem S2x4096x512 .bf16) (harg13 : arg13.IsWhole)
    (x0 : Vec F S1024x4096 .bf16) (x1 : Vec F S512x512 .f32) (x2 : Vec F S512x512 .f32) (x3 : Vec F S32x3072 .f32) (x4 : Vec F S32x4096 .f32) (x5 : Vec F S64x512 .f32) (x6 : Vec F S1024x512 .bf16) (x7 : Vec F S32x3072 .bf16) (x8 : Vec F S32x4096 .bf16) (x9 : Vec F S64x512 .bf16) (S T : Vec F S2x4096x512 .bf16)
    (h1 : k0_cond1 i = 1#1) (h2 : k0_cond2 i = 1#1) (h3 : k0_cond3 i = 1#1) (h4 : k0_cond4 i = 1#1) (h5 : k0_cond5 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare S ∗ owns (c : Thread nD τ) arg13 fullShare T
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (k0_pay6 x0 (((slabRect i h4).overlay S (k0_pay4 x1)) ∘ (slotRect i h5).emb) x0 (((slabRect i h4).overlay T (k0_pay5 x2)) ∘ (slotRect i h5).emb))
            ∗ owns (c : Thread nD τ) arg9 fullShare (k0_pay1 x3)
            ∗ owns (c : Thread nD τ) arg10 fullShare (k0_pay2 x4)
            ∗ owns (c : Thread nD τ) arg11 fullShare (k0_pay3 x5)
            ∗ owns (c : Thread nD τ) arg12 fullShare ((slabRect i h4).overlay S (k0_pay4 x1))
            ∗ owns (c : Thread nD τ) arg13 fullShare ((slabRect i h4).overlay T (k0_pay5 x2))) -∗ K ⟨⟩))
      ⊢ wp frame (wpE (defs₀ (F := F)) Variants.none c none) E (cc0_ffn_gate_up i arg2 harg2 arg3 harg3 arg4 harg4 arg5 harg5 arg6 harg6 arg7 harg7 arg8 harg8 arg9 harg9 arg10 harg10 arg11 harg11 arg12 harg12 arg13 harg13) K := by
  simp only [cc0_ffn_gate_up_eq_skeleton]; unfold cc0_ffn_gate_up_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, -, H6⟩, ⟨%f7, -, H7⟩, ⟨%f8, -, H8⟩, ⟨%f9, -, H9⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg12.eq_unread hfs0; obtain rfl := harg13.eq_unread hfs1
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    refine (View.read_writes_full _ _ _ _ _).trans (pay6_congr ((View.readAt_full _ _ _).trans hf0) (funext fun y => ?_) ((View.readAt_full _ _ _).trans hf0) (funext fun y => ?_))
    · refine congrFun (a := (slotRect i h5).emb y) ?_
      exact (Ffn.read_writes_overlay _ _ _ _ _).trans (congrArg₂ (slabRect i h4).overlay hfs0 (congrArg k0_pay4 ((View.readAt_full _ _ _).trans hf1)))
    · refine congrFun (a := (slotRect i h5).emb y) ?_
      exact (Ffn.read_writes_overlay _ _ _ _ _).trans (congrArg₂ (slabRect i h4).overlay hfs1 (congrArg k0_pay5 ((View.readAt_full _ _ _).trans hf2)))
  isplitl [H7]
  · iexists _; isplitr
    swap; · iexact H7
    ipureintro
    exact (View.read_writes_full _ _ _ _ _).trans (congrArg k0_pay1 ((View.readAt_full _ _ _).trans hf3))
  isplitl [H8]
  · iexists _; isplitr
    swap; · iexact H8
    ipureintro
    exact (View.read_writes_full _ _ _ _ _).trans (congrArg k0_pay2 ((View.readAt_full _ _ _).trans hf4))
  isplitl [H9]
  · iexists _; isplitr
    swap; · iexact H9
    ipureintro
    exact (View.read_writes_full _ _ _ _ _).trans (congrArg k0_pay3 ((View.readAt_full _ _ _).trans hf5))
  isplitl [HS0]
  · iexists _; isplitr
    swap; · iexact HS0
    ipureintro
    exact (Ffn.read_writes_overlay _ _ _ _ _).trans (congrArg₂ (slabRect i h4).overlay hfs0 (congrArg k0_pay4 ((View.readAt_full _ _ _).trans hf1)))
  · iexists _; isplitr
    swap; · iexact HS1
    ipureintro
    exact (Ffn.read_writes_overlay _ _ _ _ _).trans (congrArg₂ (slabRect i h4).overlay hfs1 (congrArg k0_pay5 ((View.readAt_full _ _ _).trans hf2)))

end Cert.GateUp1
-- ==== Proof.GateUp1.RunB.lean ====
module

public import proofs.«01_k».proof.Proof.GateUp1.Base

/-! The first feed-forward half's gate and up projections: the steps after the first two side arrays' last blocks. -/

@[expose] public section

set_option maxRecDepth 16384

noncomputable section

namespace Cert.GateUp1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen

variable {F : FTy → Type} [FloatOps F]

local notation "𝕄" => MT nD τ sig Unit (Elt F) ℕ (UR sig nD τ) ℕ

set_option maxHeartbeats 12000000 in
/-- A step that stages and multiplies, after the first two side arrays are done. -/
theorem run_rest (c : Dev nD) (i : grid0.Coords) (arg2 : Memref sig .tc .vmem S1024x4096 .bf16) (harg2 : arg2.IsWhole) (arg3 : Memref sig .tc .vmem S512x512 .f32) (harg3 : arg3.IsWhole) (arg4 : Memref sig .tc .vmem S512x512 .f32) (harg4 : arg4.IsWhole) (arg5 : Memref sig .tc .vmem S32x3072 .f32) (harg5 : arg5.IsWhole) (arg6 : Memref sig .tc .vmem S32x4096 .f32) (harg6 : arg6.IsWhole) (arg7 : Memref sig .tc .vmem S64x512 .f32) (harg7 : arg7.IsWhole) (arg8 : Memref sig .tc .vmem S1024x512 .bf16) (harg8 : arg8.IsWhole) (arg9 : Memref sig .tc .vmem S32x3072 .bf16) (harg9 : arg9.IsWhole) (arg10 : Memref sig .tc .vmem S32x4096 .bf16) (harg10 : arg10.IsWhole) (arg11 : Memref sig .tc .vmem S64x512 .bf16) (harg11 : arg11.IsWhole) (arg12 : Memref sig .tc .vmem S2x4096x512 .bf16) (harg12 : arg12.IsWhole) (arg13 : Memref sig .tc .vmem S2x4096x512 .bf16) (harg13 : arg13.IsWhole)
    (x0 : Vec F S1024x4096 .bf16) (x1 : Vec F S512x512 .f32) (x2 : Vec F S512x512 .f32) (x3 : Vec F S32x3072 .f32) (x4 : Vec F S32x4096 .f32) (x5 : Vec F S64x512 .f32) (x6 : Vec F S1024x512 .bf16) (x7 : Vec F S32x3072 .bf16) (x8 : Vec F S32x4096 .bf16) (x9 : Vec F S64x512 .bf16) (S T : Vec F S2x4096x512 .bf16)
    (h1 : ¬ k0_cond1 i = 1#1) (h2 : ¬ k0_cond2 i = 1#1) (h3 : k0_cond3 i = 1#1) (h4 : k0_cond4 i = 1#1) (h5 : k0_cond5 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare S ∗ owns (c : Thread nD τ) arg13 fullShare T
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (k0_pay6 x0 (((slabRect i h4).overlay S (k0_pay4 x1)) ∘ (slotRect i h5).emb) x0 (((slabRect i h4).overlay T (k0_pay5 x2)) ∘ (slotRect i h5).emb))
            ∗ owns (c : Thread nD τ) arg9 fullShare x7
            ∗ owns (c : Thread nD τ) arg10 fullShare x8
            ∗ owns (c : Thread nD τ) arg11 fullShare (k0_pay3 x5)
            ∗ owns (c : Thread nD τ) arg12 fullShare ((slabRect i h4).overlay S (k0_pay4 x1))
            ∗ owns (c : Thread nD τ) arg13 fullShare ((slabRect i h4).overlay T (k0_pay5 x2))) -∗ K ⟨⟩))
      ⊢ wp frame (wpE (defs₀ (F := F)) Variants.none c none) E (cc0_ffn_gate_up i arg2 harg2 arg3 harg3 arg4 harg4 arg5 harg5 arg6 harg6 arg7 harg7 arg8 harg8 arg9 harg9 arg10 harg10 arg11 harg11 arg12 harg12 arg13 harg13) K := by
  simp only [cc0_ffn_gate_up_eq_skeleton]; unfold cc0_ffn_gate_up_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, -, H6⟩, ⟨%f7, %hf7, H7⟩, ⟨%f8, %hf8, H8⟩, ⟨%f9, -, H9⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg12.eq_unread hfs0; obtain rfl := harg13.eq_unread hfs1
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    refine (View.read_writes_full _ _ _ _ _).trans (pay6_congr ((View.readAt_full _ _ _).trans hf0) (funext fun y => ?_) ((View.readAt_full _ _ _).trans hf0) (funext fun y => ?_))
    · refine congrFun (a := (slotRect i h5).emb y) ?_
      exact (Ffn.read_writes_overlay _ _ _ _ _).trans (congrArg₂ (slabRect i h4).overlay hfs0 (congrArg k0_pay4 ((View.readAt_full _ _ _).trans hf1)))
    · refine congrFun (a := (slotRect i h5).emb y) ?_
      exact (Ffn.read_writes_overlay _ _ _ _ _).trans (congrArg₂ (slabRect i h4).overlay hfs1 (congrArg k0_pay5 ((View.readAt_full _ _ _).trans hf2)))
  isplitl [H7]
  · iexists _; isplitr; · ipureintro; exact hf7
    iexact H7
  isplitl [H8]
  · iexists _; isplitr; · ipureintro; exact hf8
    iexact H8
  isplitl [H9]
  · iexists _; isplitr
    swap; · iexact H9
    ipureintro
    exact (View.read_writes_full _ _ _ _ _).trans (congrArg k0_pay3 ((View.readAt_full _ _ _).trans hf5))
  isplitl [HS0]
  · iexists _; isplitr
    swap; · iexact HS0
    ipureintro
    exact (Ffn.read_writes_overlay _ _ _ _ _).trans (congrArg₂ (slabRect i h4).overlay hfs0 (congrArg k0_pay4 ((View.readAt_full _ _ _).trans hf1)))
  · iexists _; isplitr
    swap; · iexact HS1
    ipureintro
    exact (Ffn.read_writes_overlay _ _ _ _ _).trans (congrArg₂ (slabRect i h4).overlay hfs1 (congrArg k0_pay5 ((View.readAt_full _ _ _).trans hf2)))

set_option maxHeartbeats 12000000 in
/-- A step of the last round that still casts a block of the third side array. -/
theorem run_late (c : Dev nD) (i : grid0.Coords) (arg2 : Memref sig .tc .vmem S1024x4096 .bf16) (harg2 : arg2.IsWhole) (arg3 : Memref sig .tc .vmem S512x512 .f32) (harg3 : arg3.IsWhole) (arg4 : Memref sig .tc .vmem S512x512 .f32) (harg4 : arg4.IsWhole) (arg5 : Memref sig .tc .vmem S32x3072 .f32) (harg5 : arg5.IsWhole) (arg6 : Memref sig .tc .vmem S32x4096 .f32) (harg6 : arg6.IsWhole) (arg7 : Memref sig .tc .vmem S64x512 .f32) (harg7 : arg7.IsWhole) (arg8 : Memref sig .tc .vmem S1024x512 .bf16) (harg8 : arg8.IsWhole) (arg9 : Memref sig .tc .vmem S32x3072 .bf16) (harg9 : arg9.IsWhole) (arg10 : Memref sig .tc .vmem S32x4096 .bf16) (harg10 : arg10.IsWhole) (arg11 : Memref sig .tc .vmem S64x512 .bf16) (harg11 : arg11.IsWhole) (arg12 : Memref sig .tc .vmem S2x4096x512 .bf16) (harg12 : arg12.IsWhole) (arg13 : Memref sig .tc .vmem S2x4096x512 .bf16) (harg13 : arg13.IsWhole)
    (x0 : Vec F S1024x4096 .bf16) (x1 : Vec F S512x512 .f32) (x2 : Vec F S512x512 .f32) (x3 : Vec F S32x3072 .f32) (x4 : Vec F S32x4096 .f32) (x5 : Vec F S64x512 .f32) (x6 : Vec F S1024x512 .bf16) (x7 : Vec F S32x3072 .bf16) (x8 : Vec F S32x4096 .bf16) (x9 : Vec F S64x512 .bf16) (S T : Vec F S2x4096x512 .bf16)
    (h1 : ¬ k0_cond1 i = 1#1) (h2 : ¬ k0_cond2 i = 1#1) (h3 : k0_cond3 i = 1#1) (h4 : ¬ k0_cond4 i = 1#1) (h5 : k0_cond5 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare S ∗ owns (c : Thread nD τ) arg13 fullShare T
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (k0_pay6 x0 (S ∘ (slotRect i h5).emb) x0 (T ∘ (slotRect i h5).emb))
            ∗ owns (c : Thread nD τ) arg9 fullShare x7
            ∗ owns (c : Thread nD τ) arg10 fullShare x8
            ∗ owns (c : Thread nD τ) arg11 fullShare (k0_pay3 x5)
            ∗ owns (c : Thread nD τ) arg12 fullShare S
            ∗ owns (c : Thread nD τ) arg13 fullShare T) -∗ K ⟨⟩))
      ⊢ wp frame (wpE (defs₀ (F := F)) Variants.none c none) E (cc0_ffn_gate_up i arg2 harg2 arg3 harg3 arg4 harg4 arg5 harg5 arg6 harg6 arg7 harg7 arg8 harg8 arg9 harg9 arg10 harg10 arg11 harg11 arg12 harg12 arg13 harg13) K := by
  simp only [cc0_ffn_gate_up_eq_skeleton]; unfold cc0_ffn_gate_up_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, -, H6⟩, ⟨%f7, %hf7, H7⟩, ⟨%f8, %hf8, H8⟩, ⟨%f9, -, H9⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg12.eq_unread hfs0; obtain rfl := harg13.eq_unread hfs1
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    refine (View.read_writes_full _ _ _ _ _).trans (pay6_congr ((View.readAt_full _ _ _).trans hf0) (funext fun y => ?_) ((View.readAt_full _ _ _).trans hf0) (funext fun y => ?_))
    · refine congrFun (a := (slotRect i h5).emb y) ?_
      exact hfs0
    · refine congrFun (a := (slotRect i h5).emb y) ?_
      exact hfs1
  isplitl [H7]
  · iexists _; isplitr; · ipureintro; exact hf7
    iexact H7
  isplitl [H8]
  · iexists _; isplitr; · ipureintro; exact hf8
    iexact H8
  isplitl [H9]
  · iexists _; isplitr
    swap; · iexact H9
    ipureintro
    exact (View.read_writes_full _ _ _ _ _).trans (congrArg k0_pay3 ((View.readAt_full _ _ _).trans hf5))
  isplitl [HS0]
  · iexists _; isplitr
    swap; · iexact HS0
    ipureintro
    exact hfs0
  · iexists _; isplitr
    swap; · iexact HS1
    ipureintro
    exact hfs1

set_option maxHeartbeats 12000000 in
/-- A step of the last round that only multiplies. -/
theorem run_last (c : Dev nD) (i : grid0.Coords) (arg2 : Memref sig .tc .vmem S1024x4096 .bf16) (harg2 : arg2.IsWhole) (arg3 : Memref sig .tc .vmem S512x512 .f32) (harg3 : arg3.IsWhole) (arg4 : Memref sig .tc .vmem S512x512 .f32) (harg4 : arg4.IsWhole) (arg5 : Memref sig .tc .vmem S32x3072 .f32) (harg5 : arg5.IsWhole) (arg6 : Memref sig .tc .vmem S32x4096 .f32) (harg6 : arg6.IsWhole) (arg7 : Memref sig .tc .vmem S64x512 .f32) (harg7 : arg7.IsWhole) (arg8 : Memref sig .tc .vmem S1024x512 .bf16) (harg8 : arg8.IsWhole) (arg9 : Memref sig .tc .vmem S32x3072 .bf16) (harg9 : arg9.IsWhole) (arg10 : Memref sig .tc .vmem S32x4096 .bf16) (harg10 : arg10.IsWhole) (arg11 : Memref sig .tc .vmem S64x512 .bf16) (harg11 : arg11.IsWhole) (arg12 : Memref sig .tc .vmem S2x4096x512 .bf16) (harg12 : arg12.IsWhole) (arg13 : Memref sig .tc .vmem S2x4096x512 .bf16) (harg13 : arg13.IsWhole)
    (x0 : Vec F S1024x4096 .bf16) (x1 : Vec F S512x512 .f32) (x2 : Vec F S512x512 .f32) (x3 : Vec F S32x3072 .f32) (x4 : Vec F S32x4096 .f32) (x5 : Vec F S64x512 .f32) (x6 : Vec F S1024x512 .bf16) (x7 : Vec F S32x3072 .bf16) (x8 : Vec F S32x4096 .bf16) (x9 : Vec F S64x512 .bf16) (S T : Vec F S2x4096x512 .bf16)
    (h1 : ¬ k0_cond1 i = 1#1) (h2 : ¬ k0_cond2 i = 1#1) (h3 : ¬ k0_cond3 i = 1#1) (h4 : ¬ k0_cond4 i = 1#1) (h5 : k0_cond5 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare S ∗ owns (c : Thread nD τ) arg13 fullShare T
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (k0_pay6 x0 (S ∘ (slotRect i h5).emb) x0 (T ∘ (slotRect i h5).emb))
            ∗ owns (c : Thread nD τ) arg9 fullShare x7
            ∗ owns (c : Thread nD τ) arg10 fullShare x8
            ∗ owns (c : Thread nD τ) arg11 fullShare x9
            ∗ owns (c : Thread nD τ) arg12 fullShare S
            ∗ owns (c : Thread nD τ) arg13 fullShare T) -∗ K ⟨⟩))
      ⊢ wp frame (wpE (defs₀ (F := F)) Variants.none c none) E (cc0_ffn_gate_up i arg2 harg2 arg3 harg3 arg4 harg4 arg5 harg5 arg6 harg6 arg7 harg7 arg8 harg8 arg9 harg9 arg10 harg10 arg11 harg11 arg12 harg12 arg13 harg13) K := by
  simp only [cc0_ffn_gate_up_eq_skeleton]; unfold cc0_ffn_gate_up_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, -, H6⟩, ⟨%f7, %hf7, H7⟩, ⟨%f8, %hf8, H8⟩, ⟨%f9, %hf9, H9⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg12.eq_unread hfs0; obtain rfl := harg13.eq_unread hfs1
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    refine (View.read_writes_full _ _ _ _ _).trans (pay6_congr ((View.readAt_full _ _ _).trans hf0) (funext fun y => ?_) ((View.readAt_full _ _ _).trans hf0) (funext fun y => ?_))
    · refine congrFun (a := (slotRect i h5).emb y) ?_
      exact hfs0
    · refine congrFun (a := (slotRect i h5).emb y) ?_
      exact hfs1
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [HS0]
  · iexists _; isplitr
    swap; · iexact HS0
    ipureintro
    exact hfs0
  · iexists _; isplitr
    swap; · iexact HS1
    ipureintro
    exact hfs1

end Cert.GateUp1
-- ==== Proof.GateUp1.Sound.lean ====
module

public import proofs.«01_k».proof.Proof.GateUp1.Point
public import proofs.«01_k».proof.Proof.GateUp1.RunA
public import proofs.«01_k».proof.Proof.GateUp1.RunB

/-! The first half's gate and up projections' run: each step's body, and the whole call. -/

@[expose] public section

set_option maxRecDepth 16384

noncomputable section

namespace Cert.GateUp1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch operands. -/
abbrev sc0 : Memref sig .tc .vmem S2x4096x512 .bf16 := Memref.whole cc0_scratch0
abbrev sc1 : Memref sig .tc .vmem S2x4096x512 .bf16 := Memref.whole cc0_scratch1

theorem PhiA_eq (c : Dev nD) :
    (Pipeline.ΦA spec0 c : sProp 𝕄) = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- The invariant before step `n`: the scratch buffers at contents that `Inv` describes, and the generator register. -/
def PhiS (c : Dev nD) (n : ℕ) (_ : n ≤ cfg0.N) : sProp 𝕄 :=
  iprop((∃ S, ∃ T, ⌜Inv (wgate m c) n S ∧ Inv (wup m c) n T⌝ ∗ owns (c : Thread nD τ) sc0 fullShare S ∗ owns (c : Thread nD τ) sc1 fullShare T) ∗ (∃ r, prngReg c r))

/-- The step that casts the side block which step `t` leaves, when the last such step is `L`: that one, from there on. -/
def sideStep (L : ℕ) (t : Fin cfg0.N) : Fin cfg0.N := ⟨min t.val L, lt_of_le_of_lt (Nat.min_le_left _ _) t.isLt⟩

/-- The proof data: each input's buffer at its block, the outputs' at what the step computes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => X0_2 m c t
    | ⟨3, _⟩ => X0_3 m c t
    | ⟨4, _⟩ => iblk m c 4 t
    | ⟨5, _⟩ => iblk m c 5 t
    | ⟨6, _⟩ => k0_pay6 (iblk m c 0 t) (slotOf (wgate m c) t) (iblk m c 0 t) (slotOf (wup m c) t)
    | ⟨7, _⟩ => k0_pay1 (X0_3 m c (sideStep 127 t))
    | ⟨8, _⟩ => k0_pay2 (iblk m c 4 (sideStep 127 t))
    | ⟨9, _⟩ => k0_pay3 (iblk m c 5 (sideStep 171 t))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = X0_1 m c t := by dsimp only [dats]
theorem after_2 (c : Dev nD) (t : Fin cfg0.N) : (dats m 0 c).after 2 t = X0_2 m c t := by dsimp only [dats]
theorem after_3 (c : Dev nD) (t : Fin cfg0.N) : (dats m 0 c).after 3 t = X0_3 m c t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = k0_pay6 (iblk m c 0 t) (slotOf (wgate m c) t) (iblk m c 0 t) (slotOf (wup m c) t) := by dsimp only [dats]
theorem after_7 (c : Dev nD) (t : Fin cfg0.N) : (dats m 0 c).after 7 t = k0_pay1 (X0_3 m c (sideStep 127 t)) := by dsimp only [dats]
theorem after_8 (c : Dev nD) (t : Fin cfg0.N) : (dats m 0 c).after 8 t = k0_pay2 (iblk m c 4 (sideStep 127 t)) := by dsimp only [dats]
theorem after_9 (c : Dev nD) (t : Fin cfg0.N) : (dats m 0 c).after 9 t = k0_pay3 (iblk m c 5 (sideStep 171 t)) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = X0_1 m c t :=
  before0_1_of m (dats m 0 c) (A_eq m c 1) (after_1 m c) t d
theorem before_2 (c : Dev nD) (t : Fin cfg0.N) (d) : (dats m 0 c).before 2 t d = X0_2 m c t :=
  before0_2_of m (dats m 0 c) (A_eq m c 2) (after_2 m c) t d
theorem before_3 (c : Dev nD) (t : Fin cfg0.N) (d) : (dats m 0 c).before 3 t d = X0_3 m c t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem Phi_cast (c : Dev nD) (t : Fin cfg0.N) : (dats m 0 c).Φ t.castSucc = PhiS m c t.val (le_of_lt t.isLt) := by
  dsimp only [dats]; exact Pipeline.Dat.Φ_castSucc (PhiS m c) t
theorem Phi_succ (c : Dev nD) (t : Fin cfg0.N) : (dats m 0 c).Φ t.succ = PhiS m c (t.val + 1) t.isLt := by
  dsimp only [dats]; rfl

/-- Where the outputs' windows are idle, and where they are written back. -/
theorem idle_6 : ∀ t : Fin cfg0.N, cfg0.idle 6 (cfg0.grid.coords t) = decide (t.val < 8) := fun t => by
  show (!(k0_cond5 (grid0.coords t) == 1#1)) = _
  by_cases h : 8 ≤ t.val
  · rw [(c5_iff t).mpr h, decide_eq_false (by omega)]; rfl
  · rw [decide_eq_true (by omega), Bool.not_eq_true', beq_eq_false_iff_ne]
    exact fun e => h ((c5_iff t).mp e)
theorem idle_7 : ∀ t : Fin cfg0.N, cfg0.idle 7 (cfg0.grid.coords t) = decide (128 ≤ t.val) := fun t => by
  show (!(k0_cond1 (grid0.coords t) == 1#1)) = _
  by_cases h : t.val < 128
  · rw [(c1_iff t).mpr h, decide_eq_false (by omega)]; rfl
  · rw [decide_eq_true (by omega), Bool.not_eq_true', beq_eq_false_iff_ne]
    exact fun e => h ((c1_iff t).mp e)
theorem idle_8 : ∀ t : Fin cfg0.N, cfg0.idle 8 (cfg0.grid.coords t) = decide (128 ≤ t.val) := fun t => by
  show (!(k0_cond2 (grid0.coords t) == 1#1)) = _
  by_cases h : t.val < 128
  · rw [(c2_iff t).mpr h, decide_eq_false (by omega)]; rfl
  · rw [decide_eq_true (by omega), Bool.not_eq_true', beq_eq_false_iff_ne]
    exact fun e => h ((c2_iff t).mp e)
theorem idle_9 : ∀ t : Fin cfg0.N, cfg0.idle 9 (cfg0.grid.coords t) = decide (172 ≤ t.val) := fun t => by
  show (!(k0_cond3 (grid0.coords t) == 1#1)) = _
  by_cases h : t.val < 172
  · rw [(c3_iff t).mpr h, decide_eq_false (by omega)]; rfl
  · rw [decide_eq_true (by omega), Bool.not_eq_true', beq_eq_false_iff_ne]
    exact fun e => h ((c3_iff t).mp e)
theorem flush_6 : ∀ t : Fin cfg0.N, t.val < 8 → (cfg0.win 6).flush t = decide (t.val = 8) := (by decide +kernel : ∀ t : Fin grid0.N, t.val < 8 → win0_6.flush t = decide (t.val = 8))
theorem flush_7 : ∀ t : Fin cfg0.N, 127 ≤ t.val → (cfg0.win 7).flush t = decide (t.val = 175) := (by decide +kernel : ∀ t : Fin grid0.N, 127 ≤ t.val → win0_7.flush t = decide (t.val = 175))
theorem flush_8 : ∀ t : Fin cfg0.N, 127 ≤ t.val → (cfg0.win 8).flush t = decide (t.val = 175) := (by decide +kernel : ∀ t : Fin grid0.N, 127 ≤ t.val → win0_8.flush t = decide (t.val = 175))
theorem flush_9 : ∀ t : Fin cfg0.N, 171 ≤ t.val → (cfg0.win 9).flush t = decide (t.val = 175) := (by decide +kernel : ∀ t : Fin grid0.N, 171 ≤ t.val → win0_9.flush t = decide (t.val = 175))

theorem before_7_step (c : Dev nD) (t : Fin cfg0.N) (h : 128 ≤ t.val) (d) :
    (dats m 0 c).before 7 t d = (dats m 0 c).left 7 ⟨t.val - 1, Nat.lt_of_le_of_lt (Nat.sub_le _ _) t.isLt⟩ d := by
  have := ltN t
  rw [(dats m 0 c).before_of_pos 7 t (by omega) ((cfg0.win 7).fetch_out rfl t),
    flush_7 ⟨t.val - 1, Nat.lt_of_le_of_lt (Nat.sub_le _ _) t.isLt⟩ (by show 127 ≤ t.val - 1; omega),
    decide_eq_false (by show ¬ (t.val - 1 = 175); omega), if_neg Bool.false_ne_true]

/-- From step 128 on this side block's buffer is found as step 127 left it. -/
theorem before_7 (c : Dev nD) (d) : ∀ (n : ℕ) (t : Fin cfg0.N), t.val = 128 + n → (dats m 0 c).before 7 t d = k0_pay1 (X0_3 m c (sideStep 127 t))
  | 0, t, h => by
    rw [before_7_step m c t (by omega)]
    unfold Dat.left
    rw [idle_7, decide_eq_false (by show ¬ (128 ≤ t.val - 1); omega)]
    refine (show _ = (dats m 0 c).after 7 _ from rfl).trans ((after_7 m c _).trans ?_)
    refine congrArg (fun u => k0_pay1 (X0_3 m c u)) (Fin.ext ?_)
    show min (t.val - 1) 127 = min t.val 127
    omega
  | n + 1, t, h => by
    rw [before_7_step m c t (by omega)]
    unfold Dat.left
    rw [idle_7, decide_eq_true (by show 128 ≤ t.val - 1; omega)]
    refine (before_7 c d n _ (by show t.val - 1 = 128 + n; omega)).trans ?_
    refine congrArg (fun u => k0_pay1 (X0_3 m c u)) (Fin.ext ?_)
    show min (t.val - 1) 127 = min t.val 127
    omega

theorem before_8_step (c : Dev nD) (t : Fin cfg0.N) (h : 128 ≤ t.val) (d) :
    (dats m 0 c).before 8 t d = (dats m 0 c).left 8 ⟨t.val - 1, Nat.lt_of_le_of_lt (Nat.sub_le _ _) t.isLt⟩ d := by
  have := ltN t
  rw [(dats m 0 c).before_of_pos 8 t (by omega) ((cfg0.win 8).fetch_out rfl t),
    flush_8 ⟨t.val - 1, Nat.lt_of_le_of_lt (Nat.sub_le _ _) t.isLt⟩ (by show 127 ≤ t.val - 1; omega),
    decide_eq_false (by show ¬ (t.val - 1 = 175); omega), if_neg Bool.false_ne_true]

/-- From step 128 on this side block's buffer is found as step 127 left it. -/
theorem before_8 (c : Dev nD) (d) : ∀ (n : ℕ) (t : Fin cfg0.N), t.val = 128 + n → (dats m 0 c).before 8 t d = k0_pay2 (iblk m c 4 (sideStep 127 t))
  | 0, t, h => by
    rw [before_8_step m c t (by omega)]
    unfold Dat.left
    rw [idle_8, decide_eq_false (by show ¬ (128 ≤ t.val - 1); omega)]
    refine (show _ = (dats m 0 c).after 8 _ from rfl).trans ((after_8 m c _).trans ?_)
    refine congrArg (fun u => k0_pay2 (iblk m c 4 u)) (Fin.ext ?_)
    show min (t.val - 1) 127 = min t.val 127
    omega
  | n + 1, t, h => by
    rw [before_8_step m c t (by omega)]
    unfold Dat.left
    rw [idle_8, decide_eq_true (by show 128 ≤ t.val - 1; omega)]
    refine (before_8 c d n _ (by show t.val - 1 = 128 + n; omega)).trans ?_
    refine congrArg (fun u => k0_pay2 (iblk m c 4 u)) (Fin.ext ?_)
    show min (t.val - 1) 127 = min t.val 127
    omega

theorem before_9_step (c : Dev nD) (t : Fin cfg0.N) (h : 172 ≤ t.val) (d) :
    (dats m 0 c).before 9 t d = (dats m 0 c).left 9 ⟨t.val - 1, Nat.lt_of_le_of_lt (Nat.sub_le _ _) t.isLt⟩ d := by
  have := ltN t
  rw [(dats m 0 c).before_of_pos 9 t (by omega) ((cfg0.win 9).fetch_out rfl t),
    flush_9 ⟨t.val - 1, Nat.lt_of_le_of_lt (Nat.sub_le _ _) t.isLt⟩ (by show 171 ≤ t.val - 1; omega),
    decide_eq_false (by show ¬ (t.val - 1 = 175); omega), if_neg Bool.false_ne_true]

/-- From step 172 on this side block's buffer is found as step 171 left it. -/
theorem before_9 (c : Dev nD) (d) : ∀ (n : ℕ) (t : Fin cfg0.N), t.val = 172 + n → (dats m 0 c).before 9 t d = k0_pay3 (iblk m c 5 (sideStep 171 t))
  | 0, t, h => by
    rw [before_9_step m c t (by omega)]
    unfold Dat.left
    rw [idle_9, decide_eq_false (by show ¬ (172 ≤ t.val - 1); omega)]
    refine (show _ = (dats m 0 c).after 9 _ from rfl).trans ((after_9 m c _).trans ?_)
    refine congrArg (fun u => k0_pay3 (iblk m c 5 u)) (Fin.ext ?_)
    show min (t.val - 1) 171 = min t.val 171
    omega
  | n + 1, t, h => by
    rw [before_9_step m c t (by omega)]
    unfold Dat.left
    rw [idle_9, decide_eq_true (by show 172 ≤ t.val - 1; omega)]
    refine (before_9 c d n _ (by show t.val - 1 = 172 + n; omega)).trans ?_
    refine congrArg (fun u => k0_pay3 (iblk m c 5 u)) (Fin.ext ?_)
    show min (t.val - 1) 171 = min t.val 171
    omega

/-- The current staging memrefs at point `t`, at the body's types. -/
abbrev ms_0 (t : Fin cfg0.N) : Memref sig .tc .vmem S1024x4096 .bf16 := win0_0.stage (cfg0.slots t 0)
abbrev ms_1 (t : Fin cfg0.N) : Memref sig .tc .vmem S512x512 .f32 := win0_1.stage (cfg0.slots t 1)
abbrev ms_2 (t : Fin cfg0.N) : Memref sig .tc .vmem S512x512 .f32 := win0_2.stage (cfg0.slots t 2)
abbrev ms_3 (t : Fin cfg0.N) : Memref sig .tc .vmem S32x3072 .f32 := win0_3.stage (cfg0.slots t 3)
abbrev ms_4 (t : Fin cfg0.N) : Memref sig .tc .vmem S32x4096 .f32 := win0_4.stage (cfg0.slots t 4)
abbrev ms_5 (t : Fin cfg0.N) : Memref sig .tc .vmem S64x512 .f32 := win0_5.stage (cfg0.slots t 5)
abbrev ms_6 (t : Fin cfg0.N) : Memref sig .tc .vmem S1024x512 .bf16 := win0_6.stage (cfg0.slots t 6)
abbrev ms_7 (t : Fin cfg0.N) : Memref sig .tc .vmem S32x3072 .bf16 := win0_7.stage (cfg0.slots t 7)
abbrev ms_8 (t : Fin cfg0.N) : Memref sig .tc .vmem S32x4096 .bf16 := win0_8.stage (cfg0.slots t 8)
abbrev ms_9 (t : Fin cfg0.N) : Memref sig .tc .vmem S64x512 .bf16 := win0_9.stage (cfg0.slots t 9)

def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ owns (c : Thread nD τ) (ms_5 t) fullShare ((dats m 0 c).after 5 t)
    ∗ (dats m 0 c).leavesExact 6 t ∗ (dats m 0 c).leavesExact 7 t ∗ (dats m 0 c).leavesExact 8 t ∗ (dats m 0 c).leavesExact 9 t)

/-- What a step leaves in the outputs' buffers, from the scratch buffers' contents before it. -/
def out6 (c : Dev nD) (t : Fin cfg0.N) (S T : Vec F S2x4096x512 .bf16) (d : Vec F S1024x512 .bf16) : Vec F S1024x512 .bf16 :=
  if h3 : k0_cond5 (grid0.coords t) = 1#1 then
    k0_pay6 (iblk m c 0 t) (next t S (k0_pay4 (X0_1 m c t)) ∘ (slotRect (grid0.coords t) h3).emb) (iblk m c 0 t) (next t T (k0_pay5 (X0_2 m c t)) ∘ (slotRect (grid0.coords t) h3).emb)
  else d
def out7 (c : Dev nD) (t : Fin cfg0.N) (d : Vec F S32x3072 .bf16) : Vec F S32x3072 .bf16 :=
  if t.val < 128 then k0_pay1 (X0_3 m c t) else d
def out8 (c : Dev nD) (t : Fin cfg0.N) (d : Vec F S32x4096 .bf16) : Vec F S32x4096 .bf16 :=
  if t.val < 128 then k0_pay2 (iblk m c 4 t) else d
def out9 (c : Dev nD) (t : Fin cfg0.N) (d : Vec F S64x512 .bf16) : Vec F S64x512 .bf16 :=
  if t.val < 172 then k0_pay3 (iblk m c 5 t) else d

theorem next_of (t : Fin cfg0.N) (h2 : k0_cond4 (grid0.coords t) = 1#1) (S : Vec F S2x4096x512 .bf16) (w) : (slabRect (grid0.coords t) h2).overlay S w = next t S w := by
  unfold next; rw [dif_pos h2]
theorem next_not (t : Fin cfg0.N) (h2 : ¬ k0_cond4 (grid0.coords t) = 1#1) (S : Vec F S2x4096x512 .bf16) (w) : next t S w = S := by
  unfold next; rw [dif_neg h2]

/-- One step on scratch buffers at `S` and `T`. -/
theorem run_step (c : Dev nD) (t : Fin cfg0.N) (d6 : Vec F S1024x512 .bf16) (d7 : Vec F S32x3072 .bf16) (d8 : Vec F S32x4096 .bf16) (d9 : Vec F S64x512 .bf16) (S T : Vec F S2x4096x512 .bf16) (E : Set ℕ) (K : PUnit → sProp 𝕄) :
    iprop(owns (c : Thread nD τ) (ms_0 t) fullShare (iblk m c 0 t) ∗ owns (c : Thread nD τ) (ms_1 t) fullShare (X0_1 m c t) ∗ owns (c : Thread nD τ) (ms_2 t) fullShare (X0_2 m c t) ∗ owns (c : Thread nD τ) (ms_3 t) fullShare (X0_3 m c t) ∗ owns (c : Thread nD τ) (ms_4 t) fullShare (iblk m c 4 t) ∗ owns (c : Thread nD τ) (ms_5 t) fullShare (iblk m c 5 t)
        ∗ owns (c : Thread nD τ) (ms_6 t) fullShare (d6) ∗ owns (c : Thread nD τ) (ms_7 t) fullShare (d7) ∗ owns (c : Thread nD τ) (ms_8 t) fullShare (d8) ∗ owns (c : Thread nD τ) (ms_9 t) fullShare (d9) ∗ owns (c : Thread nD τ) sc0 fullShare S ∗ owns (c : Thread nD τ) sc1 fullShare T
        ∗ (iprop(owns (c : Thread nD τ) (ms_0 t) fullShare (iblk m c 0 t) ∗ owns (c : Thread nD τ) (ms_1 t) fullShare (X0_1 m c t) ∗ owns (c : Thread nD τ) (ms_2 t) fullShare (X0_2 m c t) ∗ owns (c : Thread nD τ) (ms_3 t) fullShare (X0_3 m c t) ∗ owns (c : Thread nD τ) (ms_4 t) fullShare (iblk m c 4 t) ∗ owns (c : Thread nD τ) (ms_5 t) fullShare (iblk m c 5 t)
            ∗ owns (c : Thread nD τ) (ms_6 t) fullShare (out6 m c t S T d6) ∗ owns (c : Thread nD τ) (ms_7 t) fullShare (out7 m c t d7) ∗ owns (c : Thread nD τ) (ms_8 t) fullShare (out8 m c t d8) ∗ owns (c : Thread nD τ) (ms_9 t) fullShare (out9 m c t d9)
            ∗ owns (c : Thread nD τ) sc0 fullShare (next t S (k0_pay4 (X0_1 m c t))) ∗ owns (c : Thread nD τ) sc1 fullShare (next t T (k0_pay5 (X0_2 m c t)))) -∗ K ⟨⟩))
      ⊢ wp frame (wpE (defs₀ (F := F)) Variants.none c none) E (bodyAt0 t) K := by
  have hN := ltN t
  unfold bodyAt0
  by_cases h5 : k0_cond5 (grid0.coords t) = 1#1
  · by_cases h4 : k0_cond4 (grid0.coords t) = 1#1
    · have h172 : t.val < 172 := by have := (c4_iff t).mp h4; omega
      by_cases h128 : t.val < 128
      · unfold out6 out7 out8 out9
        rw [dif_pos h5, if_pos h128, if_pos h128, if_pos h172, ← next_of t h4, ← next_of t h4]
        exact run_mid c (grid0.coords t) _ _ _ _ _ _ _ _ _ _ _ _ _ _ _ _ _ _ _ _ _ _ _ _ (iblk m c 0 t) (X0_1 m c t) (X0_2 m c t) (X0_3 m c t) (iblk m c 4 t) (iblk m c 5 t) d6 d7 d8 d9 S T ((c1_iff t).mpr h128) ((c2_iff t).mpr h128) ((c3_iff t).mpr h172) h4 h5 E K
      · unfold out6 out7 out8 out9
        rw [dif_pos h5, if_neg h128, if_neg h128, if_pos h172, ← next_of t h4, ← next_of t h4]
        exact run_rest c (grid0.coords t) _ _ _ _ _ _ _ _ _ _ _ _ _ _ _ _ _ _ _ _ _ _ _ _ (iblk m c 0 t) (X0_1 m c t) (X0_2 m c t) (X0_3 m c t) (iblk m c 4 t) (iblk m c 5 t) d6 d7 d8 d9 S T (fun e => h128 ((c1_iff t).mp e)) (fun e => h128 ((c2_iff t).mp e)) ((c3_iff t).mpr h172) h4 h5 E K
    · have h128 : ¬ t.val < 128 := fun e => h4 ((c4_iff t).mpr (by omega))
      by_cases h172 : t.val < 172
      · unfold out6 out7 out8 out9
        rw [dif_pos h5, if_neg h128, if_neg h128, if_pos h172, next_not t h4, next_not t h4]
        exact run_late c (grid0.coords t) _ _ _ _ _ _ _ _ _ _ _ _ _ _ _ _ _ _ _ _ _ _ _ _ (iblk m c 0 t) (X0_1 m c t) (X0_2 m c t) (X0_3 m c t) (iblk m c 4 t) (iblk m c 5 t) d6 d7 d8 d9 S T (fun e => h128 ((c1_iff t).mp e)) (fun e => h128 ((c2_iff t).mp e)) ((c3_iff t).mpr h172) h4 h5 E K
      · unfold out6 out7 out8 out9
        rw [dif_pos h5, if_neg h128, if_neg h128, if_neg h172, next_not t h4, next_not t h4]
        exact run_last c (grid0.coords t) _ _ _ _ _ _ _ _ _ _ _ _ _ _ _ _ _ _ _ _ _ _ _ _ (iblk m c 0 t) (X0_1 m c t) (X0_2 m c t) (X0_3 m c t) (iblk m c 4 t) (iblk m c 5 t) d6 d7 d8 d9 S T (fun e => h128 ((c1_iff t).mp e)) (fun e => h128 ((c2_iff t).mp e)) (fun e => h172 ((c3_iff t).mp e)) h4 h5 E K
  · have h8 : ¬ 8 ≤ t.val := fun e => h5 ((c5_iff t).mpr e)
    have h4 : k0_cond4 (grid0.coords t) = 1#1 := (c4_iff t).mpr (by omega)
    have h172 : t.val < 172 := by omega
    have h128 : t.val < 128 := by omega
    unfold out6 out7 out8 out9
    rw [dif_neg h5, if_pos h128, if_pos h128, if_pos h172, ← next_of t h4, ← next_of t h4]
    exact run_first c (grid0.coords t) _ _ _ _ _ _ _ _ _ _ _ _ _ _ _ _ _ _ _ _ _ _ _ _ (iblk m c 0 t) (X0_1 m c t) (X0_2 m c t) (X0_3 m c t) (iblk m c 4 t) (iblk m c 5 t) d6 d7 d8 d9 S T ((c1_iff t).mpr h128) ((c2_iff t).mpr h128) ((c3_iff t).mpr h172) h4 h5 E K

/-- The main output's buffer as the step leaves it. -/
theorem leave_6 (c : Dev nD) (t : Fin cfg0.N) (S T : Vec F S2x4096x512 .bf16) (hS : Inv (wgate m c) t.val S) (hT : Inv (wup m c) t.val T) (d) :
    (owns (c : Thread nD τ) (ms_6 t) fullShare (out6 m c t S T ((dats m 0 c).before 6 t d)) : sProp 𝕄) ⊢ (dats m 0 c).leavesExact 6 t := by
  by_cases h8 : 8 ≤ t.val
  · have h3 := (c5_iff t).mpr h8
    unfold Dat.leavesExact
    rw [idle_6, decide_eq_false (by omega)]
    unfold out6
    rw [dif_pos h3, slot_read (wgate m c) t h3 _ (fun k r l hk => next_cur (wgate m c) t S _ hS h8 k r l hk),
      slot_read (wup m c) t h3 _ (fun k r l hk => next_cur (wup m c) t T _ hT h8 k r l hk)]
    show _ ⊢ owns (c : Thread nD τ) (ms_6 t) fullShare ((dats m 0 c).after 6 t)
    rw [after_6]
  · rw [Dat.leavesExact_idle _ 6 t (by rw [idle_6, decide_eq_true (by omega)]) (by rw [flush_6 t (by omega), decide_eq_false (by omega)])]
    unfold out6
    rw [dif_neg fun e => h8 ((c5_iff t).mp e)]
    iintro H
    iexists _
    iexact H

/-- The side output's, window 7. -/
theorem leave_7 (c : Dev nD) (t : Fin cfg0.N) (d) :
    (owns (c : Thread nD τ) (ms_7 t) fullShare (out7 m c t ((dats m 0 c).before 7 t d)) : sProp 𝕄) ⊢ (dats m 0 c).leavesExact 7 t := by
  have hN := ltN t
  by_cases h1 : t.val < 128
  · unfold Dat.leavesExact
    rw [idle_7, decide_eq_false (by omega)]
    unfold out7
    rw [if_pos h1]
    show _ ⊢ owns (c : Thread nD τ) (ms_7 t) fullShare ((dats m 0 c).after 7 t)
    rw [after_7, show sideStep 127 t = t from Fin.ext (by show min t.val 127 = t.val; omega)]
  · unfold out7
    rw [if_neg h1]
    by_cases hf : t.val = 175
    · unfold Dat.leavesExact
      rw [idle_7, decide_eq_true (by omega), flush_7 t (by omega), decide_eq_true hf, before_7 m c d (t.val - 128) t (by omega)]
      show _ ⊢ owns (c : Thread nD τ) (ms_7 t) fullShare ((dats m 0 c).after 7 t)
      rw [after_7]
    · rw [Dat.leavesExact_idle _ 7 t (by rw [idle_7, decide_eq_true (by omega)]) (by rw [flush_7 t (by omega), decide_eq_false hf])]
      iintro H
      iexists _
      iexact H

/-- The side output's, window 8. -/
theorem leave_8 (c : Dev nD) (t : Fin cfg0.N) (d) :
    (owns (c : Thread nD τ) (ms_8 t) fullShare (out8 m c t ((dats m 0 c).before 8 t d)) : sProp 𝕄) ⊢ (dats m 0 c).leavesExact 8 t := by
  have hN := ltN t
  by_cases h1 : t.val < 128
  · unfold Dat.leavesExact
    rw [idle_8, decide_eq_false (by omega)]
    unfold out8
    rw [if_pos h1]
    show _ ⊢ owns (c : Thread nD τ) (ms_8 t) fullShare ((dats m 0 c).after 8 t)
    rw [after_8, show sideStep 127 t = t from Fin.ext (by show min t.val 127 = t.val; omega)]
  · unfold out8
    rw [if_neg h1]
    by_cases hf : t.val = 175
    · unfold Dat.leavesExact
      rw [idle_8, decide_eq_true (by omega), flush_8 t (by omega), decide_eq_true hf, before_8 m c d (t.val - 128) t (by omega)]
      show _ ⊢ owns (c : Thread nD τ) (ms_8 t) fullShare ((dats m 0 c).after 8 t)
      rw [after_8]
    · rw [Dat.leavesExact_idle _ 8 t (by rw [idle_8, decide_eq_true (by omega)]) (by rw [flush_8 t (by omega), decide_eq_false hf])]
      iintro H
      iexists _
      iexact H

/-- The side output's, window 9. -/
theorem leave_9 (c : Dev nD) (t : Fin cfg0.N) (d) :
    (owns (c : Thread nD τ) (ms_9 t) fullShare (out9 m c t ((dats m 0 c).before 9 t d)) : sProp 𝕄) ⊢ (dats m 0 c).leavesExact 9 t := by
  have hN := ltN t
  by_cases h1 : t.val < 172
  · unfold Dat.leavesExact
    rw [idle_9, decide_eq_false (by omega)]
    unfold out9
    rw [if_pos h1]
    show _ ⊢ owns (c : Thread nD τ) (ms_9 t) fullShare ((dats m 0 c).after 9 t)
    rw [after_9, show sideStep 171 t = t from Fin.ext (by show min t.val 171 = t.val; omega)]
  · unfold out9
    rw [if_neg h1]
    by_cases hf : t.val = 175
    · unfold Dat.leavesExact
      rw [idle_9, decide_eq_true (by omega), flush_9 t (by omega), decide_eq_true hf, before_9 m c d (t.val - 172) t (by omega)]
      show _ ⊢ owns (c : Thread nD τ) (ms_9 t) fullShare ((dats m 0 c).after 9 t)
      rw [after_9]
    · rw [Dat.leavesExact_idle _ 9 t (by rw [idle_9, decide_eq_true (by omega)]) (by rw [flush_9 t (by omega), decide_eq_false hf])]
      iintro H
      iexists _
      iexact H

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5]
  rw [show (dats m 0 c).owesAt () t.succ = (dats m 0 c).owesAt () t.castSucc from rfl,
    after_0, after_1, after_2, after_3, after_4, after_5, Phi_cast, Phi_succ]
  unfold PhiS
  iintro ⟨⟨⟨%S, %T, %hST, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run_step m c t ((dats m 0 c).before 6 t d6) ((dats m 0 c).before 7 t d7) ((dats m 0 c).before 8 t d8) ((dats m 0 c).before 9 t d9) S T Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  iintro ⟨H0, H1, H2, H3, H4, H5, H6, H7, H8, H9, HS0, HS1⟩
  isplitl [HS0 HS1 Hg]
  · isplitl [HS0 HS1]
    · iexists _; iexists _; isplitr
      swap
      · isplitl [HS0]; · iexact HS0
        iexact HS1
      ipureintro
      exact ⟨inv_next (wgate m c) t S _ hST.1 (fun r l hr hr' => gate_slab m c t r l hr hr'),
        inv_next (wup m c) t T _ hST.2 (fun r l hr hr' => up_slab m c t r l hr hr')⟩
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iapply (leave_6 m c t S T hST.1 hST.2 d6); iexact H6
  isplitl [H7]
  · iapply (leave_7 m c t d7); iexact H7
  isplitl [H8]
  · iapply (leave_8 m c t d8); iexact H8
  · iapply (leave_9 m c t d9); iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem Phi_in (c : Dev nD) : Pipeline.ΦA spec0 c ⊢ (dats m 0 c).Φ 0 := by
  rw [show (dats m 0 c).Φ 0 = PhiS m c 0 (Nat.zero_le _) from by dsimp only [dats]; rfl, PhiA_eq]
  unfold PhiS
  iintro ⟨⟨⟨%S, HS⟩, ⟨%T, HT⟩⟩, Hg⟩
  isplitl [HS HT]
  · iexists _; iexists _; isplitr
    swap
    · isplitl [HS]; · iexact HS
      iexact HT
    ipureintro; exact ⟨inv_zero _ S, inv_zero _ T⟩
  iexact Hg

theorem Phi_out (c : Dev nD) : (dats m 0 c).Φ (Fin.last cfg0.N) ⊢ Pipeline.ΦA spec0 c := by
  rw [show (dats m 0 c).Φ (Fin.last cfg0.N) = PhiS m c cfg0.N le_rfl from by dsimp only [dats]; rfl, PhiA_eq]
  unfold PhiS
  iintro ⟨⟨%S, %T, -, HS, HT⟩, Hg⟩
  isplitl [HS HT]
  · isplitl [HS]
    · iexists _; iexact HS
    · iexists _; iexact HT
  iexact Hg

set_option backward.isDefEq.respectTransparency.types false in
/-- The whole call runs to its end, every counter at zero, the arrays at what the proof data says and the slice after
    the region at the main output's columns. -/
theorem run_main : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c w => by fin_cases w <;> rfl)
    (howed := fun _ _ => rfl) (V₀ := V0 m) (opss := [hostOps1]) (hsub := sfx_sub) (hfresh := sfx_fresh) (hkeep := sfx_keeps)
    (hmain := hmain m Variants.none) (hA := A_eq m) (hin := Phi_in m) (hout := Phi_out m)
    (hQ' := fun _ h => h)

/-- The arguments end unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.GateUp1
-- ==== Proof.GateUp1.Value.lean ====
module

public import proofs.«01_k».proof.Proof.GateUp1.Sound
public import proofs.«01_k».proof.Proof.Gen.Reference6Ideal
public import proofs.«01_k».proof.Proof.Gen.Reference6Ideal.Run

/-! The first half's gate and up projections' values at the extended reals: every element of the main result is the gated
product of two sums over the inner axis, and the side results are the arguments' own columns. -/

@[expose] public section

set_option maxRecDepth 16384

noncomputable section

namespace Cert.GateUp1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen

section
variable {F : FTy → Type} [FloatOps F] (m : (ℓ : Loc nD τ sig) → Buf (Elt F) ℓ)

theorem V_h (c : Dev nD) : V m c main_v0 = truncf .bf16 (m ((c.tc : Thread nD τ).loc main_arg0) : FVec F S8192x4096 .f32) bitsLt_bf16_f32 := by
  unfold V V0
  simp only [List.flatten_cons, List.flatten_nil, List.append_nil]
  after_results <;> rfl
end

/-- The windows' index maps. -/
theorem idx0 : ∀ t : Fin grid0.N, 8 ≤ t.val → win0_0.index t = ![t.val % 8, 0] := by decide +kernel
theorem idx1 : ∀ t : Fin grid0.N, t.val < 168 → win0_1.index t = ![t.val % 8, t.val / 8] := by decide +kernel
theorem idx2 : ∀ t : Fin grid0.N, t.val < 168 → win0_2.index t = ![t.val % 8, t.val / 8] := by decide +kernel
theorem idx5 : ∀ t : Fin grid0.N, win0_5.index t = ![min t.val 171, 0] := by decide +kernel
theorem idx6 : ∀ t : Fin grid0.N, 8 ≤ t.val → win0_6.index t = ![t.val % 8, t.val / 8 - 1] := by decide +kernel
theorem idx9 : ∀ t : Fin grid0.N, win0_9.index t = ![min t.val 171, 0] := by decide +kernel
theorem idx3 : ∀ t : Fin grid0.N, win0_3.index t = ![min t.val 127, 0] := by decide +kernel
theorem idx4 : ∀ t : Fin grid0.N, win0_4.index t = ![min t.val 127, 0] := by decide +kernel
theorem idx7 : ∀ t : Fin grid0.N, win0_7.index t = ![min t.val 127, 0] := by decide +kernel
theorem idx8 : ∀ t : Fin grid0.N, win0_8.index t = ![min t.val 127, 0] := by decide +kernel
theorem flush6_ge : ∀ t : Fin cfg0.N, (cfg0.win 6).flush t = true → 8 ≤ t.val := (by decide +kernel : ∀ t : Fin grid0.N, win0_6.flush t = true → 8 ≤ t.val)

variable (m : (ℓ : Loc nD τ sig) → Buf (Elt Ideal) ℓ) (c : Dev nD)

abbrev hArg : FVec Ideal S8192x4096 .f32 := m ((c.tc : Thread nD τ).loc main_arg0)
abbrev gArg : FVec Ideal S4096x11008 .f32 := m ((c.tc : Thread nD τ).loc main_arg1)
abbrev uArg : FVec Ideal S4096x11008 .f32 := m ((c.tc : Thread nD τ).loc main_arg2)
abbrev dArg : FVec Ideal S11008x4096 .f32 := m ((c.tc : Thread nD τ).loc main_arg3)

abbrev iArg : FVec Ideal S4096x5120 .f32 := m ((c.tc : Thread nD τ).loc main_arg4)
abbrev oArg : FVec Ideal S4096x4096 .f32 := m ((c.tc : Thread nD τ).loc main_arg5)

theorem block0 (t : Fin cfg0.N) (h : 8 ≤ t.val) (a : Fin 1024) (e : Fin 4096) : iblk m c 0 t (ix2 a e) = V m c main_v0 (ix2 ⟨1024 * (t.val % 8) + a.val, by omega⟩ e) := by
  have := ltN t
  blk_ext [iblk, idx0 t h]

theorem block1 (t : Fin cfg0.N) (h : t.val < 168) (a : Fin 512) (e : Fin 512) : X0_1 m c t (ix2 a e) = V m c main_arg1 (ix2 ⟨512 * (t.val % 8) + a.val, by omega⟩ ⟨512 * (t.val / 8) + e.val, by omega⟩) := by
  unfold X0_1 Pipeline.Window.fill
  rw [dif_pos (moved0_1 t _)]
  blk_ext [iblk, idx1 t h]

theorem block2 (t : Fin cfg0.N) (h : t.val < 168) (a : Fin 512) (e : Fin 512) : X0_2 m c t (ix2 a e) = V m c main_arg2 (ix2 ⟨512 * (t.val % 8) + a.val, by omega⟩ ⟨512 * (t.val / 8) + e.val, by omega⟩) := by
  unfold X0_2 Pipeline.Window.fill
  rw [dif_pos (moved0_2 t _)]
  blk_ext [iblk, idx2 t h]

theorem block3 (t : Fin cfg0.N) (h : t.val < 128) (a : Fin 32) (e : Fin 3072) : X0_3 m c t (ix2 a e) = V m c main_arg4 (ix2 ⟨32 * t.val + a.val, by omega⟩ ⟨e.val, by omega⟩) := by
  have hm : min t.val 127 = t.val := by omega
  unfold X0_3 Pipeline.Window.fill
  rw [dif_pos (moved0_3 t _)]
  blk_ext [iblk, idx3 t, hm]

theorem block4 (t : Fin cfg0.N) (h : t.val < 128) (a : Fin 32) (e : Fin 4096) : iblk m c 4 t (ix2 a e) = V m c main_arg5 (ix2 ⟨32 * t.val + a.val, by omega⟩ e) := by
  have hm : min t.val 127 = t.val := by omega
  blk_ext [iblk, idx4 t, hm]

theorem block5 (t : Fin cfg0.N) (h : t.val < 172) (a : Fin 64) (e : Fin 512) : iblk m c 5 t (ix2 a e) = V m c main_arg3 (ix2 ⟨64 * t.val + a.val, by omega⟩ ⟨e.val, by omega⟩) := by
  have hm : min t.val 171 = t.val := by omega
  blk_ext [iblk, idx5 t, hm]

theorem pay1_apply (x : FVec Ideal S32x3072 .f32) (a : Fin 32) (l : Fin 3072) : (k0_pay1 (F := Ideal) x (ix2 a l) : EReal) = x (ix2 a l) := by
  pointwise [k0_pay1]

theorem pay2_apply (x : FVec Ideal S32x4096 .f32) (a : Fin 32) (l : Fin 4096) : (k0_pay2 (F := Ideal) x (ix2 a l) : EReal) = x (ix2 a l) := by
  pointwise [k0_pay2]

theorem pay3_apply (x : FVec Ideal S64x512 .f32) (a : Fin 64) (l : Fin 512) : (k0_pay3 (F := Ideal) x (ix2 a l) : EReal) = x (ix2 a l) := by
  pointwise [k0_pay3]

theorem pay4_apply (x : FVec Ideal S512x512 .f32) (r : Fin 512) (l : Fin 512) : (k0_pay4 (F := Ideal) x (ix3 (0 : Fin 1) r l) : EReal) = x (ix2 r l) := by
  pointwise [k0_pay4]

theorem pay5_apply (x : FVec Ideal S512x512 .f32) (r : Fin 512) (l : Fin 512) : (k0_pay5 (F := Ideal) x (ix3 (0 : Fin 1) r l) : EReal) = x (ix2 r l) := by
  pointwise [k0_pay5]

/-- The gated product of two numbers. -/
def gated (g u : EReal) : EReal := g * Ideal.logistic g * u

theorem pay6_apply (x x' : FVec Ideal S1024x4096 .bf16) (v w : FVec Ideal S1x4096x512 .bf16) (a : Fin 1024) (l : Fin 512) :
    (k0_pay6 (F := Ideal) x v x' w (ix2 a l) : EReal) = gated (∑ r : Fin 4096, (x (ix2 a r) * v (ix3 (0 : Fin 1) r l) : EReal)) (∑ r : Fin 4096, (x' (ix2 a r) * w (ix3 (0 : Fin 1) r l) : EReal)) := by
  unfold gated
  pointwise [k0_pay6]

theorem dot_apply (hs : Cert.Reference6Ideal.S4096x11008.Slices ![0, 0] Cert.Reference6Ideal.S4096x10752) (a : FVec Ideal S8192x4096 .f32) (w : FVec Ideal S4096x11008 .f32) (R : Fin 8192) (C : Fin 10752) :
    (Host.dotGeneral (F := Ideal) Cert.Reference6Ideal.dot_S8192x4096_S4096x10752_S8192x10752_1_0_0_1_n_n none a (extractStridedSlice Cert.Reference6Ideal.S4096x10752 ![0, 0] w hs) (ix2 R C) : EReal)
      = ∑ r : Fin 4096, (a (ix2 R r) * w (ix2 r ⟨C.val, by omega⟩) : EReal) := by
  pointwise

/-- The reference's gated linear unit, at an element of its two products. -/
theorem silu_apply (hb : Cert.Reference6Ideal.S_.BroadcastsInDim Cert.Reference6Ideal.S8192x10752 (![] : Fin 0 → Fin Cert.Reference6Ideal.S8192x10752.rank)) (ht : FTy.bits .bf16 < FTy.bits .f32) (g u : FVec Ideal Cert.Reference6Ideal.S8192x10752 .f32) (y : Cert.Reference6Ideal.S8192x10752.Idx) :
    (truncf .bf16 (mulf (mulf g (Host.divf (broadcastInDim Cert.Reference6Ideal.S8192x10752 ![] hb (constant (F := Ideal) Cert.Reference6Ideal.S_ .f32 0x3F800000#32)) (addf (broadcastInDim Cert.Reference6Ideal.S8192x10752 ![] hb (constant (F := Ideal) Cert.Reference6Ideal.S_ .f32 0x3F800000#32)) (Host.exp (Host.negf g))))) u) ht y : EReal)
      = gated (g y) (u y) := by
  unfold gated
  pointwise
  rfl

theorem h_apply (t : Fin cfg0.N) (h : 8 ≤ t.val) (a : Fin 1024) (r : Fin 4096) :
    (iblk m c 0 t (ix2 a r) : EReal) = hArg m c (ix2 ⟨1024 * (t.val % 8) + a.val, by omega⟩ r) := by
  rw [block0 m c t h, V_h]
  rfl

/-- A column block of a weight is the weight's own columns. -/
theorem wgate_apply (b : ℕ) (hb : b < 21) (r : Fin 4096) (l : Fin 512) : (wgate m c b r l : EReal) = gArg m c (ix2 r ⟨512 * b + l.val, by omega⟩) := by
  unfold wgate
  refine (pay4_apply _ _ _).trans ?_
  have hp : (pt b (r.val / 512)).val = 8 * (b % 22) + r.val / 512 % 8 := rfl
  have hr := r.isLt
  refine (block1 m c _ (by omega) _ _).trans ?_
  rw [V_main_arg1]
  refine congrArg₂ (fun (e : Fin 4096) (f : Fin 11008) => gArg m c (ix2 e f)) (Fin.ext ?_) (Fin.ext ?_)
  · show 512 * ((8 * (b % 22) + r.val / 512 % 8) % 8) + r.val % 512 = r.val
    omega
  · show 512 * ((8 * (b % 22) + r.val / 512 % 8) / 8) + l.val = 512 * b + l.val
    omega

theorem wup_apply (b : ℕ) (hb : b < 21) (r : Fin 4096) (l : Fin 512) : (wup m c b r l : EReal) = uArg m c (ix2 r ⟨512 * b + l.val, by omega⟩) := by
  unfold wup
  refine (pay5_apply _ _ _).trans ?_
  have hp : (pt b (r.val / 512)).val = 8 * (b % 22) + r.val / 512 % 8 := rfl
  have hr := r.isLt
  refine (block2 m c _ (by omega) _ _).trans ?_
  rw [V_main_arg2]
  refine congrArg₂ (fun (e : Fin 4096) (f : Fin 11008) => uArg m c (ix2 e f)) (Fin.ext ?_) (Fin.ext ?_)
  · show 512 * ((8 * (b % 22) + r.val / 512 % 8) % 8) + r.val % 512 = r.val
    omega
  · show 512 * ((8 * (b % 22) + r.val / 512 % 8) / 8) + l.val = 512 * b + l.val
    omega

/-- The gated product of row `R` and column `C`. -/
def act (R : Fin 8192) (C : Fin 11008) : EReal :=
  gated (∑ r : Fin 4096, (hArg m c (ix2 R r) * gArg m c (ix2 r C) : EReal)) (∑ r : Fin 4096, (hArg m c (ix2 R r) * uArg m c (ix2 r C) : EReal))

/-- What a step leaves in the main output's buffer. -/
theorem after6_apply (t : Fin cfg0.N) (h : 8 ≤ t.val) (a : Fin 1024) (l : Fin 512) :
    ((dats m 0 c).after 6 t (ix2 a l) : EReal) = act m c ⟨1024 * (t.val % 8) + a.val, by omega⟩ ⟨512 * (t.val / 8 - 1) + l.val, by have := ltN t; omega⟩ := by
  have hN := ltN t
  rw [after_6]
  refine (pay6_apply _ _ _ _ _ _).trans ?_
  unfold act
  refine congrArg₂ gated (Finset.sum_congr rfl fun r _ => ?_) (Finset.sum_congr rfl fun r _ => ?_)
  · rw [h_apply m c t h]
    exact congrArg₂ (· * ·) rfl (wgate_apply m c (t.val / 8 - 1) (by omega) r l)
  · rw [h_apply m c t h]
    exact congrArg₂ (· * ·) rfl (wup_apply m c (t.val / 8 - 1) (by omega) r l)

/-- The main output's array, at the columns the call covers. -/
theorem arr6_eq (R : Fin 8192) (C : Fin 11008) (hC : C.val < 10752) : ((dats m 0 c).arrAt 6 cfg0.N (ix2 R C) : EReal) = act m c R C := by
  have key := (dats m 0 c).arrAt_apply_of_coversWhere 6 (fun i : S8192x11008.Idx => act m c (i 0) (i 1)) (P := fun i : S8192x11008.Idx => (i 1 : ℕ) / 512 < 21)
    (fun β => β (1 : Fin 2) < 21) (by decide +kernel) (fun t hf y => ?_) (fun j => Iff.rfl) (ix2 R C : S8192x11008.Idx)
  · rw [if_pos (by show C.val / 512 < 21; omega)] at key
    exact key
  · have h8 := flush6_ge t hf
    blk_simp
    refine (congrArg ((dats m 0 c).after 6 t) (eq_ix2 (n0 := 1024) (n1 := 512) _)).trans ((after6_apply m c t h8 _ _).trans ?_)
    refine congrArg₂ (act m c) (Fin.ext ?_) (Fin.ext ?_)
    · blk_simp [idx6 t h8]
      exact congrArg (· + (y 0).val) (Nat.mul_comm _ _)
    · blk_simp [idx6 t h8]
      exact congrArg (· + (y 1).val) (Nat.mul_comm _ _)

/-- The side output of the down weight. -/
theorem side_apply (hs : Cert.Reference6Ideal.S11008x4096.Slices ![0, 0] Cert.Reference6Ideal.S11008x512) (ht : FTy.bits .bf16 < FTy.bits .f32) (w : FVec Ideal Cert.Reference6Ideal.S11008x4096 .f32) (R : Fin 11008) (C : Fin 512) :
    (truncf .bf16 (extractStridedSlice Cert.Reference6Ideal.S11008x512 ![0, 0] w hs) ht (ix2 R C) : EReal) = w (ix2 R ⟨C.val, by omega⟩) := by
  pointwise

theorem arr9_eq (hs : Cert.Reference6Ideal.S11008x4096.Slices ![0, 0] Cert.Reference6Ideal.S11008x512) (ht : FTy.bits .bf16 < FTy.bits .f32) : (dats m 0 c).arrAt 9 cfg0.N = truncf .bf16 (extractStridedSlice Cert.Reference6Ideal.S11008x512 ![0, 0] (dArg m c) hs) ht := by
  refine (dats m 0 c).arrAt_eq_of_covers 9 _ (by decide +kernel) fun t hf y => ?_
  blk_simp
  rw [after_9]
  change S64x512.Idx at y
  obtain ⟨a, e, rfl⟩ : ∃ (a : Fin 64) (e : Fin 512), y = ix2 a e := ⟨y 0, y 1, eq_ix2 y⟩
  have hN := ltN t
  refine (pay3_apply _ _ _).trans ?_
  have he : (sideStep 171 t).val = min t.val 171 := rfl
  rw [block5 m c (sideStep 171 t) (by omega), V_main_arg3]
  refine (side_apply hs ht (dArg m c) ⟨64 * (sideStep 171 t).val + a.val, by omega⟩ e).symm.trans ?_
  blk_ext [idx9 t, he]

/-- The side output of the weight into the attention. -/
theorem in_apply (hs : Cert.Reference6Ideal.S4096x5120.Slices ![0, 0] Cert.Reference6Ideal.S4096x3072) (ht : FTy.bits .bf16 < FTy.bits .f32) (w : FVec Ideal Cert.Reference6Ideal.S4096x5120 .f32) (R : Fin 4096) (C : Fin 3072) :
    (truncf .bf16 (extractStridedSlice Cert.Reference6Ideal.S4096x3072 ![0, 0] w hs) ht (ix2 R C) : EReal) = w (ix2 R ⟨C.val, by omega⟩) := by
  pointwise

theorem arr7_eq (hs : Cert.Reference6Ideal.S4096x5120.Slices ![0, 0] Cert.Reference6Ideal.S4096x3072) (ht : FTy.bits .bf16 < FTy.bits .f32) : (dats m 0 c).arrAt 7 cfg0.N = truncf .bf16 (extractStridedSlice Cert.Reference6Ideal.S4096x3072 ![0, 0] (iArg m c) hs) ht := by
  refine (dats m 0 c).arrAt_eq_of_covers 7 _ (by decide +kernel) fun t hf y => ?_
  blk_simp
  rw [after_7]
  change S32x3072.Idx at y
  obtain ⟨a, e, rfl⟩ : ∃ (a : Fin 32) (e : Fin 3072), y = ix2 a e := ⟨y 0, y 1, eq_ix2 y⟩
  have hN := ltN t
  refine (pay1_apply _ _ _).trans ?_
  have he : (sideStep 127 t).val = min t.val 127 := rfl
  rw [block3 m c (sideStep 127 t) (by omega), V_main_arg4]
  refine (in_apply hs ht (iArg m c) ⟨32 * (sideStep 127 t).val + a.val, by omega⟩ e).symm.trans ?_
  blk_ext [idx7 t, he]

/-- The side output of the weight out of the attention. -/
theorem out_apply (ht : FTy.bits .bf16 < FTy.bits .f32) (w : FVec Ideal S4096x4096 .f32) (R : Fin 4096) (C : Fin 4096) :
    (truncf .bf16 w ht (ix2 R C) : EReal) = w (ix2 R C) := by
  pointwise

theorem arr8_eq (ht : FTy.bits .bf16 < FTy.bits .f32) : (dats m 0 c).arrAt 8 cfg0.N = truncf .bf16 (oArg m c) ht := by
  refine (dats m 0 c).arrAt_eq_of_covers 8 _ (by decide +kernel) fun t hf y => ?_
  blk_simp
  rw [after_8]
  change S32x4096.Idx at y
  obtain ⟨a, e, rfl⟩ : ∃ (a : Fin 32) (e : Fin 4096), y = ix2 a e := ⟨y 0, y 1, eq_ix2 y⟩
  have hN := ltN t
  refine (pay2_apply _ _ _).trans ?_
  have he : (sideStep 127 t).val = min t.val 127 := rfl
  rw [block4 m c (sideStep 127 t) (by omega), V_main_arg5]
  refine (out_apply ht (oArg m c) ⟨32 * (sideStep 127 t).val + a.val, by omega⟩ e).symm.trans ?_
  blk_ext [idx8 t, he]

end Cert.GateUp1
-- ==== Proof.GateUp1.Claims.lean ====
module

public import proofs.«01_k».proof.Defs
public import proofs.«01_k».proof.Proof.Gen.Kernel6
public import proofs.«01_k».proof.Proof.Gen.Kernel6.Frame
public import proofs.«01_k».proof.Proof.GateUp1.Value

/-! The first half's gate and up projections' claims: the kernel and its reference run and leave their arguments alone, and at the
extended reals their results are equal. -/

@[expose] public section

set_option maxRecDepth 65536

noncomputable section

namespace Cert.GateUp1

open Idealize.ShloMosaic Idealize.ShloMosaic.TcCoe Idealize.ShloMosaic.Tactic Idealize.SL.Sem

theorem frame_kernelIdeal : Cert.quiescent_Kernel6Ideal := fun m ρ _ => frame_run m ρ

/-- The two programs have one text: their bodies agree, -/
theorem defs₀_eq : Cert.Kernel6.defs₀ (F := Bits) = Cert.Kernel6Ideal.defs₀ (F := Bits) := by
  unfold Cert.Kernel6.defs₀ Cert.Kernel6Ideal.defs₀
  refine congrArg Defs.onTc (funext fun l => funext fun a => ?_)
  match l, a with
  | ⟨0, _⟩, _ => rfl

/-- and so their pipelines. -/
theorem defs_eq : Cert.Kernel6.defs (F := Bits) = Cert.Kernel6Ideal.defs (F := Bits) := by
  unfold Cert.Kernel6.defs Cert.Kernel6Ideal.defs
  exact congrArg _ defs₀_eq

theorem frame_kernel : Cert.quiescent_Kernel6 := by
  intro m ρ _
  rw [defs_eq]
  exact frame_run (F := Bits) m ρ

theorem frame_referenceIdeal : Cert.quiescent_Reference6Ideal := fun m ρ _ =>
  (θ_run Cert.Reference6Ideal.defs _ _).mono (fun r h => ⟨fun c => (h c).2.2.2.2, sem_eq_zero_of_no_sems (by decide) r.2⟩)
    (Cert.Reference6Ideal.Value.run (F := Ideal) m ρ)

section
open Cert.Kernel6Ideal Cert.Kernel6Ideal.Gen
variable (m : (ℓ : Loc nD τ sig) → Buf (Elt Ideal) ℓ) (c : Dev nD)

/-- The main result's array, after the host code behind the call. -/
def result : FVec Ideal S8192x10752 .bf16 := Pipeline.afterTail₀ cfgs (dats m) 0 (V0 m) [hostOps1] c main_v2

/-- It is the main output's first columns. -/
theorem result_eq (hs : S8192x11008.Slices ![0, 0] S8192x10752) : result m c
    = extractStridedSlice S8192x10752 ![0, 0] ((dats m 0 c).arrAt 6 cfg0.N : FVec Ideal S8192x11008 .bf16) hs := by
  unfold result Pipeline.afterTail₀
  simp only [List.flatten_cons, List.flatten_nil, List.append_nil]
  after_results
  exact congrArg (fun v : FVec Ideal S8192x11008 .bf16 => extractStridedSlice S8192x10752 ![0, 0] v hs)
    (Pipeline.withArrays_arr spec0 (show Function.Injective (Pipeline.arrRef spec0) by decide) c (V0 m c) (fun w => (dats m 0 c).arrAt w cfg0.N) 6)

theorem slice_apply (hs : S8192x11008.Slices ![0, 0] S8192x10752) (v : FVec Ideal S8192x11008 .bf16) (R : Fin 8192) (C : Fin 10752) :
    (extractStridedSlice S8192x10752 ![0, 0] v hs (ix2 R C) : EReal) = v (ix2 R ⟨C.val, by omega⟩) := by
  pointwise
end

theorem algebraic : Cert.algebraic_Kernel6Ideal_Reference6Ideal := by
  intro m ρ m' ρ' hpre hargs
  refine ⟨result m,
    fun c => (dats m 0 c).arrAt 7 Cert.Kernel6Ideal.cfg0.N, fun c => (dats m 0 c).arrAt 8 Cert.Kernel6Ideal.cfg0.N,
    fun c => (dats m 0 c).arrAt 9 Cert.Kernel6Ideal.cfg0.N, ?_, ?_⟩
  · exact (θ_run Cert.Kernel6Ideal.defs _ _).mono (fun r h c => ⟨(h.1.1 c).2 Cert.Kernel6Ideal.main_v2 (Pipeline.mem_restRefs_of Cert.Kernel6Ideal.main_v2 (by decide) (by decide)),
      (h.1.1 c).1 7, (h.1.1 c).1 8, (h.1.1 c).1 9, h.2.1 c⟩) (θ_run_and (run_main m ρ) (frame_run m ρ))
  refine (θ_run Cert.Reference6Ideal.defs _ _).mono (fun r h c => ⟨(h c).1.trans ?_, (h c).2.1.trans ?_, (h c).2.2.1.trans ?_, (h c).2.2.2.1.trans ?_, (h c).2.2.2.2⟩) (Cert.Reference6Ideal.Value.run (F := Ideal) m' ρ')
  · rw [(hargs c).1, (hargs c).2.1, (hargs c).2.2.1, result_eq m c (by decide)]
    funext y
    obtain ⟨R, C, rfl⟩ : ∃ (R : Fin 8192) (C : Fin 10752), y = ix2 R C := ⟨y 0, y 1, eq_ix2 (n0 := 8192) (n1 := 10752) y⟩
    refine (silu_apply _ _ _ _ _).trans ?_
    refine (congrArg₂ gated (dot_apply _ _ _ R C) (dot_apply _ _ _ R C)).trans ?_
    exact ((slice_apply (by decide) _ R C).trans (arr6_eq m c R ⟨C.val, by omega⟩ C.isLt)).symm
  · rw [(hargs c).2.2.2.2.1]
    exact (arr7_eq m c _ _).symm
  · rw [(hargs c).2.2.2.2.2]
    exact (arr8_eq m c _).symm
  · rw [(hargs c).2.2.2.1]
    exact (arr9_eq m c _ _).symm

end Cert.GateUp1
-- ==== Proof.lean ====
/-
  THE CERTIFICATE: the frames, and the kernels' results equal to the references'.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Attn.Claims
public import proofs.«01_k».proof.Proof.Down.Claims
public import proofs.«01_k».proof.Proof.GateUp.Claims
public import proofs.«01_k».proof.Proof.Res.Claims
public import proofs.«01_k».proof.Proof.Out.Claims
public import proofs.«01_k».proof.Proof.GateUp1.Claims

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, Cert.Attn.facts_finite,
    Cert.Attn.frame_kernel, Cert.Attn.frame_kernelIdeal, fun m ρ _ => Cert.Attn.frame_kernelIdeal m ρ trivial,
    Cert.Attn.frame_referenceIdeal, fun m ρ _ => Cert.Attn.frame_referenceIdeal m ρ trivial,
    Cert.Down.frame_kernel, Cert.Down.frame_kernelIdeal, Cert.Down.frame_referenceIdeal,
    Cert.GateUp.frame_kernel, Cert.GateUp.frame_kernelIdeal, Cert.GateUp.frame_referenceIdeal,
    Cert.Res.frame_kernel, Cert.Res.frame_kernelIdeal, Cert.Res.frame_referenceIdeal,
    Cert.Out.frame_kernel, Cert.Out.frame_kernelIdeal, Cert.Out.frame_referenceIdeal,
    Cert.GateUp1.frame_kernel, Cert.GateUp1.frame_kernelIdeal, Cert.GateUp1.frame_referenceIdeal,
    trivial, Cert.Attn.algebraic, trivial, Cert.Down.algebraic, trivial, Cert.GateUp.algebraic,
    trivial, Cert.Res.algebraic, trivial, Cert.Out.algebraic, trivial, Cert.GateUp1.algebraic⟩

end Cert.Proof

end
